-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tables [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v48_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v213) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v37) = v0 c
          ∧ r.2.mem ((c.tc : Thread Cert.FfnReferenceIdeal.nD Cert.FfnReferenceIdeal.τ).loc Cert.FfnReferenceIdeal.main_v38) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v31) = v0 c
          ∧ r.2.mem ((c.tc : Thread Cert.OutProjReferenceIdeal.nD Cert.OutProjReferenceIdeal.τ).loc Cert.OutProjReferenceIdeal.main_v32) = v1 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v13) = v0 c
          ∧ r.2.mem ((c.tc : Thread Cert.PleReferenceIdeal.nD Cert.PleReferenceIdeal.τ).loc Cert.PleReferenceIdeal.main_v14) = v1 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v24_0)) (v1 : (c : Dev Cert.KvProjIdeal.nD) → Buf (Elt Ideal) ((c.tc : Thread Cert.KvProjIdeal.nD Cert.KvProjIdeal.τ).loc Cert.KvProjIdeal.main_v24_1)) (v2 : (c : Dev Cert.KvProjIdeal.nD) → Buf (Elt Ideal) ((c.tc : Thread Cert.KvProjIdeal.nD Cert.KvProjIdeal.τ).loc Cert.KvProjIdeal.main_v24_2)) (v3 : (c : Dev Cert.KvProjIdeal.nD) → Buf (Elt Ideal) ((c.tc : Thread Cert.KvProjIdeal.nD Cert.KvProjIdeal.τ).loc Cert.KvProjIdeal.main_v24_3)) (v4 : (c : Dev Cert.KvProjIdeal.nD) → Buf (Elt Ideal) ((c.tc : Thread Cert.KvProjIdeal.nD Cert.KvProjIdeal.τ).loc Cert.KvProjIdeal.main_v24_4)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v24_0) = v0 c
          ∧ r.2.mem ((c.tc : Thread Cert.KvProjIdeal.nD Cert.KvProjIdeal.τ).loc Cert.KvProjIdeal.main_v24_1) = v1 c
          ∧ r.2.mem ((c.tc : Thread Cert.KvProjIdeal.nD Cert.KvProjIdeal.τ).loc Cert.KvProjIdeal.main_v24_2) = v2 c
          ∧ r.2.mem ((c.tc : Thread Cert.KvProjIdeal.nD Cert.KvProjIdeal.τ).loc Cert.KvProjIdeal.main_v24_3) = v3 c
          ∧ r.2.mem ((c.tc : Thread Cert.KvProjIdeal.nD Cert.KvProjIdeal.τ).loc Cert.KvProjIdeal.main_v24_4) = v4 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v109) = v0 c
          ∧ r.2.mem ((c.tc : Thread Cert.KvProjReferenceIdeal.nD Cert.KvProjReferenceIdeal.τ).loc Cert.KvProjReferenceIdeal.main_v108) = v1 c
          ∧ r.2.mem ((c.tc : Thread Cert.KvProjReferenceIdeal.nD Cert.KvProjReferenceIdeal.τ).loc Cert.KvProjReferenceIdeal.main_v111) = v2 c
          ∧ r.2.mem ((c.tc : Thread Cert.KvProjReferenceIdeal.nD Cert.KvProjReferenceIdeal.τ).loc Cert.KvProjReferenceIdeal.main_v113) = v3 c
          ∧ r.2.mem ((c.tc : Thread Cert.KvProjReferenceIdeal.nD Cert.KvProjReferenceIdeal.τ).loc Cert.KvProjReferenceIdeal.main_v115) = v4 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hFfn : Cert.Ffn.Facts) (hFfnIdeal : Cert.FfnIdeal.Facts) (hFfnReferenceIdeal : Cert.FfnReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hPle : Cert.Ple.Facts) (hPleIdeal : Cert.PleIdeal.Facts) (hPleReferenceIdeal : Cert.PleReferenceIdeal.Facts) (hKvProj : Cert.KvProj.Facts) (hKvProjIdeal : Cert.KvProjIdeal.Facts) (hKvProjReferenceIdeal : Cert.KvProjReferenceIdeal.Facts) (hPre_decays : Cert.Pre_decays.Facts) (hPre_tables : Cert.Pre_tables.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal)
    ∧ quiescent_ExpertsReferenceIdeal_pre_tables (hExpertsReferenceIdeal := hExpertsReferenceIdeal) (hPre_tables := hPre_tables)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Ple (hPle := hPle)
    ∧ quiescent_PleIdeal (hPleIdeal := hPleIdeal)
    ∧ quiescent_PleReferenceIdeal (hPleReferenceIdeal := hPleReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ preserves_Kernel_KernelIdeal
    ∧ algebraic_KernelIdeal_ReferenceIdeal_pre_decays (hKernelIdeal := hKernelIdeal) (hReferenceIdeal := hReferenceIdeal) (hPre_decays := hPre_decays)
    ∧ preserves_Experts_ExpertsIdeal
    ∧ algebraic_ExpertsIdeal_ExpertsReferenceIdeal (hExpertsIdeal := hExpertsIdeal) (hExpertsReferenceIdeal := hExpertsReferenceIdeal) (hPre_tables := hPre_tables)
    ∧ preserves_Ffn_FfnIdeal
    ∧ algebraic_FfnIdeal_FfnReferenceIdeal (hFfnIdeal := hFfnIdeal) (hFfnReferenceIdeal := hFfnReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
    ∧ preserves_Ple_PleIdeal
    ∧ algebraic_PleIdeal_PleReferenceIdeal (hPleIdeal := hPleIdeal) (hPleReferenceIdeal := hPleReferenceIdeal)
    ∧ preserves_KvProj_KvProjIdeal
    ∧ algebraic_KvProjIdeal_KvProjReferenceIdeal (hKvProjIdeal := hKvProjIdeal) (hKvProjReferenceIdeal := hKvProjReferenceIdeal)
-- ==== Pre_decays.lean ====
abbrev S32768x3072 : Shape := ⟨2, ![32768, 3072]⟩
abbrev S32768x512 : Shape := ⟨2, ![32768, 512]⟩
abbrev S1x256 : Shape := ⟨2, ![1, 256]⟩
abbrev S16x4x128x256 : Shape := ⟨4, ![16, 4, 128, 256]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x3072 .f32) (main_arg1 : FVec F S32768x512 .f32) (main_arg2 : FVec F S1x256 .f32) (main_arg3 : FVec F S16x4x128x256 .f32) : IVec S_ 1 :=
  let main_cst : FVec F S_ .f32 := constant S_ .f32 0x7F800000#32
  let main_v0 : FVec F S32768x512 .f32 := broadcastInDim S32768x512 ![] bcast_S_S32768x512 main_cst
  let main_v1 : IVec S32768x512 1 := cmpf .olt main_arg1 main_v0
  let main_c : IVec S_ 1 := constantI S_ 1 1#1
  let main_v2 : IVec S_ 1 := (fun x v => Host.reduce IntOp.andi x v reducesTo_S32768x512_S_d0_1 h_S_) main_v1 main_c
  main_v2
-- ==== Pre_tables.lean ====
abbrev S168x8 : Shape := ⟨2, ![168, 8]⟩
abbrev S168 : Shape := ⟨1, ![168]⟩
abbrev S1 : Shape := ⟨1, ![1]⟩
abbrev S81920x1024 : Shape := ⟨2, ![81920, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S168x8 : S_.BroadcastsInDim S168x8 (![] : Fin 0 → Fin S168x8.rank)
  reducesTo_S168x8_S_d0_1 : S168x8.ReducesTo [0, 1] S_
  h_S_ : 0 < S_.numel
  bcast_S_S168 : S_.BroadcastsInDim S168 (![] : Fin 0 → Fin S168.rank)
  reducesTo_S168_S_d0 : S168.ReducesTo [0] S_

variable [Facts]

def fn {F : FTy → Type} [FloatOps F] (main_arg0 : IVec S168x8 32) (main_arg1 : IVec S168 32) (main_arg2 : IVec S1 32) (main_arg3 : FVec F S81920x1024 .bf16) (main_arg4 : FVec F S8x1024x3584 .bf16) (main_arg5 : FVec F S8x1024x3584 .bf16) (main_arg6 : FVec F S8x3584x1024 .bf16) : IVec S_ 1 :=
  let main_c : IVec S_ 32 := constantI S_ 32 0#32
  let main_v0 : IVec S168x8 32 := broadcastInDim S168x8 ![] bcast_S_S168x8 main_c
  let main_v1 : IVec S168x8 1 := cmpi .sge main_arg0 main_v0
  let main_c_0 : IVec S_ 1 := constantI S_ 1 1#1
  let main_v2 : IVec S_ 1 := (fun x v => Host.reduce IntOp.andi x v reducesTo_S168x8_S_d0_1 h_S_) main_v1 main_c_0
  let main_c_1 : IVec S_ 32 := constantI S_ 32 1280#32
  let main_v3 : IVec S168x8 32 := broadcastInDim S168x8 ![] bcast_S_S168x8 main_c_1
  let main_v4 : IVec S168x8 1 := cmpi .slt main_arg0 main_v3
  let main_c_2 : IVec S_ 1 := constantI S_ 1 1#1
  let main_v5 : IVec S_ 1 := (fun x v => Host.reduce IntOp.andi x v reducesTo_S168x8_S_d0_1 h_S_) main_v4 main_c_2
  let main_v6 : IVec S_ 1 := andi main_v2 main_v5
  let main_c_3 : IVec S_ 32 := constantI S_ 32 0#32
  let main_v7 : IVec S168 32 := broadcastInDim S168 ![] bcast_S_S168 main_c_3
  let main_v8 : IVec S168 1 := cmpi .sge main_arg1 main_v7
  let main_c_4 : IVec S_ 1 := constantI S_ 1 1#1
  let main_v9 : IVec S_ 1 := (fun x v => Host.reduce IntOp.andi x v reducesTo_S168_S_d0 h_S_) main_v8 main_c_4
  let main_v10 : IVec S_ 1 := andi main_v6 main_v9
  let main_c_5 : IVec S_ 32 := constantI S_ 32 8#32
  let main_v11 : IVec S168 32 := broadcastInDim S168 ![] bcast_S_S168 main_c_5
  let main_v12 : IVec S168 1 := cmpi .slt main_arg1 main_v11
  let main_c_6 : IVec S_ 1 := constantI S_ 1 1#1
  let main_v13 : IVec S_ 1 := (fun x v => Host.reduce IntOp.andi x v reducesTo_S168_S_d0 h_S_) main_v12 main_c_6
  let main_v14 : IVec S_ 1 := andi main_v10 main_v13
  main_v14
-- ==== Kernel.lean ====
abbrev S32768x3072 : Shape := ⟨2, ![32768, 3072]⟩
abbrev S32768x512 : Shape := ⟨2, ![32768, 512]⟩
abbrev S1x256 : Shape := ⟨2, ![1, 256]⟩
abbrev S16x4x128x256 : Shape := ⟨4, ![16, 4, 128, 256]⟩
abbrev S32768x1024 : Shape := ⟨2, ![32768, 1024]⟩
abbrev S256x512 : Shape := ⟨2, ![256, 512]⟩
abbrev S256x1024 : Shape := ⟨2, ![256, 1024]⟩
abbrev S1x4x128x256 : Shape := ⟨4, ![1, 4, 128, 256]⟩
abbrev S4x128x256 : Shape := ⟨3, ![4, 128, 256]⟩
abbrev S64x64 : Shape := ⟨2, ![64, 64]⟩
abbrev S64x128 : Shape := ⟨2, ![64, 128]⟩
abbrev S256x256 : Shape := ⟨2, ![256, 256]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S1x128 : Shape := ⟨2, ![1, 128]⟩
abbrev S64x256 : Shape := ⟨2, ![64, 256]⟩
abbrev S128x1 : Shape := ⟨2, ![128, 1]⟩
abbrev S64 : Shape := ⟨1, ![64]⟩
abbrev S64x1 : Shape := ⟨2, ![64, 1]⟩

abbrev nBuf : Space → Nat
  | .hbm => 6
  | .vmem => 18
  | .smem => 0
  | _ => 0

abbrev bufTy : (tb : Table) → Fin (tcTables nBuf tb) → BufTy
  | .hbm, ⟨0, _⟩ => ⟨S32768x3072, .f32⟩
  | .hbm, ⟨1, _⟩ => ⟨S32768x512, .f32⟩
  | .hbm, ⟨2, _⟩ => ⟨S1x256, .f32⟩
  | .hbm, ⟨3, _⟩ => ⟨S16x4x128x256, .f32⟩
  | .hbm, ⟨4, _⟩ => ⟨S32768x1024, .bf16⟩
  | .hbm, ⟨5, _⟩ => ⟨S16x4x128x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S256x1024, .bf16⟩
  | .local _ .vmem, ⟨14, _⟩ => ⟨S256x1024, .bf16⟩
  | .local _ .vmem, ⟨15, _⟩ => ⟨S1x4x128x256, .f32⟩
  | .local _ .vmem, ⟨16, _⟩ => ⟨S1x4x128x256, .f32⟩
  | .local _ .vmem, ⟨17, _⟩ => ⟨S4x128x256, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v1301 : BitVec 1 := Scalar.cmpi .eq arg1 c7_i32
  let v1302 : BitVec 32 := Scalar.extui v1301
  let c0_i32_498 : BitVec 32 := 0#32
  let v1303 : BitVec 1 := Scalar.cmpi .ne v1302 c0_i32_498
  v1303

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32768x3072 : Shape := ⟨2, ![32768, 3072]⟩
abbrev S32768x512 : Shape := ⟨2, ![32768, 512]⟩
abbrev S1x256 : Shape := ⟨2, ![1, 256]⟩
abbrev S16x4x128x256 : Shape := ⟨4, ![16, 4, 128, 256]⟩
abbrev S16x2048x3072 : Shape := ⟨3, ![16, 2048, 3072]⟩
abbrev S16x2048x512 : Shape := ⟨3, ![16, 2048, 512]⟩
abbrev S16x2048x1024 : Shape := ⟨3, ![16, 2048, 1024]⟩
abbrev S16x2048x4x128 : Shape := ⟨4, ![16, 2048, 4, 128]⟩
abbrev S_ : Shape := ⟨0, ![]⟩
abbrev S16x2048x4x256 : Shape := ⟨4, ![16, 2048, 4, 256]⟩
abbrev S16x32x64x4x128 : Shape := ⟨5, ![16, 32, 64, 4, 128]⟩
abbrev S16x32x64x4x256 : Shape := ⟨5, ![16, 32, 64, 4, 256]⟩
abbrev S16x32x1x4x128 : Shape := ⟨5, ![16, 32, 1, 4, 128]⟩
abbrev S16x32x4x128 : Shape := ⟨4, ![16, 32, 4, 128]⟩
abbrev S16x32x4x64x64 : Shape := ⟨5, ![16, 32, 4, 64, 64]⟩
abbrev S64x64 : Shape := ⟨2, ![64, 64]⟩
abbrev S16x32x4x256x64 : Shape := ⟨5, ![16, 32, 4, 256, 64]⟩
abbrev S32x16x64x4x128 : Shape := ⟨5, ![32, 16, 64, 4, 128]⟩
abbrev S32x16x64x4x256 : Shape := ⟨5, ![32, 16, 64, 4, 256]⟩
abbrev S32x16x4x128 : Shape := ⟨4, ![32, 16, 4, 128]⟩
abbrev S1x16x64x4x128 : Shape := ⟨5, ![1, 16, 64, 4, 128]⟩
abbrev S16x64x4x128 : Shape := ⟨4, ![16, 64, 4, 128]⟩
abbrev S1x16x64x4x256 : Shape := ⟨5, ![1, 16, 64, 4, 256]⟩
abbrev S16x64x4x256 : Shape := ⟨4, ![16, 64, 4, 256]⟩
abbrev S1x16x4x128 : Shape := ⟨4, ![1, 16, 4, 128]⟩
abbrev S16x4x128 : Shape := ⟨3, ![16, 4, 128]⟩
abbrev S16x4x256x64 : Shape := ⟨4, ![16, 4, 256, 64]⟩
abbrev S16x4x128x1 : Shape := ⟨4, ![16, 4, 128, 1]⟩
abbrev S16x2048x4 : Shape := ⟨3, ![16, 2048, 4]⟩
abbrev S16x2048x4x1 : Shape := ⟨4, ![16, 2048, 4, 1]⟩
abbrev S256 : Shape := ⟨1, ![256]⟩
abbrev S1x1x1x256 : Shape := ⟨4, ![1, 1, 1, 256]⟩
abbrev S32768x1024 : Shape := ⟨2, ![32768, 1024]⟩

abbrev nBuf : Space → Nat
  | .hbm => 158
  | .vmem => 0
  | .smem => 0
  | _ => 0

abbrev hbmTy0_0 (i : Nat) : BufTy := match i % 128 with
  | 0 => ⟨S32768x3072, .f32⟩
  | 1 => ⟨S32768x512, .f32⟩
  | 2 => ⟨S1x256, .f32⟩
  | 3 => ⟨S16x4x128x256, .f32⟩
  | 4 => ⟨S16x2048x3072, .f32⟩
  | 5 => ⟨S16x2048x512, .f32⟩
  | 6 => ⟨S16x2048x512, .f32⟩
  | 7 => ⟨S16x2048x1024, .f32⟩
  | 8 => ⟨S16x2048x4x128, .f32⟩
  | 9 => ⟨S_, .f32⟩
  | 10 => ⟨S16x2048x4x128, .f32⟩
  | 11 => ⟨S16x2048x4x128, .f32⟩
  | 12 => ⟨S16x2048x4x128, .f32⟩
  | 13 => ⟨S16x2048x4x256, .f32⟩
  | 14 => ⟨S16x2048x4x128, .f32⟩
  | 15 => ⟨S16x32x64x4x128, .f32⟩
  | 16 => ⟨S16x32x64x4x128, .f32⟩
  | 17 => ⟨S16x32x64x4x256, .f32⟩
  | 18 => ⟨S16x32x64x4x128, .f32⟩
  | 19 => ⟨S_, .f32⟩
  | 20 => ⟨S_, .f32⟩
  | 21 => ⟨S16x32x64x4x128, .f32⟩
  | 22 => ⟨S16x32x1x4x128, .f32⟩
  | 23 => ⟨S16x32x4x128, .f32⟩
  | 24 => ⟨S16x32x1x4x128, .f32⟩
  | 25 => ⟨S16x32x1x4x128, .f32⟩
  | 26 => ⟨S16x32x4x128, .f32⟩
  | 27 => ⟨S16x32x64x4x128, .f32⟩
  | 28 => ⟨S16x32x64x4x128, .f32⟩
  | 29 => ⟨S16x32x64x4x128, .f32⟩
  | 30 => ⟨S16x32x64x4x128, .f32⟩
  | 31 => ⟨S16x32x64x4x128, .f32⟩
  | 32 => ⟨S16x32x64x4x128, .f32⟩
  | 33 => ⟨S16x32x64x4x128, .f32⟩
  | 34 => ⟨S16x32x64x4x128, .f32⟩
  | 35 => ⟨S16x32x4x64x64, .f32⟩
  | 36 => ⟨S_, .i1⟩
  | 37 => ⟨S64x64, .i1⟩
  | 38 => ⟨S64x64, .i32⟩
  | 39 => ⟨S_, .i32⟩
  | 40 => ⟨S64x64, .i32⟩
  | 41 => ⟨S64x64, .i32⟩
  | 42 => ⟨S64x64, .i32⟩
  | 43 => ⟨S64x64, .i1⟩
  | 44 => ⟨S_, .i1⟩
  | 45 => ⟨S64x64, .i1⟩
  | 46 => ⟨S64x64, .i1⟩
  | 47 => ⟨S_, .f32⟩
  | 48 => ⟨S_, .f32⟩
  | 49 => ⟨S16x32x4x64x64, .i1⟩
  | 50 => ⟨S16x32x4x64x64, .f32⟩
  | 51 => ⟨S16x32x4x64x64, .f32⟩
  | 52 => ⟨S16x32x4x256x64, .f32⟩
  | 53 => ⟨S16x32x64x4x256, .f32⟩
  | 54 => ⟨S16x32x64x4x128, .f32⟩
  | 55 => ⟨S16x32x64x4x128, .f32⟩
  | 56 => ⟨S16x32x1x4x128, .f32⟩
  | 57 => ⟨S16x32x64x4x128, .f32⟩
  | 58 => ⟨S16x32x64x4x128, .f32⟩
  | 59 => ⟨S16x32x64x4x128, .f32⟩
  | 60 => ⟨S16x32x64x4x128, .f32⟩
  | 61 => ⟨S16x32x4x128, .f32⟩
  | 62 => ⟨S32x16x64x4x128, .f32⟩
  | 63 => ⟨S32x16x64x4x128, .f32⟩
  | 64 => ⟨S32x16x64x4x256, .f32⟩
  | 65 => ⟨S32x16x4x128, .f32⟩
  | 66 => ⟨S32x16x64x4x256, .f32⟩
  | 67 => ⟨S_, .f32⟩
  | 68 => ⟨S32x16x64x4x256, .f32⟩
  | 69 => ⟨S_, .i32⟩
  | 70 => ⟨S32x16x64x4x128, .f32⟩
  | 71 => ⟨S32x16x64x4x128, .f32⟩
  | 72 => ⟨S32x16x64x4x256, .f32⟩
  | 73 => ⟨S32x16x4x128, .f32⟩
  | 74 => ⟨S32x16x64x4x256, .f32⟩
  | 75 => ⟨S_, .i32⟩
  | 76 => ⟨S16x4x128x256, .f32⟩
  | 77 => ⟨S32x16x64x4x256, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x16x64x4x128, .f32⟩
  | 85 => ⟨S16x64x4x128, .f32⟩
  | 86 => ⟨S_, .i32⟩
  | 87 => ⟨S_, .i32⟩
  | 88 => ⟨S_, .i32⟩
  | 89 => ⟨S_, .i32⟩
  | 90 => ⟨S1x16x64x4x128, .f32⟩
  | 91 => ⟨S16x64x4x128, .f32⟩
  | 92 => ⟨S_, .i32⟩
  | 93 => ⟨S_, .i32⟩
  | 94 => ⟨S_, .i32⟩
  | 95 => ⟨S_, .i32⟩
  | 96 => ⟨S1x16x64x4x256, .f32⟩
  | 97 => ⟨S16x64x4x256, .f32⟩
  | 98 => ⟨S_, .i32⟩
  | 99 => ⟨S_, .i32⟩
  | 100 => ⟨S_, .i32⟩
  | 101 => ⟨S1x16x4x128, .f32⟩
  | 102 => ⟨S16x4x128, .f32⟩
  | 103 => ⟨S_, .i32⟩
  | 104 => ⟨S_, .i32⟩
  | 105 => ⟨S_, .i32⟩
  | 106 => ⟨S_, .i32⟩
  | 107 => ⟨S1x16x64x4x256, .f32⟩
  | 108 => ⟨S16x64x4x256, .f32⟩
  | 109 => ⟨S16x4x256x64, .f32⟩
  | 110 => ⟨S16x64x4x256, .f32⟩
  | 111 => ⟨S16x64x4x256, .f32⟩
  | 112 => ⟨S16x4x128x1, .f32⟩
  | 113 => ⟨S16x4x128x256, .f32⟩
  | 114 => ⟨S16x4x128x256, .f32⟩
  | 115 => ⟨S16x4x128x256, .f32⟩
  | 116 => ⟨S16x4x128x256, .f32⟩
  | 117 => ⟨S1x16x64x4x256, .f32⟩
  | 118 => ⟨S_, .i32⟩
  | 119 => ⟨S_, .i32⟩
  | 120 => ⟨S_, .i32⟩
  | 121 => ⟨S_, .i32⟩
  | 122 => ⟨S32x16x64x4x256, .f32⟩
  | 123 => ⟨S_, .i32⟩
  | 124 => ⟨S_, .i32⟩
  | 125 => ⟨S16x32x64x4x256, .f32⟩
  | 126 => ⟨S16x2048x4x256, .f32⟩
  | 127 => ⟨S16x2048x4x256, .f32⟩
  | _ => ⟨S32768x3072, .f32⟩

abbrev hbmTy0_1 (i : Nat) : BufTy := match i % 128 with
  | 0 => ⟨S_, .f32⟩
  | 1 => ⟨S16x2048x4, .f32⟩
  | 2 => ⟨S16x2048x4x1, .f32⟩
  | 3 => ⟨S_, .f32⟩
  | 4 => ⟨S16x2048x4x1, .f32⟩
  | 5 => ⟨S16x2048x4x1, .f32⟩
  | 6 => ⟨S_, .f32⟩
  | 7 => ⟨S16x2048x4x1, .f32⟩
  | 8 => ⟨S16x2048x4x1, .f32⟩
  | 9 => ⟨S16x2048x4x1, .f32⟩
  | 10 => ⟨S16x2048x4x256, .f32⟩
  | 11 => ⟨S16x2048x4x256, .f32⟩
  | 12 => ⟨S256, .f32⟩
  | 13 => ⟨S1x1x1x256, .f32⟩
  | 14 => ⟨S16x2048x4x256, .f32⟩
  | 15 => ⟨S16x2048x4x256, .f32⟩
  | 16 => ⟨S32768x1024, .f32⟩
  | 17 => ⟨S16x2048x4x256, .f32⟩
  | 18 => ⟨S16x2048x4x256, .f32⟩
  | 19 => ⟨S16x2048x4x256, .f32⟩
  | 20 => ⟨S_, .f32⟩
  | 21 => ⟨S16x2048x4x256, .f32⟩
  | 22 => ⟨S16x2048x4x256, .f32⟩
  | 23 => ⟨S_, .f32⟩
  | 24 => ⟨S16x2048x4x256, .f32⟩
  | 25 => ⟨S16x2048x4x256, .f32⟩
  | 26 => ⟨S16x2048x4x256, .f32⟩
  | 27 => ⟨S16x2048x4x256, .f32⟩
  | 28 => ⟨S32768x1024, .f32⟩
  | 29 => ⟨S32768x1024, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v30 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_1 : Ref sig .tc := ⟨.hbm, 67, rfl⟩
abbrev main_v47 : Ref sig .tc := ⟨.hbm, 68, rfl⟩
abbrev main_c_2 : Ref sig .tc := ⟨.hbm, 69, rfl⟩
abbrev main_v48_0 : Ref sig .tc := ⟨.hbm, 70, rfl⟩
abbrev main_v48_1 : Ref sig .tc := ⟨.hbm, 71, rfl⟩
abbrev main_v48_2 : Ref sig .tc := ⟨.hbm, 72, rfl⟩
abbrev main_v48_3 : Ref sig .tc := ⟨.hbm, 73, rfl⟩
abbrev main_v48_4 : Ref sig .tc := ⟨.hbm, 74, rfl⟩
abbrev main_v48_5 : Ref sig .tc := ⟨.hbm, 75, rfl⟩
abbrev main_v48_6 : Ref sig .tc := ⟨.hbm, 76, rfl⟩
abbrev main_v48_7 : Ref sig .tc := ⟨.hbm, 77, rfl⟩
abbrev main_while0c_c_13 : Ref sig .tc := ⟨.hbm, 78, rfl⟩
abbrev main_while0c_v71 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v71 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v0 : Ref sig .tc := ⟨.hbm, 90, rfl⟩
abbrev main_while0b_v72 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_c_2 : Ref sig .tc := ⟨.hbm, 95, rfl⟩
abbrev main_while0b_call5_v0 : Ref sig .tc := ⟨.hbm, 96, rfl⟩
abbrev main_while0b_v73 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_call6_v0 : Ref sig .tc := ⟨.hbm, 101, rfl⟩
abbrev main_while0b_v74 : Ref sig .tc := ⟨.hbm, 102, rfl⟩
abbrev main_while0b_call7_c : Ref sig .tc := ⟨.hbm, 103, rfl⟩
abbrev main_while0b_call7_c_0 : Ref sig .tc := ⟨.hbm, 104, rfl⟩
abbrev main_while0b_call7_c_1 : Ref sig .tc := ⟨.hbm, 105, rfl⟩
abbrev main_while0b_call7_c_2 : Ref sig .tc := ⟨.hbm, 106, rfl⟩
abbrev main_while0b_call7_v0 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_call8_v0 : Ref sig .tc := ⟨.hbm, 117, rfl⟩
abbrev main_while0b_call8_c : Ref sig .tc := ⟨.hbm, 118, rfl⟩
abbrev main_while0b_call8_c_0 : Ref sig .tc := ⟨.hbm, 119, rfl⟩
abbrev main_while0b_call8_c_1 : Ref sig .tc := ⟨.hbm, 120, rfl⟩
abbrev main_while0b_call8_c_2 : Ref sig .tc := ⟨.hbm, 121, rfl⟩
abbrev main_while0b_v84 : Ref sig .tc := ⟨.hbm, 122, rfl⟩
abbrev main_while0b_c_13 : Ref sig .tc := ⟨.hbm, 123, rfl⟩
abbrev main_while0b_v85 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_cst_3 : Ref sig .tc := ⟨.hbm, 128, rfl⟩
abbrev main_v52 : Ref sig .tc := ⟨.hbm, 129, rfl⟩
abbrev main_v53 : Ref sig .tc := ⟨.hbm, 130, rfl⟩
abbrev main_cst_4 : Ref sig .tc := ⟨.hbm, 131, rfl⟩
abbrev main_v54 : Ref sig .tc := ⟨.hbm, 132, rfl⟩
abbrev main_v55 : Ref sig .tc := ⟨.hbm, 133, rfl⟩
abbrev main_cst_5 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_call9_v0 : Ref sig .tc := ⟨.hbm, 146, rfl⟩
abbrev main_call9_v1 : Ref sig .tc := ⟨.hbm, 147, rfl⟩
abbrev main_call9_cst : Ref sig .tc := ⟨.hbm, 148, rfl⟩
abbrev main_call9_v2 : Ref sig .tc := ⟨.hbm, 149, rfl⟩
abbrev main_call9_v3 : Ref sig .tc := ⟨.hbm, 150, rfl⟩
abbrev main_call9_cst_0 : Ref sig .tc := ⟨.hbm, 151, rfl⟩
abbrev main_call9_v4 : Ref sig .tc := ⟨.hbm, 152, rfl⟩
abbrev main_call9_v5 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩

abbrev nD : Nat := 1
abbrev τ : Topo := Topo.v7x

variable {F : FTy → Type} [FloatOps F]

abbrev main_while0_count : Scf.Loop 32 := ⟨0#32, 32#32, 1#32⟩
-- ==== Experts.lean ====
abbrev S168x8 : Shape := ⟨2, ![168, 8]⟩
abbrev S168 : Shape := ⟨1, ![168]⟩
abbrev S1 : Shape := ⟨1, ![1]⟩
abbrev S81920x1024 : Shape := ⟨2, ![81920, 1024]⟩
abbrev S8x1024x3584 : Shape := ⟨3, ![8, 1024, 3584]⟩
abbrev S8x3584x1024 : Shape := ⟨3, ![8, 3584, 1024]⟩
abbrev S86016x1024 : Shape := ⟨2, ![86016, 1024]⟩
abbrev S64x1024 : Shape := ⟨2, ![64, 1024]⟩
abbrev S1x1 : Shape := ⟨2, ![1, 1]⟩
abbrev S1x1024x1792 : Shape := ⟨3, ![1, 1024, 1792]⟩
abbrev S1x1792x1024 : Shape := ⟨3, ![1, 1792, 1024]⟩
abbrev S512x1024 : Shape := ⟨2, ![512, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 26
  | .smem => 3
  | _ => 0

abbrev bufTy : (tb : Table) → Fin (tcTables nBuf tb) → BufTy
  | .hbm, ⟨0, _⟩ => ⟨S81920x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S86016x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S1x1024x1792, .bf16⟩
  | .local _ .vmem, ⟨17, _⟩ => ⟨S1x1024x1792, .bf16⟩
  | .local _ .vmem, ⟨18, _⟩ => ⟨S1x1024x1792, .bf16⟩
  | .local _ .vmem, ⟨19, _⟩ => ⟨S1x1024x1792, .bf16⟩
  | .local _ .vmem, ⟨20, _⟩ => ⟨S1x1792x1024, .bf16⟩
  | .local _ .vmem, ⟨21, _⟩ => ⟨S1x1792x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .smem, ⟨0, _⟩ => ⟨S168x8, .i32⟩
  | .local _ .smem, ⟨1, _⟩ => ⟨S168, .i32⟩
  | .local _ .smem, ⟨2, _⟩ => ⟨S1, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![168, 2], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32 : BitVec 32 := 1#32
  let v32 : BitVec 1 := Scalar.cmpi .eq arg1 c1_i32
  let v33 : BitVec 32 := Scalar.extui v32
  let c0_i32_22 : BitVec 32 := 0#32
  let v34 : BitVec 1 := Scalar.cmpi .ne v33 c0_i32_22
  v34

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S168x8) ![v0.toNat, 0] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c1 : Index := 1#32
  let v1 : BitVec 32 := pf.at 0 (Rect.unit (s := S168x8) ![v0.toNat, 1] S1x1.size (k0_off2_inb i)) numel1_S1x1
  let c0_i32 : BitVec 32 := 0#32
  let c0_i32_0 : BitVec 32 := 0#32
  ![v1.toNat, c0_i32.toNat]

def cc0_transform_2 (k0_off3_inb : ∀ i : grid0.Coords, ∀ a, (k0_off3 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c2 : Index := 2#32
  let v1 : BitVec 32 := pf.at 0 (Rect.unit (s := S168x8) ![v0.toNat, 2] S1x1.size (k0_off3_inb i)) numel1_S1x1
  let c0_i32 : BitVec 32 := 0#32
  let c0_i32_0 : BitVec 32 := 0#32
  ![v1.toNat, c0_i32.toNat]

def cc0_transform_3 (k0_off4_inb : ∀ i : grid0.Coords, ∀ a, (k0_off4 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c3 : Index := 3#32
  let v1 : BitVec 32 := pf.at 0 (Rect.unit (s := S168x8) ![v0.toNat, 3] S1x1.size (k0_off4_inb i)) numel1_S1x1
  let c0_i32 : BitVec 32 := 0#32
  let c0_i32_0 : BitVec 32 := 0#32
  ![v1.toNat, c0_i32.toNat]

def cc0_transform_4 (k0_off5_inb : ∀ i : grid0.Coords, ∀ a, (k0_off5 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c4 : Index := 4#32
  let v1 : BitVec 32 := pf.at 0 (Rect.unit (s := S168x8) ![v0.toNat, 4] S1x1.size (k0_off5_inb i)) numel1_S1x1
  let c0_i32 : BitVec 32 := 0#32
  let c0_i32_0 : BitVec 32 := 0#32
  ![v1.toNat, c0_i32.toNat]

def cc0_transform_5 (k0_off6_inb : ∀ i : grid0.Coords, ∀ a, (k0_off6 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c5 : Index := 5#32
  let v1 : BitVec 32 := pf.at 0 (Rect.unit (s := S168x8) ![v0.toNat, 5] S1x1.size (k0_off6_inb i)) numel1_S1x1
  let c0_i32 : BitVec 32 := 0#32
  let c0_i32_0 : BitVec 32 := 0#32
  ![v1.toNat, c0_i32.toNat]

def cc0_transform_6 (k0_off7_inb : ∀ i : grid0.Coords, ∀ a, (k0_off7 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c6 : Index := 6#32
  let v1 : BitVec 32 := pf.at 0 (Rect.unit (s := S168x8) ![v0.toNat, 6] S1x1.size (k0_off7_inb i)) numel1_S1x1
  let c0_i32 : BitVec 32 := 0#32
  let c0_i32_0 : BitVec 32 := 0#32
  ![v1.toNat, c0_i32.toNat]

def cc0_transform_7 (k0_off8_inb : ∀ i : grid0.Coords, ∀ a, (k0_off8 i) a + S1x1.size a ≤ S168x8.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let c7 : Index := 7#32
  let v1 : BitVec 32 := pf.at 0 (Rect.unit (s := S168x8) ![v0.toNat, 7] S1x1.size (k0_off8_inb i)) numel1_S1x1
  let c0_i32 : BitVec 32 := 0#32
  let c0_i32_0 : BitVec 32 := 0#32
  ![v1.toNat, c0_i32.toNat]

def cc0_transform_8 (k0_off9_inb : ∀ i : grid0.Coords, ∀ a, (k0_off9 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S168) ![v0.toNat] S1.size (k0_off9_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_9 (k0_off9_inb : ∀ i : grid0.Coords, ∀ a, (k0_off9 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S168) ![v0.toNat] S1.size (k0_off9_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_10 (k0_off9_inb : ∀ i : grid0.Coords, ∀ a, (k0_off9 i) a + S1.size a ≤ S168.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S168) ![v0.toNat] S1.size (k0_off9_inb i)) numel1_S1
  let c0 : Index := 0#32
  let v2 : BitVec 32 := pf.at 2 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1792x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ExpertsReferenceIdeal.lean ====
abbrev S168x8 : Shape := ⟨2, ![168, 8]⟩
abbrev S168 : Shape := ⟨1, ![168]⟩
abbrev S1 : Shape := ⟨1, ![1]⟩
abbrev S81920x1024 : Shape := ⟨2, ![81920, 1024]⟩
abbrev S8x1024x3584 : Shape := ⟨3, ![8, 1024, 3584]⟩
abbrev S8x3584x1024 : Shape := ⟨3, ![8, 3584, 1024]⟩
abbrev S1280x64x1024 : Shape := ⟨3, ![1280, 64, 1024]⟩
abbrev S_ : Shape := ⟨0, ![]⟩
abbrev S168x8x1 : Shape := ⟨3, ![168, 8, 1]⟩
abbrev S168x8x64x1024 : Shape := ⟨4, ![168, 8, 64, 1024]⟩
abbrev S168x512x1024 : Shape := ⟨3, ![168, 512, 1024]⟩
abbrev S168x1x1 : Shape := ⟨3, ![168, 1, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S168x512x3584 : Shape := ⟨3, ![168, 512, 3584]⟩
abbrev S86016x1024 : Shape := ⟨2, ![86016, 1024]⟩

abbrev nBuf : Space → Nat
  | .hbm => 296
  | .vmem => 0
  | .smem => 0
  | _ => 0

abbrev hbmTy0_0 (i : Nat) : BufTy := match i % 128 with
  | 0 => ⟨S168x8, .i32⟩
  | 1 => ⟨S168, .i32⟩
  | 2 => ⟨S1, .i32⟩
  | 3 => ⟨S81920x1024, .bf16⟩
  | 4 => ⟨S8x1024x3584, .bf16⟩
  | 5 => ⟨S8x1024x3584, .bf16⟩
  | 6 => ⟨S8x3584x1024, .bf16⟩
  | 7 => ⟨S81920x1024, .f32⟩
  | 8 => ⟨S1280x64x1024, .f32⟩
  | 9 => ⟨S_, .i32⟩
  | 10 => ⟨S168x8, .i32⟩
  | 11 => ⟨S168x8, .i1⟩
  | 12 => ⟨S_, .i32⟩
  | 13 => ⟨S168x8, .i32⟩
  | 14 => ⟨S168x8, .i32⟩
  | 15 => ⟨S168x8, .i32⟩
  | 16 => ⟨S168x8x1, .i32⟩
  | 17 => ⟨S168x8x64x1024, .f32⟩
  | 18 => ⟨S168x512x1024, .f32⟩
  | 19 => ⟨S168, .i32⟩
  | 20 => ⟨S_, .f32⟩
  | 21 => ⟨S168x512x1024, .f32⟩
  | 22 => ⟨S_, .i32⟩
  | 23 => ⟨S168, .i32⟩
  | 24 => ⟨S168, .i1⟩
  | 25 => ⟨S_, .i32⟩
  | 26 => ⟨S168, .i32⟩
  | 27 => ⟨S168, .i1⟩
  | 28 => ⟨S168, .i1⟩
  | 29 => ⟨S168, .f32⟩
  | 30 => ⟨S168x1x1, .f32⟩
  | 31 => ⟨S1x1024x3584, .bf16⟩
  | 32 => ⟨S1024x3584, .bf16⟩
  | 33 => ⟨S1024x3584, .f32⟩
  | 34 => ⟨S1x1024x3584, .bf16⟩
  | 35 => ⟨S1024x3584, .bf16⟩
  | 36 => ⟨S1024x3584, .f32⟩
  | 37 => ⟨S1x3584x1024, .bf16⟩
  | 38 => ⟨S3584x1024, .bf16⟩
  | 39 => ⟨S3584x1024, .f32⟩
  | 40 => ⟨S168x512x3584, .f32⟩
  | 41 => ⟨S168x512x3584, .f32⟩
  | 42 => ⟨S168x512x3584, .f32⟩
  | 43 => ⟨S_, .f32⟩
  | 44 => ⟨S168x512x3584, .f32⟩
  | 45 => ⟨S168x512x3584, .f32⟩
  | 46 => ⟨S_, .f32⟩
  | 47 => ⟨S168x512x3584, .f32⟩
  | 48 => ⟨S168x512x3584, .f32⟩
  | 49 => ⟨S168x512x3584, .f32⟩
  | 50 => ⟨S168x512x3584, .f32⟩
  | 51 => ⟨S168x512x3584, .f32⟩
  | 52 => ⟨S168x512x1024, .f32⟩
  | 53 => ⟨S168x512x1024, .f32⟩
  | 54 => ⟨S168x512x1024, .f32⟩
  | 55 => ⟨S168x512x1024, .f32⟩
  | 56 => ⟨S_, .i32⟩
  | 57 => ⟨S168, .i32⟩
  | 58 => ⟨S168, .i1⟩
  | 59 => ⟨S_, .i32⟩
  | 60 => ⟨S168, .i32⟩
  | 61 => ⟨S168, .i1⟩
  | 62 => ⟨S168, .i1⟩
  | 63 => ⟨S168, .f32⟩
  | 64 => ⟨S168x1x1, .f32⟩
  | 65 => ⟨S1x1024x3584, .bf16⟩
  | 66 => ⟨S1024x3584, .bf16⟩
  | 67 => ⟨S1024x3584, .f32⟩
  | 68 => ⟨S1x1024x3584, .bf16⟩
  | 69 => ⟨S1024x3584, .bf16⟩
  | 70 => ⟨S1024x3584, .f32⟩
  | 71 => ⟨S1x3584x1024, .bf16⟩
  | 72 => ⟨S3584x1024, .bf16⟩
  | 73 => ⟨S3584x1024, .f32⟩
  | 74 => ⟨S168x512x3584, .f32⟩
  | 75 => ⟨S168x512x3584, .f32⟩
  | 76 => ⟨S168x512x3584, .f32⟩
  | 77 => ⟨S_, .f32⟩
  | 78 => ⟨S168x512x3584, .f32⟩
  | 79 => ⟨S168x512x3584, .f32⟩
  | 80 => ⟨S_, .f32⟩
  | 81 => ⟨S168x512x3584, .f32⟩
  | 82 => ⟨S168x512x3584, .f32⟩
  | 83 => ⟨S168x512x3584, .f32⟩
  | 84 => ⟨S168x512x3584, .f32⟩
  | 85 => ⟨S168x512x3584, .f32⟩
  | 86 => ⟨S168x512x1024, .f32⟩
  | 87 => ⟨S168x512x1024, .f32⟩
  | 88 => ⟨S168x512x1024, .f32⟩
  | 89 => ⟨S168x512x1024, .f32⟩
  | 90 => ⟨S_, .i32⟩
  | 91 => ⟨S168, .i32⟩
  | 92 => ⟨S168, .i1⟩
  | 93 => ⟨S_, .i32⟩
  | 94 => ⟨S168, .i32⟩
  | 95 => ⟨S168, .i1⟩
  | 96 => ⟨S168, .i1⟩
  | 97 => ⟨S168, .f32⟩
  | 98 => ⟨S168x1x1, .f32⟩
  | 99 => ⟨S1x1024x3584, .bf16⟩
  | 100 => ⟨S1024x3584, .bf16⟩
  | 101 => ⟨S1024x3584, .f32⟩
  | 102 => ⟨S1x1024x3584, .bf16⟩
  | 103 => ⟨S1024x3584, .bf16⟩
  | 104 => ⟨S1024x3584, .f32⟩
  | 105 => ⟨S1x3584x1024, .bf16⟩
  | 106 => ⟨S3584x1024, .bf16⟩
  | 107 => ⟨S3584x1024, .f32⟩
  | 108 => ⟨S168x512x3584, .f32⟩
  | 109 => ⟨S168x512x3584, .f32⟩
  | 110 => ⟨S168x512x3584, .f32⟩
  | 111 => ⟨S_, .f32⟩
  | 112 => ⟨S168x512x3584, .f32⟩
  | 113 => ⟨S168x512x3584, .f32⟩
  | 114 => ⟨S_, .f32⟩
  | 115 => ⟨S168x512x3584, .f32⟩
  | 116 => ⟨S168x512x3584, .f32⟩
  | 117 => ⟨S168x512x3584, .f32⟩
  | 118 => ⟨S168x512x3584, .f32⟩
  | 119 => ⟨S168x512x3584, .f32⟩
  | 120 => ⟨S168x512x1024, .f32⟩
  | 121 => ⟨S168x512x1024, .f32⟩
  | 122 => ⟨S168x512x1024, .f32⟩
  | 123 => ⟨S168x512x1024, .f32⟩
  | 124 => ⟨S_, .i32⟩
  | 125 => ⟨S168, .i32⟩
  | 126 => ⟨S168, .i1⟩
  | 127 => ⟨S_, .i32⟩
  | _ => ⟨S168x8, .i32⟩

abbrev hbmTy0_1 (i : Nat) : BufTy := match i % 128 with
  | 0 => ⟨S168, .i32⟩
  | 1 => ⟨S168, .i1⟩
  | 2 => ⟨S168, .i1⟩
  | 3 => ⟨S168, .f32⟩
  | 4 => ⟨S168x1x1, .f32⟩
  | 5 => ⟨S1x1024x3584, .bf16⟩
  | 6 => ⟨S1024x3584, .bf16⟩
  | 7 => ⟨S1024x3584, .f32⟩
  | 8 => ⟨S1x1024x3584, .bf16⟩
  | 9 => ⟨S1024x3584, .bf16⟩
  | 10 => ⟨S1024x3584, .f32⟩
  | 11 => ⟨S1x3584x1024, .bf16⟩
  | 12 => ⟨S3584x1024, .bf16⟩
  | 13 => ⟨S3584x1024, .f32⟩
  | 14 => ⟨S168x512x3584, .f32⟩
  | 15 => ⟨S168x512x3584, .f32⟩
  | 16 => ⟨S168x512x3584, .f32⟩
  | 17 => ⟨S_, .f32⟩
  | 18 => ⟨S168x512x3584, .f32⟩
  | 19 => ⟨S168x512x3584, .f32⟩
  | 20 => ⟨S_, .f32⟩
  | 21 => ⟨S168x512x3584, .f32⟩
  | 22 => ⟨S168x512x3584, .f32⟩
  | 23 => ⟨S168x512x3584, .f32⟩
  | 24 => ⟨S168x512x3584, .f32⟩
  | 25 => ⟨S168x512x3584, .f32⟩
  | 26 => ⟨S168x512x1024, .f32⟩
  | 27 => ⟨S168x512x1024, .f32⟩
  | 28 => ⟨S168x512x1024, .f32⟩
  | 29 => ⟨S168x512x1024, .f32⟩
  | 30 => ⟨S_, .i32⟩
  | 31 => ⟨S168, .i32⟩
  | 32 => ⟨S168, .i1⟩
  | 33 => ⟨S_, .i32⟩
  | 34 => ⟨S168, .i32⟩
  | 35 => ⟨S168, .i1⟩
  | 36 => ⟨S168, .i1⟩
  | 37 => ⟨S168, .f32⟩
  | 38 => ⟨S168x1x1, .f32⟩
  | 39 => ⟨S1x1024x3584, .bf16⟩
  | 40 => ⟨S1024x3584, .bf16⟩
  | 41 => ⟨S1024x3584, .f32⟩
  | 42 => ⟨S1x1024x3584, .bf16⟩
  | 43 => ⟨S1024x3584, .bf16⟩
  | 44 => ⟨S1024x3584, .f32⟩
  | 45 => ⟨S1x3584x1024, .bf16⟩
  | 46 => ⟨S3584x1024, .bf16⟩
  | 47 => ⟨S3584x1024, .f32⟩
  | 48 => ⟨S168x512x3584, .f32⟩
  | 49 => ⟨S168x512x3584, .f32⟩
  | 50 => ⟨S168x512x3584, .f32⟩
  | 51 => ⟨S_, .f32⟩
  | 52 => ⟨S168x512x3584, .f32⟩
  | 53 => ⟨S168x512x3584, .f32⟩
  | 54 => ⟨S_, .f32⟩
  | 55 => ⟨S168x512x3584, .f32⟩
  | 56 => ⟨S168x512x3584, .f32⟩
  | 57 => ⟨S168x512x3584, .f32⟩
  | 58 => ⟨S168x512x3584, .f32⟩
  | 59 => ⟨S168x512x3584, .f32⟩
  | 60 => ⟨S168x512x1024, .f32⟩
  | 61 => ⟨S168x512x1024, .f32⟩
  | 62 => ⟨S168x512x1024, .f32⟩
  | 63 => ⟨S168x512x1024, .f32⟩
  | 64 => ⟨S_, .i32⟩
  | 65 => ⟨S168, .i32⟩
  | 66 => ⟨S168, .i1⟩
  | 67 => ⟨S_, .i32⟩
  | 68 => ⟨S168, .i32⟩
  | 69 => ⟨S168, .i1⟩
  | 70 => ⟨S168, .i1⟩
  | 71 => ⟨S168, .f32⟩
  | 72 => ⟨S168x1x1, .f32⟩
  | 73 => ⟨S1x1024x3584, .bf16⟩
  | 74 => ⟨S1024x3584, .bf16⟩
  | 75 => ⟨S1024x3584, .f32⟩
  | 76 => ⟨S1x1024x3584, .bf16⟩
  | 77 => ⟨S1024x3584, .bf16⟩
  | 78 => ⟨S1024x3584, .f32⟩
  | 79 => ⟨S1x3584x1024, .bf16⟩
  | 80 => ⟨S3584x1024, .bf16⟩
  | 81 => ⟨S3584x1024, .f32⟩
  | 82 => ⟨S168x512x3584, .f32⟩
  | 83 => ⟨S168x512x3584, .f32⟩
  | 84 => ⟨S168x512x3584, .f32⟩
  | 85 => ⟨S_, .f32⟩
  | 86 => ⟨S168x512x3584, .f32⟩
  | 87 => ⟨S168x512x3584, .f32⟩
  | 88 => ⟨S_, .f32⟩
  | 89 => ⟨S168x512x3584, .f32⟩
  | 90 => ⟨S168x512x3584, .f32⟩
  | 91 => ⟨S168x512x3584, .f32⟩
  | 92 => ⟨S168x512x3584, .f32⟩
  | 93 => ⟨S168x512x3584, .f32⟩
  | 94 => ⟨S168x512x1024, .f32⟩
  | 95 => ⟨S168x512x1024, .f32⟩
  | 96 => ⟨S168x512x1024, .f32⟩
  | 97 => ⟨S168x512x1024, .f32⟩
  | 98 => ⟨S_, .i32⟩
  | 99 => ⟨S168, .i32⟩
  | 100 => ⟨S168, .i1⟩
  | 101 => ⟨S_, .i32⟩
  | 102 => ⟨S168, .i32⟩
  | 103 => ⟨S168, .i1⟩
  | 104 => ⟨S168, .i1⟩
  | 105 => ⟨S168, .f32⟩
  | 106 => ⟨S168x1x1, .f32⟩
  | 107 => ⟨S1x1024x3584, .bf16⟩
  | 108 => ⟨S1024x3584, .bf16⟩
  | 109 => ⟨S1024x3584, .f32⟩
  | 110 => ⟨S1x1024x3584, .bf16⟩
  | 111 => ⟨S1024x3584, .bf16⟩
  | 112 => ⟨S1024x3584, .f32⟩
  | 113 => ⟨S1x3584x1024, .bf16⟩
  | 114 => ⟨S3584x1024, .bf16⟩
  | 115 => ⟨S3584x1024, .f32⟩
  | 116 => ⟨S168x512x3584, .f32⟩
  | 117 => ⟨S168x512x3584, .f32⟩
  | 118 => ⟨S168x512x3584, .f32⟩
  | 119 => ⟨S_, .f32⟩
  | 120 => ⟨S168x512x3584, .f32⟩
  | 121 => ⟨S168x512x3584, .f32⟩
  | 122 => ⟨S_, .f32⟩
  | 123 => ⟨S168x512x3584, .f32⟩
  | 124 => ⟨S168x512x3584, .f32⟩
  | 125 => ⟨S168x512x3584, .f32⟩
  | 126 => ⟨S168x512x3584, .f32⟩
  | 127 => ⟨S168x512x3584, .f32⟩
  | _ => ⟨S168x8, .i32⟩

abbrev hbmTy0_2 (i : Nat) : BufTy := match i % 128 with
  | 0 => ⟨S168x512x1024, .f32⟩
  | 1 => ⟨S168x512x1024, .f32⟩
  | 2 => ⟨S168x512x1024, .f32⟩
  | 3 => ⟨S168x512x1024, .f32⟩
  | 4 => ⟨S_, .i32⟩
  | 5 => ⟨S168, .i32⟩
  | 6 => ⟨S168, .i1⟩
  | 7 => ⟨S_, .i32⟩
  | 8 => ⟨S168, .i32⟩
  | 9 => ⟨S168, .i1⟩
  | 10 => ⟨S168, .i1⟩
  | 11 => ⟨S168, .f32⟩
  | 12 => ⟨S168x1x1, .f32⟩
  | 13 => ⟨S1x1024x3584, .bf16⟩
  | 14 => ⟨S1024x3584, .bf16⟩
  | 15 => ⟨S1024x3584, .f32⟩
  | 16 => ⟨S1x1024x3584, .bf16⟩
  | 17 => ⟨S1024x3584, .bf16⟩
  | 18 => ⟨S1024x3584, .f32⟩
  | 19 => ⟨S1x3584x1024, .bf16⟩
  | 20 => ⟨S3584x1024, .bf16⟩
  | 21 => ⟨S3584x1024, .f32⟩
  | 22 => ⟨S168x512x3584, .f32⟩
  | 23 => ⟨S168x512x3584, .f32⟩
  | 24 => ⟨S168x512x3584, .f32⟩
  | 25 => ⟨S_, .f32⟩
  | 26 => ⟨S168x512x3584, .f32⟩
  | 27 => ⟨S168x512x3584, .f32⟩
  | 28 => ⟨S_, .f32⟩
  | 29 => ⟨S168x512x3584, .f32⟩
  | 30 => ⟨S168x512x3584, .f32⟩
  | 31 => ⟨S168x512x3584, .f32⟩
  | 32 => ⟨S168x512x3584, .f32⟩
  | 33 => ⟨S168x512x3584, .f32⟩
  | 34 => ⟨S168x512x1024, .f32⟩
  | 35 => ⟨S168x512x1024, .f32⟩
  | 36 => ⟨S168x512x1024, .f32⟩
  | 37 => ⟨S168x512x1024, .f32⟩
  | 38 => ⟨S86016x1024, .f32⟩
  | 39 => ⟨S86016x1024, .bf16⟩
  | _ => ⟨S168x8, .i32⟩

abbrev hbmTy (i : Nat) : BufTy := match i / 128 with
  | 0 => hbmTy0_0 i
  | 1 => hbmTy0_1 i
  | 2 => hbmTy0_2 i
  | _ => ⟨S168x8, .i32⟩

abbrev bufTy : (tb : Table) → Fin (tcTables nBuf tb) → BufTy
  | .hbm, ⟨i, _⟩ => hbmTy i
  | _, _ => ⟨S168x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_3 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_4 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call3_v0 : Ref sig .tc := ⟨.hbm, 143, rfl⟩
abbrev main_call3_v1 : Ref sig .tc := ⟨.hbm, 144, rfl⟩
abbrev main_call3_cst : Ref sig .tc := ⟨.hbm, 145, rfl⟩
abbrev main_call3_v2 : Ref sig .tc := ⟨.hbm, 146, rfl⟩
abbrev main_call3_v3 : Ref sig .tc := ⟨.hbm, 147, rfl⟩
abbrev main_call3_cst_0 : Ref sig .tc := ⟨.hbm, 148, rfl⟩
abbrev main_call3_v4 : Ref sig .tc := ⟨.hbm, 149, rfl⟩
abbrev main_call3_v5 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_5 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_call4_v0 : Ref sig .tc := ⟨.hbm, 177, rfl⟩
abbrev main_call4_v1 : Ref sig .tc := ⟨.hbm, 178, rfl⟩
abbrev main_call4_cst : Ref sig .tc := ⟨.hbm, 179, rfl⟩
abbrev main_call4_v2 : Ref sig .tc := ⟨.hbm, 180, rfl⟩
abbrev main_call4_v3 : Ref sig .tc := ⟨.hbm, 181, rfl⟩
abbrev main_call4_cst_0 : Ref sig .tc := ⟨.hbm, 182, rfl⟩
abbrev main_call4_v4 : Ref sig .tc := ⟨.hbm, 183, rfl⟩
abbrev main_call4_v5 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_6 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_call5_v0 : Ref sig .tc := ⟨.hbm, 211, rfl⟩
abbrev main_call5_v1 : Ref sig .tc := ⟨.hbm, 212, rfl⟩
abbrev main_call5_cst : Ref sig .tc := ⟨.hbm, 213, rfl⟩
abbrev main_call5_v2 : Ref sig .tc := ⟨.hbm, 214, rfl⟩
abbrev main_call5_v3 : Ref sig .tc := ⟨.hbm, 215, rfl⟩
abbrev main_call5_cst_0 : Ref sig .tc := ⟨.hbm, 216, rfl⟩
abbrev main_call5_v4 : Ref sig .tc := ⟨.hbm, 217, rfl⟩
abbrev main_call5_v5 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_7 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_call6_v0 : Ref sig .tc := ⟨.hbm, 245, rfl⟩
abbrev main_call6_v1 : Ref sig .tc := ⟨.hbm, 246, rfl⟩
abbrev main_call6_cst : Ref sig .tc := ⟨.hbm, 247, rfl⟩
abbrev main_call6_v2 : Ref sig .tc := ⟨.hbm, 248, rfl⟩
abbrev main_call6_v3 : Ref sig .tc := ⟨.hbm, 249, rfl⟩
abbrev main_call6_cst_0 : Ref sig .tc := ⟨.hbm, 250, rfl⟩
abbrev main_call6_v4 : Ref sig .tc := ⟨.hbm, 251, rfl⟩
abbrev main_call6_v5 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_c_8 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_call7_v0 : Ref sig .tc := ⟨.hbm, 279, rfl⟩
abbrev main_call7_v1 : Ref sig .tc := ⟨.hbm, 280, rfl⟩
abbrev main_call7_cst : Ref sig .tc := ⟨.hbm, 281, rfl⟩
abbrev main_call7_v2 : Ref sig .tc := ⟨.hbm, 282, rfl⟩
abbrev main_call7_v3 : Ref sig .tc := ⟨.hbm, 283, rfl⟩
abbrev main_call7_cst_0 : Ref sig .tc := ⟨.hbm, 284, rfl⟩
abbrev main_call7_v4 : Ref sig .tc := ⟨.hbm, 285, rfl⟩
abbrev main_call7_v5 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S32768x1024, .f32⟩
  | .hbm, ⟨8, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnReferenceIdeal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S32768x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S32768x2816, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S_, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1024, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S1024, .f32⟩
  | .hbm, ⟨56, _⟩ => ⟨S1x1024, .f32⟩
  | .hbm, ⟨57, _⟩ => ⟨S32768x1024, .f32⟩
  | .hbm, ⟨58, _⟩ => ⟨S32768x1024, .f32⟩
  | .hbm, ⟨59, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== OutProj.lean ====
abbrev S32768x1024 : Shape := ⟨2, ![32768, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjReferenceIdeal.lean ====
abbrev S32768x1024 : Shape := ⟨2, ![32768, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S1024x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== InProj.lean ====
abbrev S32768x1024 : Shape := ⟨2, ![32768, 1024]⟩
abbrev S1024x3072 : Shape := ⟨2, ![1024, 3072]⟩
abbrev S32768x3072 : Shape := ⟨2, ![32768, 3072]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .bf16⟩
  | .hbm, ⟨2, _⟩ => ⟨S32768x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .bf16⟩
  | .hbm, ⟨2, _⟩ => ⟨S32768x1024, .f32⟩
  | .hbm, ⟨3, _⟩ => ⟨S1024x3072, .f32⟩
  | .hbm, ⟨4, _⟩ => ⟨S32768x3072, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ple.lean ====
abbrev S32768x1024 : Shape := ⟨2, ![32768, 1024]⟩
abbrev S32768x256 : Shape := ⟨2, ![32768, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S32768x256, .bf16⟩
  | .hbm, ⟨3, _⟩ => ⟨S1024x1024, .bf16⟩
  | .hbm, ⟨4, _⟩ => ⟨S256x1024, .bf16⟩
  | .hbm, ⟨5, _⟩ => ⟨S32768x1024, .f32⟩
  | .hbm, ⟨6, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S32768x1024 : Shape := ⟨2, ![32768, 1024]⟩
abbrev S32768x256 : Shape := ⟨2, ![32768, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S32768x256, .bf16⟩
  | .hbm, ⟨3, _⟩ => ⟨S1024x1024, .bf16⟩
  | .hbm, ⟨4, _⟩ => ⟨S256x1024, .bf16⟩
  | .hbm, ⟨5, _⟩ => ⟨S32768x1024, .f32⟩
  | .hbm, ⟨6, _⟩ => ⟨S1024x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x256, .f32⟩
  | .hbm, ⟨17, _⟩ => ⟨S256x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KvProj.lean ====
abbrev S32768x1024 : Shape := ⟨2, ![32768, 1024]⟩
abbrev S1024x768 : Shape := ⟨2, ![1024, 768]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S32768x256 : Shape := ⟨2, ![32768, 256]⟩
abbrev S2x32768x512 : Shape := ⟨3, ![2, 32768, 512]⟩
abbrev S16x2x128x2048 : Shape := ⟨4, ![16, 2, 128, 2048]⟩
abbrev S512x1024 : Shape := ⟨2, ![512, 1024]⟩
abbrev S512x128 : Shape := ⟨2, ![512, 128]⟩
abbrev S512x256 : Shape := ⟨2, ![512, 256]⟩
abbrev S2x512x512 : Shape := ⟨3, ![2, 512, 512]⟩
abbrev S1x2x128x512 : Shape := ⟨4, ![1, 2, 128, 512]⟩
abbrev S512x768 : Shape := ⟨2, ![512, 768]⟩
abbrev S128x512 : Shape := ⟨2, ![128, 512]⟩
abbrev S1x1x128x512 : Shape := ⟨4, ![1, 1, 128, 512]⟩
abbrev S1x512x128 : Shape := ⟨3, ![1, 512, 128]⟩

abbrev nBuf : Space → Nat
  | .hbm => 34
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S1024x768, .bf16⟩
  | .hbm, ⟨2, _⟩ => ⟨S2048, .i32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S_, .f32⟩
  | .hbm, ⟨20, _⟩ => ⟨S2048x32, .f32⟩
  | .hbm, ⟨21, _⟩ => ⟨S2048x64, .f32⟩
  | .hbm, ⟨22, _⟩ => ⟨S2048x64, .f32⟩
  | .hbm, ⟨23, _⟩ => ⟨S2048x32, .f32⟩
  | .hbm, ⟨24, _⟩ => ⟨S2048x64, .f32⟩
  | .hbm, ⟨25, _⟩ => ⟨S2048x32, .f32⟩
  | .hbm, ⟨26, _⟩ => ⟨S2048x64, .f32⟩
  | .hbm, ⟨27, _⟩ => ⟨S2048x128, .f32⟩
  | .hbm, ⟨28, _⟩ => ⟨S2048x128, .f32⟩
  | .hbm, ⟨29, _⟩ => ⟨S32768x256, .f32⟩
  | .hbm, ⟨30, _⟩ => ⟨S2x32768x512, .bf16⟩
  | .hbm, ⟨31, _⟩ => ⟨S16x2x128x2048, .f32⟩
  | .hbm, ⟨32, _⟩ => ⟨S16x2x128x2048, .f32⟩
  | .hbm, ⟨33, _⟩ => ⟨S16x2x128x2048, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S2x512x512, .bf16⟩
  | .local _ .vmem, ⟨10, _⟩ => ⟨S2x512x512, .bf16⟩
  | .local _ .vmem, ⟨11, _⟩ => ⟨S1x2x128x512, .f32⟩
  | .local _ .vmem, ⟨12, _⟩ => ⟨S1x2x128x512, .f32⟩
  | .local _ .vmem, ⟨13, _⟩ => ⟨S1x2x128x512, .f32⟩
  | .local _ .vmem, ⟨14, _⟩ => ⟨S1x2x128x512, .f32⟩
  | .local _ .vmem, ⟨15, _⟩ => ⟨S1x2x128x512, .f32⟩
  | .local _ .vmem, ⟨16, _⟩ => ⟨S1x2x128x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24_0 : Ref sig .tc := ⟨.hbm, 29, rfl⟩
abbrev main_v24_1 : Ref sig .tc := ⟨.hbm, 30, rfl⟩
abbrev main_v24_2 : Ref sig .tc := ⟨.hbm, 31, rfl⟩
abbrev main_v24_3 : Ref sig .tc := ⟨.hbm, 32, rfl⟩
abbrev main_v24_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvProjReferenceIdeal.lean ====
abbrev S32768x1024 : Shape := ⟨2, ![32768, 1024]⟩
abbrev S1024x768 : Shape := ⟨2, ![1024, 768]⟩
abbrev S2048 : Shape := ⟨1, ![2048]⟩
abbrev S32768x768 : Shape := ⟨2, ![32768, 768]⟩
abbrev S16x2048x6x2x64 : Shape := ⟨5, ![16, 2048, 6, 2, 64]⟩
abbrev S16x2048x2x2x64 : Shape := ⟨5, ![16, 2048, 2, 2, 64]⟩
abbrev S16x2048x1x2x64 : Shape := ⟨5, ![16, 2048, 1, 2, 64]⟩
abbrev S16x2048x2x64 : Shape := ⟨4, ![16, 2048, 2, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x2x32 : Shape := ⟨4, ![16, 2048, 2, 32]⟩
abbrev S1x2048x1x32 : Shape := ⟨4, ![1, 2048, 1, 32]⟩
abbrev S32x64 : Shape := ⟨2, ![32, 64]⟩
abbrev S32x1x64 : Shape := ⟨3, ![32, 1, 64]⟩
abbrev S32x64x64 : Shape := ⟨3, ![32, 64, 64]⟩
abbrev S1x2048x1x64 : Shape := ⟨4, ![1, 2048, 1, 64]⟩
abbrev S16x2048x2x512 : Shape := ⟨4, ![16, 2048, 2, 512]⟩
abbrev S32768x2x512 : Shape := ⟨3, ![32768, 2, 512]⟩
abbrev S2x32768x512 : Shape := ⟨3, ![2, 32768, 512]⟩
abbrev S32768x256 : Shape := ⟨2, ![32768, 256]⟩
abbrev S16x2x2x64x2048 : Shape := ⟨5, ![16, 2, 2, 64, 2048]⟩
abbrev S16x2x128x2048 : Shape := ⟨4, ![16, 2, 128, 2048]⟩

abbrev nBuf : Space → Nat
  | .hbm => 124
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x768, .bf16⟩
  | .hbm, ⟨2, _⟩ => ⟨S2048, .i32⟩
  | .hbm, ⟨3, _⟩ => ⟨S32768x1024, .f32⟩
  | .hbm, ⟨4, _⟩ => ⟨S1024x768, .f32⟩
  | .hbm, ⟨5, _⟩ => ⟨S32768x768, .f32⟩
  | .hbm, ⟨6, _⟩ => ⟨S16x2048x6x2x64, .f32⟩
  | .hbm, ⟨7, _⟩ => ⟨S16x2048x2x2x64, .f32⟩
  | .hbm, ⟨8, _⟩ => ⟨S16x2048x1x2x64, .f32⟩
  | .hbm, ⟨9, _⟩ => ⟨S16x2048x2x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1x32, .f32⟩
  | .hbm, ⟨26, _⟩ => ⟨S2048x32, .f32⟩
  | .hbm, ⟨27, _⟩ => ⟨S2048x1x32, .f32⟩
  | .hbm, ⟨28, _⟩ => ⟨S16x2048x2x32, .f32⟩
  | .hbm, ⟨29, _⟩ => ⟨S16x2048x2x32, .f32⟩
  | .hbm, ⟨30, _⟩ => ⟨S1x2048x1x32, .f32⟩
  | .hbm, ⟨31, _⟩ => ⟨S16x2048x2x32, .f32⟩
  | .hbm, ⟨32, _⟩ => ⟨S16x2048x2x32, .f32⟩
  | .hbm, ⟨33, _⟩ => ⟨S1x2048x1x32, .f32⟩
  | .hbm, ⟨34, _⟩ => ⟨S16x2048x2x32, .f32⟩
  | .hbm, ⟨35, _⟩ => ⟨S16x2048x2x32, .f32⟩
  | .hbm, ⟨36, _⟩ => ⟨S16x2048x2x32, .f32⟩
  | .hbm, ⟨37, _⟩ => ⟨S1x2048x1x32, .f32⟩
  | .hbm, ⟨38, _⟩ => ⟨S16x2048x2x32, .f32⟩
  | .hbm, ⟨39, _⟩ => ⟨S16x2048x2x32, .f32⟩
  | .hbm, ⟨40, _⟩ => ⟨S1x2048x1x32, .f32⟩
  | .hbm, ⟨41, _⟩ => ⟨S16x2048x2x32, .f32⟩
  | .hbm, ⟨42, _⟩ => ⟨S16x2048x2x32, .f32⟩
  | .hbm, ⟨43, _⟩ => ⟨S16x2048x2x32, .f32⟩
  | .hbm, ⟨44, _⟩ => ⟨S16x2048x2x64, .f32⟩
  | .hbm, ⟨45, _⟩ => ⟨S16x2048x1x2x64, .f32⟩
  | .hbm, ⟨46, _⟩ => ⟨S16x2048x2x64, .f32⟩
  | .hbm, ⟨47, _⟩ => ⟨S16x2048x1x2x64, .f32⟩
  | .hbm, ⟨48, _⟩ => ⟨S16x2048x1x2x64, .f32⟩
  | .hbm, ⟨49, _⟩ => ⟨S16x2048x2x2x64, .f32⟩
  | .hbm, ⟨50, _⟩ => ⟨S16x2048x1x2x64, .f32⟩
  | .hbm, ⟨51, _⟩ => ⟨S16x2048x2x64, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S2048, .f32⟩
  | .hbm, ⟨61, _⟩ => ⟨S2048x1, .f32⟩
  | .hbm, ⟨62, _⟩ => ⟨S1x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x1x32, .f32⟩
  | .hbm, ⟨68, _⟩ => ⟨S2048x32, .f32⟩
  | .hbm, ⟨69, _⟩ => ⟨S2048x1x32, .f32⟩
  | .hbm, ⟨70, _⟩ => ⟨S16x2048x2x32, .f32⟩
  | .hbm, ⟨71, _⟩ => ⟨S16x2048x2x32, .f32⟩
  | .hbm, ⟨72, _⟩ => ⟨S1x2048x1x32, .f32⟩
  | .hbm, ⟨73, _⟩ => ⟨S16x2048x2x32, .f32⟩
  | .hbm, ⟨74, _⟩ => ⟨S16x2048x2x32, .f32⟩
  | .hbm, ⟨75, _⟩ => ⟨S1x2048x1x32, .f32⟩
  | .hbm, ⟨76, _⟩ => ⟨S16x2048x2x32, .f32⟩
  | .hbm, ⟨77, _⟩ => ⟨S16x2048x2x32, .f32⟩
  | .hbm, ⟨78, _⟩ => ⟨S16x2048x2x32, .f32⟩
  | .hbm, ⟨79, _⟩ => ⟨S1x2048x1x32, .f32⟩
  | .hbm, ⟨80, _⟩ => ⟨S16x2048x2x32, .f32⟩
  | .hbm, ⟨81, _⟩ => ⟨S16x2048x2x32, .f32⟩
  | .hbm, ⟨82, _⟩ => ⟨S1x2048x1x32, .f32⟩
  | .hbm, ⟨83, _⟩ => ⟨S16x2048x2x32, .f32⟩
  | .hbm, ⟨84, _⟩ => ⟨S16x2048x2x32, .f32⟩
  | .hbm, ⟨85, _⟩ => ⟨S16x2048x2x32, .f32⟩
  | .hbm, ⟨86, _⟩ => ⟨S16x2048x2x64, .f32⟩
  | .hbm, ⟨87, _⟩ => ⟨S16x2048x1x2x64, .f32⟩
  | .hbm, ⟨88, _⟩ => ⟨S16x2048x2x64, .f32⟩
  | .hbm, ⟨89, _⟩ => ⟨S16x2048x1x2x64, .f32⟩
  | .hbm, ⟨90, _⟩ => ⟨S16x2048x1x2x64, .f32⟩
  | .hbm, ⟨91, _⟩ => ⟨S16x2048x2x2x64, .f32⟩
  | .hbm, ⟨92, _⟩ => ⟨S32x64, .i32⟩
  | .hbm, ⟨93, _⟩ => ⟨S32x64, .i32⟩
  | .hbm, ⟨94, _⟩ => ⟨S_, .i32⟩
  | .hbm, ⟨95, _⟩ => ⟨S32x64, .i32⟩
  | .hbm, ⟨96, _⟩ => ⟨S32x64, .i32⟩
  | .hbm, ⟨97, _⟩ => ⟨S32x64, .i1⟩
  | .hbm, ⟨98, _⟩ => ⟨S32x64, .f32⟩
  | .hbm, ⟨99, _⟩ => ⟨S32x1x64, .f32⟩
  | .hbm, ⟨100, _⟩ => ⟨S32x64x64, .f32⟩
  | .hbm, ⟨101, _⟩ => ⟨S1x2048x1x64, .f32⟩
  | .hbm, ⟨102, _⟩ => ⟨S16x2048x2x64, .f32⟩
  | .hbm, ⟨103, _⟩ => ⟨S_, .f32⟩
  | .hbm, ⟨104, _⟩ => ⟨S16x2048x2x64, .f32⟩
  | .hbm, ⟨105, _⟩ => ⟨S16x2048x1x2x64, .f32⟩
  | .hbm, ⟨106, _⟩ => ⟨S16x2048x2x64, .f32⟩
  | .hbm, ⟨107, _⟩ => ⟨S16x2048x1x2x64, .f32⟩
  | .hbm, ⟨108, _⟩ => ⟨S16x2048x2x64, .f32⟩
  | .hbm, ⟨109, _⟩ => ⟨S16x2048x1x2x64, .f32⟩
  | .hbm, ⟨110, _⟩ => ⟨S16x2048x2x64, .f32⟩
  | .hbm, ⟨111, _⟩ => ⟨S16x2048x1x2x64, .f32⟩
  | .hbm, ⟨112, _⟩ => ⟨S16x2048x2x64, .f32⟩
  | .hbm, ⟨113, _⟩ => ⟨S16x2048x2x512, .f32⟩
  | .hbm, ⟨114, _⟩ => ⟨S32768x2x512, .f32⟩
  | .hbm, ⟨115, _⟩ => ⟨S2x32768x512, .f32⟩
  | .hbm, ⟨116, _⟩ => ⟨S2x32768x512, .bf16⟩
  | .hbm, ⟨117, _⟩ => ⟨S32768x256, .f32⟩
  | .hbm, ⟨118, _⟩ => ⟨S16x2x2x64x2048, .f32⟩
  | .hbm, ⟨119, _⟩ => ⟨S16x2x128x2048, .f32⟩
  | .hbm, ⟨120, _⟩ => ⟨S16x2x2x64x2048, .f32⟩
  | .hbm, ⟨121, _⟩ => ⟨S16x2x128x2048, .f32⟩
  | .hbm, ⟨122, _⟩ => ⟨S16x2x2x64x2048, .f32⟩
  | .hbm, ⟨123, _⟩ => ⟨S16x2x128x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_c : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_cst_3 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩

abbrev nD : Nat := 1
abbrev τ : Topo := Topo.v7x

variable {F : FTy → Type} [FloatOps F]
-- ==== Proof.GlaRun.lean ====
/- The reference's run in terms of one trip of its scan. The text follows the generated module that states the run over the
   step; the lemma for the stacked outputs is closed by its value lemma directly. -/
module

public import proofs.«01_k».proof.Proof.Gen.ReferenceIdeal.Run
public import proofs.«01_k».proof.Proof.Gen.ReferenceIdeal.Step

@[expose] public section

noncomputable section

namespace Cert.ReferenceIdeal.GlaRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v48_6) = s.main_v48_6
  f_7 : V0 (Proc.devRef .tc main_v48_7) = s.main_v48_7
  f_0 : V0 (Proc.devRef .tc main_v48_0) = s.main_v48_0
  f_1 : V0 (Proc.devRef .tc main_v48_1) = s.main_v48_1
  f_2 : V0 (Proc.devRef .tc main_v48_2) = s.main_v48_2
  f_3 : V0 (Proc.devRef .tc main_v48_3) = s.main_v48_3
  f_4 : V0 (Proc.devRef .tc main_v48_4) = s.main_v48_4
  n_5 : V0 (Proc.devRef .tc main_v48_5) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call3_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128 : (Proc.devRef .tc main_while0b_call3_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128 : (Proc.devRef .tc main_while0b_v71 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call4_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call4_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x64x4x128 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128 : (Proc.devRef .tc main_while0b_call4_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (shapeCast S16x64x4x128 (Host.dynamicSlice S1x16x64x4x128 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128 : (Proc.devRef .tc main_while0b_v72 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call5_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call5_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call5_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call5_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x64x4x256 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256 : (Proc.devRef .tc main_while0b_call5_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S16x64x4x256 (Host.dynamicSlice S1x16x64x4x256 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256 : (Proc.devRef .tc main_while0b_v73 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call6_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call6_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call6_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128 : (Proc.devRef .tc main_while0b_call6_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128 : (Proc.devRef .tc main_while0b_v74 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call7_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call7_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call7_c_1 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call7_c_2 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x16x64x4x256 (V0 (Proc.devRef .tc main_v48_4)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256 : (Proc.devRef .tc main_while0b_call7_v0 : DevRef τ sig).ty.Contents (Elt F)) = Cert.ReferenceIdeal.Step.b27 j s := by
  unfold Cert.ReferenceIdeal.Step.b27
  rw [← al_23 h, ← al_24 h, ← al_25 h, ← al_26 h, h.f_4, h.n_5]
  try rfl
set_option maxRecDepth 8192 in
theorem al_28 (h : Holds V0 s j) : (shapeCast S16x64x4x256 (Host.dynamicSlice S1x16x64x4x256 (V0 (Proc.devRef .tc main_v48_4)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256 : (Proc.devRef .tc main_while0b_v75 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S16x4x128x256_S16x64x4x128_S16x4x256x64_2_3_3_1_01_02 none (V0 (Proc.devRef .tc main_v48_6)) (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) : (Proc.devRef .tc main_while0b_v76 : DevRef τ sig).ty.Contents (Elt F)) = Cert.ReferenceIdeal.Step.b29 j s := by
  unfold Cert.ReferenceIdeal.Step.b29
  rw [← al_5 h, h.f_6]
  try rfl
set_option maxRecDepth 8192 in
theorem al_30 (h : Holds V0 s j) : (transpose S16x64x4x256 [0, 3, 1, 2] (Host.dotGeneral dot_S16x4x128x256_S16x64x4x128_S16x4x256x64_2_3_3_1_01_02 none (V0 (Proc.devRef .tc main_v48_6)) (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2 : (Proc.devRef .tc main_while0b_v77 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (addf (shapeCast S16x64x4x256 (Host.dynamicSlice S1x16x64x4x256 (V0 (Proc.devRef .tc main_v48_4)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v48_6)) (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2) : (Proc.devRef .tc main_while0b_v78 : DevRef τ sig).ty.Contents (Elt F)) = Cert.ReferenceIdeal.Step.b31 j s := by
  unfold Cert.ReferenceIdeal.Step.b31
  rw [← al_28 h, ← al_30 h]
  try rfl
set_option maxRecDepth 8192 in
theorem al_32 (h : Holds V0 s j) : (broadcastInDim S16x4x128x1 ![0, 1, 2] bcast_S16x4x128_S16x4x128x1_0_1_2 (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128) : (Proc.devRef .tc main_while0b_v79 : DevRef τ sig).ty.Contents (Elt F)) = Cert.ReferenceIdeal.Step.b32 j s := by
  unfold Cert.ReferenceIdeal.Step.b32
  rw [← al_22 h]
  try rfl
set_option maxRecDepth 8192 in
theorem al_33 (h : Holds V0 s j) : (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128)) : (Proc.devRef .tc main_while0b_v80 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v48_6)) : (Proc.devRef .tc main_while0b_v81 : DevRef τ sig).ty.Contents (Elt F)) = Cert.ReferenceIdeal.Step.b34 j s := by
  unfold Cert.ReferenceIdeal.Step.b34
  rw [← al_33 h, h.f_6]
  try rfl
set_option maxRecDepth 8192 in
theorem al_35 (h : Holds V0 s j) : (Host.dotGeneral dot_S16x64x4x128_S16x64x4x256_S16x4x128x256_1_1_3_3_02_02 none (shapeCast S16x64x4x128 (Host.dynamicSlice S1x16x64x4x128 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) : (Proc.devRef .tc main_while0b_v82 : DevRef τ sig).ty.Contents (Elt F)) = Cert.ReferenceIdeal.Step.b35 j s := by
  unfold Cert.ReferenceIdeal.Step.b35
  rw [← al_11 h, ← al_17 h]
  try rfl
set_option maxRecDepth 8192 in
theorem al_36 (h : Holds V0 s j) : (addf (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v48_6))) (Host.dotGeneral dot_S16x64x4x128_S16x64x4x256_S16x4x128x256_1_1_3_3_02_02 none (shapeCast S16x64x4x128 (Host.dynamicSlice S1x16x64x4x128 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256)) : (Proc.devRef .tc main_while0b_v83 : DevRef τ sig).ty.Contents (Elt F)) = Cert.ReferenceIdeal.Step.b36 j s := by
  unfold Cert.ReferenceIdeal.Step.b36
  rw [← al_34 h, ← al_35 h]
  try rfl
set_option maxRecDepth 8192 in
theorem al_37 (h : Holds V0 s j) : (broadcastInDim S1x16x64x4x256 ![1, 2, 3, 4] bcast_S16x64x4x256_S1x16x64x4x256_1_2_3_4 (addf (shapeCast S16x64x4x256 (Host.dynamicSlice S1x16x64x4x256 (V0 (Proc.devRef .tc main_v48_4)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v48_6)) (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2)) : (Proc.devRef .tc main_while0b_call8_v0 : DevRef τ sig).ty.Contents (Elt F)) = Cert.ReferenceIdeal.Step.b37 j s := by
  unfold Cert.ReferenceIdeal.Step.b37
  rw [← al_31 h]
  try rfl
set_option maxRecDepth 8192 in
theorem al_38 (h : Holds V0 s j) : (constantI S_ 32 0#32 : (Proc.devRef .tc main_while0b_call8_c : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call8_c_0 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call8_c_1 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call8_c_2 : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v48_7)) (broadcastInDim S1x16x64x4x256 ![1, 2, 3, 4] bcast_S16x64x4x256_S1x16x64x4x256_1_2_3_4 (addf (shapeCast S16x64x4x256 (Host.dynamicSlice S1x16x64x4x256 (V0 (Proc.devRef .tc main_v48_4)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v48_6)) (shapeCast S16x64x4x128 (Host.dynamicSlice S1x16x64x4x128 (V0 (Proc.devRef .tc main_v48_0)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2))) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) updateFits_S32x16x64x4x256_S1x16x64x4x256 : (Proc.devRef .tc main_while0b_v84 : DevRef τ sig).ty.Contents (Elt F)) = Cert.ReferenceIdeal.Step.b42 j s := by
  unfold Cert.ReferenceIdeal.Step.b42
  rw [← al_37 h, ← al_38 h, ← al_39 h, ← al_40 h, ← al_41 h, h.f_7, h.n_5]
  try rfl

/-! One trip's step of the carried values is `step`, field by field; a counter steps to the next number. -/

theorem step_6 (h : Holds V0 s j) : step_main_v48_6 V0 = (step j s).main_v48_6 := by
  unfold step_main_v48_6 Cert.ReferenceIdeal.Step.step
  show id (addf (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v48_3)) (fun k => (((![V0 (Proc.devRef .tc main_v48_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v48_6))) (Host.dotGeneral dot_S16x64x4x128_S16x64x4x256_S16x4x128x256_1_1_3_3_02_02 none (shapeCast S16x64x4x128 (Host.dynamicSlice S1x16x64x4x128 (V0 (Proc.devRef .tc main_v48_1)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v48_2)) (fun k => (((![V0 (Proc.devRef .tc main_v48_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256))) = _
  rw [al_36 h]
  try rfl
theorem step_7 (h : Holds V0 s j) : step_main_v48_7 V0 = (step j s).main_v48_7 := by
  unfold step_main_v48_7 Cert.ReferenceIdeal.Step.step
  exact al_42 h
theorem step_5 (h : Holds V0 s j) : step_main_v48_5 V0 = constantI S_ 32 (BitVec.ofNat 32 (j + 1)) := by
  unfold step_main_v48_5
  rw [h.n_5]
  funext i
  show BitVec.ofNat 32 j + 1#32 = BitVec.ofNat 32 (j + 1)
  simp only [BitVec.ofNat_add]

set_option maxRecDepth 8192 in
theorem out_main_v70_holds (h : Holds V0 s j) {x_main_arg0 : (⟨S32768x3072, .f32⟩ : BufTy).Contents (Elt F)} (h_main_arg0 : V0 (Proc.devRef .tc main_arg0) = x_main_arg0) {x_main_arg2 : (⟨S1x256, .f32⟩ : BufTy).Contents (Elt F)} (h_main_arg2 : V0 (Proc.devRef .tc main_arg2) = x_main_arg2) : out_main_v70 V0 = Cert.ReferenceIdeal.Step.R_main_v70 s x_main_arg0 x_main_arg2 := by
  unfold out_main_v70 Cert.ReferenceIdeal.Step.R_main_v70
  rw [h.f_7, h_main_arg0, h_main_arg2]
  try rfl

/-- One trip keeps the valuation holding: `step` of the state, the same set-up values, the next number. -/
theorem holds_step (h : Holds V0 s j) : Holds (STEP V0) (step j s) (j + 1) where
  f_6 := (STEP_main_v48_6 V0).trans (step_6 h)
  f_7 := (STEP_main_v48_7 V0).trans (step_7 h)
  n_5 := (STEP_main_v48_5 V0).trans (step_5 h)
  f_0 := (STEP_main_v48_0 V0).trans h.f_0
  f_1 := (STEP_main_v48_1 V0).trans h.f_1
  f_2 := (STEP_main_v48_2 V0).trans h.f_2
  f_3 := (STEP_main_v48_3 V0).trans h.f_3
  f_4 := (STEP_main_v48_4 V0).trans h.f_4

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v70) = Cert.ReferenceIdeal.Step.R_main_v70 (it c 32) (m ((c.tc : Thread nD τ).loc main_arg0)) (m ((c.tc : Thread nD τ).loc main_arg2))
      ∧ r.2.mem ((c.tc : Thread nD τ).loc main_v48_6) = (it c 32).main_v48_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v70_holds hk (iter_main_arg0 m c 32) (iter_main_arg2 m c 32)), (h c).2.1.trans hk.f_6, (h c).2.2.1, (h c).2.2.2.1, (h c).2.2.2.2.1, (h c).2.2.2.2.2⟩) (Value.run m ρ)

end Cert.ReferenceIdeal.GlaRun

end
-- ==== Proof.GlaUnit.lean ====
/- One chunk of one head: every store of the launch's body is the same function of the chunk's slices. The body is printed as a
   straight line of values cut into payloads at places that differ from chunk to chunk; here each chunk's payloads are shown to be
   the one function `chunkOut` (the normalised, gated output rows) or `chunkState` (the state after the chunk). -/
module

public import proofs.«01_k».proof.Proof.Gen.KernelIdeal.Skeleton

@[expose] public section

set_option maxRecDepth 16384

noncomputable section

namespace Cert.KernelIdeal.Unit

open Idealize.ShloMosaic Idealize.ShloMosaic.TcCoe Idealize.SL.Sem
open Cert.KernelIdeal Cert.KernelIdeal.Gen

variable {F : FTy → Type} [FloatOps F]

/-- The sum of the chunk's decay logarithms, one per state row, in 128 equal columns. -/
def chunkTot (hi mid lo : FVec F S64x128 .bf16) : FVec F S128x128 .f32 :=
  addf (addf (matmul dot_S64x128_S64x128_S128x128_0_0_1_1_n_n none hi (k0_pay5 (F := F)) (constant S128x128 .f32 0x00000000#32))
    (matmul dot_S64x128_S64x128_S128x128_0_0_1_1_n_n none mid (k0_pay5 (F := F)) (constant S128x128 .f32 0x00000000#32)))
    (matmul dot_S64x128_S64x128_S128x128_0_0_1_1_n_n none lo (k0_pay5 (F := F)) (constant S128x128 .f32 0x00000000#32))

/-- The chunk's output rows before the normalisation, of its cumulative decays `b`, the state before it and its q, k, v. -/
def chunkRaw (b : FVec F S64x128 .f32) (S : FVec F S128x256 .f32) (q k : Vec F S64x128 .f32) (v : Vec F S64x256 .f32) :
    FVec F S64x256 .f32 :=
  k0_pay17 (k0_pay4) (iota .tc S64x128 32 [0] iota_S64x128_d0_w32) S b q k v

/-- The normalised and gated output rows. -/
def chunkOut (o : FVec F S64x256 .f32) (r : Vec F S64x256 .f32) (g : Vec F S1x256 .f32) : FVec F S64x256 .bf16 :=
  k0_pay20 o r g

/-- The state after the chunk. -/
def chunkState (S : FVec F S128x256 .f32) (b : FVec F S64x128 .f32) (tot : FVec F S128x128 .f32) (k : Vec F S64x128 .f32)
    (v : Vec F S64x256 .f32) : FVec F S128x256 .f32 :=
  k0_pay19 S b tot k (k0_pay16 v) (k0_pay18 (iota .tc S64x128 32 [0] iota_S64x128_d0_w32) b)

/-- Head 0: the state read from the scratch. -/
theorem load_0 (s : Vec F S1x128x256 .f32) : k0_pay11 s = k0_pay11 s := rfl

/-- Head 0, chunk 0: the state after the chunk. -/
theorem state_0_0 (la : Vec F S256x512 .f32) (S : FVec F S128x256 .f32) (k : Vec F S64x128 .f32) (v : Vec F S64x256 .f32) :
    k0_pay19 S (k0_pay12 la) (k0_pay15 (k0_pay5 (F := F)) (k0_pay13 la) (k0_pay14 la)) k (k0_pay16 v) (k0_pay18 (iota .tc S64x128 32 [0] iota_S64x128_d0_w32) (k0_pay12 la)) =
      chunkState S (extractStridedSlice S64x128 ![0, 0] (k0_pay10 la) slices_S256x512_o0_0_S64x128) (chunkTot (extractStridedSlice S64x128 ![0, 0] (k0_pay6 la) slices_S256x512_o0_0_S64x128) (extractStridedSlice S64x128 ![0, 0] (k0_pay8 la) slices_S256x512_o0_0_S64x128) (extractStridedSlice S64x128 ![0, 0] (k0_pay9 la) slices_S256x512_o0_0_S64x128)) k v := rfl

/-- Head 0, chunk 0: the output rows. -/
theorem out_0_0 (la : Vec F S256x512 .f32) (S : FVec F S128x256 .f32) (q k : Vec F S64x128 .f32) (v r : Vec F S64x256 .f32) (g : Vec F S1x256 .f32) :
    k0_pay20 (k0_pay17 k0_pay4 (iota .tc S64x128 32 [0] iota_S64x128_d0_w32) S (k0_pay12 la) q k v) r g =
      chunkOut (chunkRaw (extractStridedSlice S64x128 ![0, 0] (k0_pay10 la) slices_S256x512_o0_0_S64x128) S q k v) r g := rfl

/-- Head 0, chunk 1: the state after the chunk. -/
theorem state_0_1 (la : Vec F S256x512 .f32) (S : FVec F S128x256 .f32) (k : Vec F S64x128 .f32) (v : Vec F S64x256 .f32) :
    k0_pay26 (iota .tc S64x128 32 [0] iota_S64x128_d0_w32) S (k0_pay21 (k0_pay10 la)) (k0_pay22 (k0_pay5 (F := F)) (k0_pay6 la) (k0_pay8 la) (k0_pay9 la)) k v =
      chunkState S (extractStridedSlice S64x128 ![64, 0] (k0_pay10 la) slices_S256x512_o64_0_S64x128) (chunkTot (extractStridedSlice S64x128 ![64, 0] (k0_pay6 la) slices_S256x512_o64_0_S64x128) (extractStridedSlice S64x128 ![64, 0] (k0_pay8 la) slices_S256x512_o64_0_S64x128) (extractStridedSlice S64x128 ![64, 0] (k0_pay9 la) slices_S256x512_o64_0_S64x128)) k v := rfl

/-- Head 0, chunk 1: the output rows. -/
theorem out_0_1 (la : Vec F S256x512 .f32) (S : FVec F S128x256 .f32) (q k : Vec F S64x128 .f32) (v r : Vec F S64x256 .f32) (g : Vec F S1x256 .f32) :
    k0_pay27 (k0_pay25 k0_pay4 S (k0_pay21 (k0_pay10 la)) (k0_pay23 (iota .tc S64x128 32 [0] iota_S64x128_d0_w32) (k0_pay10 la)) q k v) r g =
      chunkOut (chunkRaw (extractStridedSlice S64x128 ![64, 0] (k0_pay10 la) slices_S256x512_o64_0_S64x128) S q k v) r g := rfl

/-- Head 0, chunk 2: the state after the chunk. -/
theorem state_0_2 (la : Vec F S256x512 .f32) (S : FVec F S128x256 .f32) (k : Vec F S64x128 .f32) (v : Vec F S64x256 .f32) :
    k0_pay34 S (k0_pay28 (k0_pay10 la)) (k0_pay29 (k0_pay5 (F := F)) (k0_pay6 la) (k0_pay8 la) (k0_pay9 la)) (k0_pay31 (iota .tc S64x128 32 [0] iota_S64x128_d0_w32) (k0_pay10 la)) k v =
      chunkState S (extractStridedSlice S64x128 ![128, 0] (k0_pay10 la) slices_S256x512_o128_0_S64x128) (chunkTot (extractStridedSlice S64x128 ![128, 0] (k0_pay6 la) slices_S256x512_o128_0_S64x128) (extractStridedSlice S64x128 ![128, 0] (k0_pay8 la) slices_S256x512_o128_0_S64x128) (extractStridedSlice S64x128 ![128, 0] (k0_pay9 la) slices_S256x512_o128_0_S64x128)) k v := rfl

/-- Head 0, chunk 2: the output rows. -/
theorem out_0_2 (la : Vec F S256x512 .f32) (S : FVec F S128x256 .f32) (q k : Vec F S64x128 .f32) (v r : Vec F S64x256 .f32) (g : Vec F S1x256 .f32) :
    k0_pay36 (k0_pay33 k0_pay4 S (k0_pay28 (k0_pay10 la)) (k0_pay30 (iota .tc S64x128 32 [0] iota_S64x128_d0_w32) (k0_pay10 la)) q k v) (k0_pay35 k0_pay4 S (k0_pay28 (k0_pay10 la)) (k0_pay30 (iota .tc S64x128 32 [0] iota_S64x128_d0_w32) (k0_pay10 la)) q k v) r (FloatOps.ofBits .f32 925353388#32) g =
      chunkOut (chunkRaw (extractStridedSlice S64x128 ![128, 0] (k0_pay10 la) slices_S256x512_o128_0_S64x128) S q k v) r g := rfl

/-- Head 0, chunk 3: the state after the chunk, as stored. -/
theorem state_0_3 (la : Vec F S256x512 .f32) (S : FVec F S128x256 .f32) (k : Vec F S64x128 .f32) (v : Vec F S64x256 .f32) :
    k0_pay47 (k0_pay43 S (k0_pay37 (k0_pay10 la)) (k0_pay38 (k0_pay5 (F := F)) (k0_pay6 la) (k0_pay8 la) (k0_pay9 la)) (k0_pay40 (iota .tc S64x128 32 [0] iota_S64x128_d0_w32) (k0_pay10 la)) k v) =
      shapeCast S1x128x256 (chunkState S (extractStridedSlice S64x128 ![192, 0] (k0_pay10 la) slices_S256x512_o192_0_S64x128) (chunkTot (extractStridedSlice S64x128 ![192, 0] (k0_pay6 la) slices_S256x512_o192_0_S64x128) (extractStridedSlice S64x128 ![192, 0] (k0_pay8 la) slices_S256x512_o192_0_S64x128) (extractStridedSlice S64x128 ![192, 0] (k0_pay9 la) slices_S256x512_o192_0_S64x128)) k v) shapeCasts_S128x256_S1x128x256 := rfl

/-- Head 0, chunk 3: the output rows. -/
theorem out_0_3 (la : Vec F S256x512 .f32) (S : FVec F S128x256 .f32) (q k : Vec F S64x128 .f32) (v r : Vec F S64x256 .f32) (g : Vec F S1x256 .f32) :
    k0_pay46 r (k0_pay44 k0_pay4 S (k0_pay37 (k0_pay10 la)) (k0_pay39 (iota .tc S64x128 32 [0] iota_S64x128_d0_w32) (k0_pay10 la)) (k0_pay41 q) k v g) (k0_pay45 r) =
      chunkOut (chunkRaw (extractStridedSlice S64x128 ![192, 0] (k0_pay10 la) slices_S256x512_o192_0_S64x128) S q k v) r g := rfl

/-- Head 1: the state read from the scratch. -/
theorem load_1 (s : Vec F S1x128x256 .f32) : k0_pay48 s = k0_pay11 s := rfl

/-- Head 1, chunk 0: the state after the chunk. -/
theorem state_1_0 (la : Vec F S256x512 .f32) (S : FVec F S128x256 .f32) (k : Vec F S64x128 .f32) (v : Vec F S64x256 .f32) :
    k0_pay55 S (k0_pay49 (k0_pay10 la)) (k0_pay50 (k0_pay5 (F := F)) (k0_pay6 la) (k0_pay8 la) (k0_pay9 la)) (k0_pay52 (iota .tc S64x128 32 [0] iota_S64x128_d0_w32) (k0_pay10 la)) k v =
      chunkState S (extractStridedSlice S64x128 ![0, 128] (k0_pay10 la) slices_S256x512_o0_128_S64x128) (chunkTot (extractStridedSlice S64x128 ![0, 128] (k0_pay6 la) slices_S256x512_o0_128_S64x128) (extractStridedSlice S64x128 ![0, 128] (k0_pay8 la) slices_S256x512_o0_128_S64x128) (extractStridedSlice S64x128 ![0, 128] (k0_pay9 la) slices_S256x512_o0_128_S64x128)) k v := rfl

/-- Head 1, chunk 0: the output rows. -/
theorem out_1_0 (la : Vec F S256x512 .f32) (S : FVec F S128x256 .f32) (q k : Vec F S64x128 .f32) (v r : Vec F S64x256 .f32) (g : Vec F S1x256 .f32) :
    k0_pay57 r (k0_pay56 k0_pay4 S (k0_pay49 (k0_pay10 la)) (k0_pay51 (iota .tc S64x128 32 [0] iota_S64x128_d0_w32) (k0_pay10 la)) (k0_pay53 q) k v g) =
      chunkOut (chunkRaw (extractStridedSlice S64x128 ![0, 128] (k0_pay10 la) slices_S256x512_o0_128_S64x128) S q k v) r g := rfl

/-- Head 1, chunk 1: the state after the chunk. -/
theorem state_1_1 (la : Vec F S256x512 .f32) (S : FVec F S128x256 .f32) (k : Vec F S64x128 .f32) (v : Vec F S64x256 .f32) :
    k0_pay66 S (k0_pay58 (k0_pay10 la)) (k0_pay59 (k0_pay5 (F := F)) (k0_pay6 la) (k0_pay8 la) (k0_pay9 la)) (k0_pay61 (iota .tc S64x128 32 [0] iota_S64x128_d0_w32) (k0_pay10 la)) k (k0_pay63 v) =
      chunkState S (extractStridedSlice S64x128 ![64, 128] (k0_pay10 la) slices_S256x512_o64_128_S64x128) (chunkTot (extractStridedSlice S64x128 ![64, 128] (k0_pay6 la) slices_S256x512_o64_128_S64x128) (extractStridedSlice S64x128 ![64, 128] (k0_pay8 la) slices_S256x512_o64_128_S64x128) (extractStridedSlice S64x128 ![64, 128] (k0_pay9 la) slices_S256x512_o64_128_S64x128)) k v := rfl

/-- Head 1, chunk 1: the output rows. -/
theorem out_1_1 (la : Vec F S256x512 .f32) (S : FVec F S128x256 .f32) (q k : Vec F S64x128 .f32) (v r : Vec F S64x256 .f32) (g : Vec F S1x256 .f32) :
    k0_pay67 k0_pay4 S (k0_pay58 (k0_pay10 la)) (k0_pay62 q) (k0_pay63 v) (k0_pay64 (iota .tc S64x128 32 [0] iota_S64x128_d0_w32) (k0_pay10 la) q) (k0_pay65 (iota .tc S64x128 32 [0] iota_S64x128_d0_w32) (k0_pay10 la) k) r g =
      chunkOut (chunkRaw (extractStridedSlice S64x128 ![64, 128] (k0_pay10 la) slices_S256x512_o64_128_S64x128) S q k v) r g := rfl

/-- Head 1, chunk 2: the state after the chunk. -/
theorem state_1_2 (la : Vec F S256x512 .f32) (S : FVec F S128x256 .f32) (k : Vec F S64x128 .f32) (v : Vec F S64x256 .f32) :
    k0_pay76 S (k0_pay68 (k0_pay10 la)) (k0_pay70 (k0_pay5 (F := F)) (k0_pay8 la) (k0_pay9 la) (k0_pay69 (k0_pay6 la)) (constant S128x128 .f32 0#32)) (k0_pay71 (iota .tc S64x128 32 [0] iota_S64x128_d0_w32) (k0_pay68 (k0_pay10 la))) k (k0_pay73 v) =
      chunkState S (extractStridedSlice S64x128 ![128, 128] (k0_pay10 la) slices_S256x512_o128_128_S64x128) (chunkTot (extractStridedSlice S64x128 ![128, 128] (k0_pay6 la) slices_S256x512_o128_128_S64x128) (extractStridedSlice S64x128 ![128, 128] (k0_pay8 la) slices_S256x512_o128_128_S64x128) (extractStridedSlice S64x128 ![128, 128] (k0_pay9 la) slices_S256x512_o128_128_S64x128)) k v := rfl

/-- Head 1, chunk 2: the output rows. -/
theorem out_1_2 (la : Vec F S256x512 .f32) (S : FVec F S128x256 .f32) (q k : Vec F S64x128 .f32) (v r : Vec F S64x256 .f32) (g : Vec F S1x256 .f32) :
    k0_pay77 S (k0_pay74 k0_pay4 (iota .tc S64x128 32 [0] iota_S64x128_d0_w32) (k0_pay68 (k0_pay10 la)) q k v) (k0_pay75 (k0_pay68 (k0_pay10 la)) q) r g =
      chunkOut (chunkRaw (extractStridedSlice S64x128 ![128, 128] (k0_pay10 la) slices_S256x512_o128_128_S64x128) S q k v) r g := rfl

/-- Head 1, chunk 3: the state after the chunk, as stored. -/
theorem state_1_3 (la : Vec F S256x512 .f32) (S : FVec F S128x256 .f32) (k : Vec F S64x128 .f32) (v : Vec F S64x256 .f32) :
    k0_pay86 S (k0_pay81 v) (k0_pay83 (iota .tc S64x128 32 [0] iota_S64x128_d0_w32) (k0_pay78 (k0_pay10 la)) k) (k0_pay84 (k0_pay79 (k0_pay5 (F := F)) (k0_pay6 la) (k0_pay8 la) (k0_pay9 la))) =
      shapeCast S1x128x256 (chunkState S (extractStridedSlice S64x128 ![192, 128] (k0_pay10 la) slices_S256x512_o192_128_S64x128) (chunkTot (extractStridedSlice S64x128 ![192, 128] (k0_pay6 la) slices_S256x512_o192_128_S64x128) (extractStridedSlice S64x128 ![192, 128] (k0_pay8 la) slices_S256x512_o192_128_S64x128) (extractStridedSlice S64x128 ![192, 128] (k0_pay9 la) slices_S256x512_o192_128_S64x128)) k v) shapeCasts_S128x256_S1x128x256 := rfl

/-- Head 1, chunk 3: the output rows. -/
theorem out_1_3 (la : Vec F S256x512 .f32) (S : FVec F S128x256 .f32) (q k : Vec F S64x128 .f32) (v r : Vec F S64x256 .f32) (g : Vec F S1x256 .f32) :
    k0_pay85 (k0_pay82 k0_pay4 (iota .tc S64x128 32 [0] iota_S64x128_d0_w32) S (k0_pay78 (k0_pay10 la)) k0_pay80 q k v) r g =
      chunkOut (chunkRaw (extractStridedSlice S64x128 ![192, 128] (k0_pay10 la) slices_S256x512_o192_128_S64x128) S q k v) r g := rfl

/-- Head 2: the state read from the scratch. -/
theorem load_2 (s : Vec F S1x128x256 .f32) : k0_pay87 s = k0_pay11 s := rfl

/-- Head 2, chunk 0: the state after the chunk. -/
theorem state_2_0 (la : Vec F S256x512 .f32) (S : FVec F S128x256 .f32) (k : Vec F S64x128 .f32) (v : Vec F S64x256 .f32) :
    k0_pay93 S (k0_pay89 (k0_pay5 (F := F)) (k0_pay6 la) (k0_pay8 la) (k0_pay9 la)) (k0_pay90 v) (k0_pay92 (iota .tc S64x128 32 [0] iota_S64x128_d0_w32) (k0_pay88 (k0_pay10 la)) k) =
      chunkState S (extractStridedSlice S64x128 ![0, 256] (k0_pay10 la) slices_S256x512_o0_256_S64x128) (chunkTot (extractStridedSlice S64x128 ![0, 256] (k0_pay6 la) slices_S256x512_o0_256_S64x128) (extractStridedSlice S64x128 ![0, 256] (k0_pay8 la) slices_S256x512_o0_256_S64x128) (extractStridedSlice S64x128 ![0, 256] (k0_pay9 la) slices_S256x512_o0_256_S64x128)) k v := rfl

/-- Head 2, chunk 0: the output rows. -/
theorem out_2_0 (la : Vec F S256x512 .f32) (S : FVec F S128x256 .f32) (q k : Vec F S64x128 .f32) (v r : Vec F S64x256 .f32) (g : Vec F S1x256 .f32) :
    k0_pay94 (k0_pay91 k0_pay4 (iota .tc S64x128 32 [0] iota_S64x128_d0_w32) S (k0_pay88 (k0_pay10 la)) (31#32) q k v) r g =
      chunkOut (chunkRaw (extractStridedSlice S64x128 ![0, 256] (k0_pay10 la) slices_S256x512_o0_256_S64x128) S q k v) r g := rfl

/-- Head 2, chunk 1: the state after the chunk. -/
theorem state_2_1 (la : Vec F S256x512 .f32) (S : FVec F S128x256 .f32) (k : Vec F S64x128 .f32) (v : Vec F S64x256 .f32) :
    k0_pay101 S (k0_pay95 (k0_pay10 la)) (k0_pay96 (k0_pay5 (F := F)) (k0_pay6 la) (k0_pay8 la) (k0_pay9 la)) (k0_pay98 (iota .tc S64x128 32 [0] iota_S64x128_d0_w32)) k v =
      chunkState S (extractStridedSlice S64x128 ![64, 256] (k0_pay10 la) slices_S256x512_o64_256_S64x128) (chunkTot (extractStridedSlice S64x128 ![64, 256] (k0_pay6 la) slices_S256x512_o64_256_S64x128) (extractStridedSlice S64x128 ![64, 256] (k0_pay8 la) slices_S256x512_o64_256_S64x128) (extractStridedSlice S64x128 ![64, 256] (k0_pay9 la) slices_S256x512_o64_256_S64x128)) k v := rfl

/-- Head 2, chunk 1: the output rows. -/
theorem out_2_1 (la : Vec F S256x512 .f32) (S : FVec F S128x256 .f32) (q k : Vec F S64x128 .f32) (v r : Vec F S64x256 .f32) (g : Vec F S1x256 .f32) :
    k0_pay103 (k0_pay100 k0_pay4 S (k0_pay95 (k0_pay10 la)) (k0_pay97 (iota .tc S64x128 32 [0] iota_S64x128_d0_w32) (k0_pay10 la)) q k v) (k0_pay102 k0_pay4 S (k0_pay95 (k0_pay10 la)) (k0_pay97 (iota .tc S64x128 32 [0] iota_S64x128_d0_w32) (k0_pay10 la)) q k v) r g =
      chunkOut (chunkRaw (extractStridedSlice S64x128 ![64, 256] (k0_pay10 la) slices_S256x512_o64_256_S64x128) S q k v) r g := rfl

/-- Head 2, chunk 2: the state after the chunk. -/
theorem state_2_2 (la : Vec F S256x512 .f32) (S : FVec F S128x256 .f32) (k : Vec F S64x128 .f32) (v : Vec F S64x256 .f32) :
    k0_pay111 S (k0_pay104 (k0_pay10 la)) (k0_pay105 (k0_pay5 (F := F)) (k0_pay6 la) (k0_pay8 la) (k0_pay9 la)) (k0_pay107 (iota .tc S64x128 32 [0] iota_S64x128_d0_w32) (k0_pay10 la)) k v =
      chunkState S (extractStridedSlice S64x128 ![128, 256] (k0_pay10 la) slices_S256x512_o128_256_S64x128) (chunkTot (extractStridedSlice S64x128 ![128, 256] (k0_pay6 la) slices_S256x512_o128_256_S64x128) (extractStridedSlice S64x128 ![128, 256] (k0_pay8 la) slices_S256x512_o128_256_S64x128) (extractStridedSlice S64x128 ![128, 256] (k0_pay9 la) slices_S256x512_o128_256_S64x128)) k v := rfl

/-- Head 2, chunk 2: the output rows. -/
theorem out_2_2 (la : Vec F S256x512 .f32) (S : FVec F S128x256 .f32) (q k : Vec F S64x128 .f32) (v r : Vec F S64x256 .f32) (g : Vec F S1x256 .f32) :
    k0_pay113 (k0_pay110 k0_pay4 S (k0_pay104 (k0_pay10 la)) (k0_pay106 (iota .tc S64x128 32 [0] iota_S64x128_d0_w32) (k0_pay10 la)) q k0_pay108 k v) r (k0_pay112 k0_pay4 S (k0_pay104 (k0_pay10 la)) (k0_pay106 (iota .tc S64x128 32 [0] iota_S64x128_d0_w32) (k0_pay10 la)) q k0_pay108 k v) g =
      chunkOut (chunkRaw (extractStridedSlice S64x128 ![128, 256] (k0_pay10 la) slices_S256x512_o128_256_S64x128) S q k v) r g := rfl

/-- Head 2, chunk 3: the state after the chunk, as stored. -/
theorem state_2_3 (la : Vec F S256x512 .f32) (S : FVec F S128x256 .f32) (k : Vec F S64x128 .f32) (v : Vec F S64x256 .f32) :
    k0_pay123 (k0_pay121 S (k0_pay114 (k0_pay10 la)) (k0_pay115 (k0_pay5 (F := F)) (k0_pay6 la) (k0_pay8 la) (k0_pay9 la)) (k0_pay117 (iota .tc S64x128 32 [0] iota_S64x128_d0_w32) (k0_pay10 la)) k (k0_pay119 v)) =
      shapeCast S1x128x256 (chunkState S (extractStridedSlice S64x128 ![192, 256] (k0_pay10 la) slices_S256x512_o192_256_S64x128) (chunkTot (extractStridedSlice S64x128 ![192, 256] (k0_pay6 la) slices_S256x512_o192_256_S64x128) (extractStridedSlice S64x128 ![192, 256] (k0_pay8 la) slices_S256x512_o192_256_S64x128) (extractStridedSlice S64x128 ![192, 256] (k0_pay9 la) slices_S256x512_o192_256_S64x128)) k v) shapeCasts_S128x256_S1x128x256 := rfl

/-- Head 2, chunk 3: the output rows. -/
theorem out_2_3 (la : Vec F S256x512 .f32) (S : FVec F S128x256 .f32) (q k : Vec F S64x128 .f32) (v r : Vec F S64x256 .f32) (g : Vec F S1x256 .f32) :
    k0_pay122 k0_pay4 S (k0_pay114 (k0_pay10 la)) (k0_pay116 (iota .tc S64x128 32 [0] iota_S64x128_d0_w32) (k0_pay10 la)) (k0_pay118 q) k (k0_pay119 v) (k0_pay120 (iota .tc S64x128 32 [0] iota_S64x128_d0_w32) (k0_pay10 la)) r g =
      chunkOut (chunkRaw (extractStridedSlice S64x128 ![192, 256] (k0_pay10 la) slices_S256x512_o192_256_S64x128) S q k v) r g := rfl

/-- Head 3: the state read from the scratch. -/
theorem load_3 (s : Vec F S1x128x256 .f32) : k0_pay124 s = k0_pay11 s := rfl

/-- Head 3, chunk 0: the state after the chunk. -/
theorem state_3_0 (la : Vec F S256x512 .f32) (S : FVec F S128x256 .f32) (k : Vec F S64x128 .f32) (v : Vec F S64x256 .f32) :
    k0_pay132 S (k0_pay125 (k0_pay10 la)) (k0_pay126 (k0_pay5 (F := F)) (k0_pay6 la) (k0_pay8 la) (k0_pay9 la)) (k0_pay128 (iota .tc S64x128 32 [0] iota_S64x128_d0_w32) (k0_pay10 la)) k (k0_pay130 v) =
      chunkState S (extractStridedSlice S64x128 ![0, 384] (k0_pay10 la) slices_S256x512_o0_384_S64x128) (chunkTot (extractStridedSlice S64x128 ![0, 384] (k0_pay6 la) slices_S256x512_o0_384_S64x128) (extractStridedSlice S64x128 ![0, 384] (k0_pay8 la) slices_S256x512_o0_384_S64x128) (extractStridedSlice S64x128 ![0, 384] (k0_pay9 la) slices_S256x512_o0_384_S64x128)) k v := rfl

/-- Head 3, chunk 0: the output rows. -/
theorem out_3_0 (la : Vec F S256x512 .f32) (S : FVec F S128x256 .f32) (q k : Vec F S64x128 .f32) (v r : Vec F S64x256 .f32) (g : Vec F S1x256 .f32) :
    k0_pay133 k0_pay4 S (k0_pay125 (k0_pay10 la)) (k0_pay127 (iota .tc S64x128 32 [0] iota_S64x128_d0_w32) (k0_pay10 la)) (k0_pay129 q) k (k0_pay130 v) (k0_pay131 (iota .tc S64x128 32 [0] iota_S64x128_d0_w32) (k0_pay10 la)) r g =
      chunkOut (chunkRaw (extractStridedSlice S64x128 ![0, 384] (k0_pay10 la) slices_S256x512_o0_384_S64x128) S q k v) r g := rfl

/-- Head 3, chunk 1: the state after the chunk. -/
theorem state_3_1 (la : Vec F S256x512 .f32) (S : FVec F S128x256 .f32) (k : Vec F S64x128 .f32) (v : Vec F S64x256 .f32) :
    k0_pay140 S (k0_pay134 (k0_pay10 la)) (k0_pay135 (k0_pay5 (F := F)) (k0_pay6 la) (k0_pay8 la) (k0_pay9 la)) (k0_pay136 (iota .tc S64x128 32 [0] iota_S64x128_d0_w32) (k0_pay10 la)) k (k0_pay138 v) =
      chunkState S (extractStridedSlice S64x128 ![64, 384] (k0_pay10 la) slices_S256x512_o64_384_S64x128) (chunkTot (extractStridedSlice S64x128 ![64, 384] (k0_pay6 la) slices_S256x512_o64_384_S64x128) (extractStridedSlice S64x128 ![64, 384] (k0_pay8 la) slices_S256x512_o64_384_S64x128) (extractStridedSlice S64x128 ![64, 384] (k0_pay9 la) slices_S256x512_o64_384_S64x128)) k v := rfl

/-- Head 3, chunk 1: the output rows. -/
theorem out_3_1 (la : Vec F S256x512 .f32) (S : FVec F S128x256 .f32) (q k : Vec F S64x128 .f32) (v r : Vec F S64x256 .f32) (g : Vec F S1x256 .f32) :
    k0_pay141 k0_pay4 S (k0_pay134 (k0_pay10 la)) (k0_pay137 q) (k0_pay138 v) (k0_pay139 (iota .tc S64x128 32 [0] iota_S64x128_d0_w32) (k0_pay10 la) q k) (FloatOps.ofBits .f32 0#32) r g =
      chunkOut (chunkRaw (extractStridedSlice S64x128 ![64, 384] (k0_pay10 la) slices_S256x512_o64_384_S64x128) S q k v) r g := rfl

/-- Head 3, chunk 2: the state after the chunk. -/
theorem state_3_2 (la : Vec F S256x512 .f32) (S : FVec F S128x256 .f32) (k : Vec F S64x128 .f32) (v : Vec F S64x256 .f32) :
    k0_pay151 S (k0_pay142 (k0_pay10 la)) (k0_pay145 (k0_pay5 (F := F)) (k0_pay9 la) (k0_pay143 (k0_pay5 (F := F)) (k0_pay6 la)) (k0_pay144 (k0_pay5 (F := F)) (k0_pay8 la))) (k0_pay146 (iota .tc S64x128 32 [0] iota_S64x128_d0_w32) (k0_pay142 (k0_pay10 la))) k (k0_pay148 v) =
      chunkState S (extractStridedSlice S64x128 ![128, 384] (k0_pay10 la) slices_S256x512_o128_384_S64x128) (chunkTot (extractStridedSlice S64x128 ![128, 384] (k0_pay6 la) slices_S256x512_o128_384_S64x128) (extractStridedSlice S64x128 ![128, 384] (k0_pay8 la) slices_S256x512_o128_384_S64x128) (extractStridedSlice S64x128 ![128, 384] (k0_pay9 la) slices_S256x512_o128_384_S64x128)) k v := rfl

/-- Head 3, chunk 2: the output rows. -/
theorem out_3_2 (la : Vec F S256x512 .f32) (S : FVec F S128x256 .f32) (q k : Vec F S64x128 .f32) (v r : Vec F S64x256 .f32) (g : Vec F S1x256 .f32) :
    k0_pay152 (k0_pay149 k0_pay4 (iota .tc S64x128 32 [0] iota_S64x128_d0_w32) (k0_pay142 (k0_pay10 la)) q k v) (k0_pay150 S (k0_pay142 (k0_pay10 la)) q) r g =
      chunkOut (chunkRaw (extractStridedSlice S64x128 ![128, 384] (k0_pay10 la) slices_S256x512_o128_384_S64x128) S q k v) r g := rfl

/-- Head 3, chunk 3: the state after the chunk, as stored. -/
theorem state_3_3 (la : Vec F S256x512 .f32) (S : FVec F S128x256 .f32) (k : Vec F S64x128 .f32) (v : Vec F S64x256 .f32) :
    k0_pay1 (k0_pay160 (k0_pay156 v) (k0_pay158 (iota .tc S64x128 32 [0] iota_S64x128_d0_w32) (k0_pay153 (k0_pay10 la)) k) (k0_pay159 S (k0_pay154 (k0_pay5 (F := F)) (k0_pay6 la) (k0_pay8 la) (k0_pay9 la))) (constant S128x256 .f32 0#32)) =
      shapeCast S1x128x256 (chunkState S (extractStridedSlice S64x128 ![192, 384] (k0_pay10 la) slices_S256x512_o192_384_S64x128) (chunkTot (extractStridedSlice S64x128 ![192, 384] (k0_pay6 la) slices_S256x512_o192_384_S64x128) (extractStridedSlice S64x128 ![192, 384] (k0_pay8 la) slices_S256x512_o192_384_S64x128) (extractStridedSlice S64x128 ![192, 384] (k0_pay9 la) slices_S256x512_o192_384_S64x128)) k v) shapeCasts_S128x256_S1x128x256 := rfl

/-- Head 3, chunk 3: the output rows. -/
theorem out_3_3 (la : Vec F S256x512 .f32) (S : FVec F S128x256 .f32) (q k : Vec F S64x128 .f32) (v r : Vec F S64x256 .f32) (g : Vec F S1x256 .f32) :
    k0_pay161 (k0_pay157 k0_pay4 S (k0_pay153 (k0_pay10 la)) (k0_pay155 (iota .tc S64x128 32 [0] iota_S64x128_d0_w32) (k0_pay10 la)) q k v) r g =
      chunkOut (chunkRaw (extractStridedSlice S64x128 ![192, 384] (k0_pay10 la) slices_S256x512_o192_384_S64x128) S q k v) r g := rfl

end Cert.KernelIdeal.Unit

end
-- ==== Proof.GlaSpec.lean ====
/- The recurrence in plain sums: what one chunk of 64 rows of one head computes of its rows of q, k, v, of the running sums of its
   decay logarithms and of the state before it; and the sequence of states over a batch's chunks. Both programs are read down to these. -/
module

public import Idealize.ShloMosaic.Lib.Pipeline.ValueKit
public import Idealize.ShloMosaic.Lib.Pointwise

@[expose] public section

noncomputable section

namespace Cert.Gla

open Idealize.ShloMosaic

/-- The sum of the first `i + 1` of 64 numbers. -/
def upTo (x : Fin 64 → EReal) (i : Fin 64) : EReal := ∑ j : Fin 64, if j ≤ i then x j else 0

/-- The factor on the queries, as the programs hold it. -/
def scale : EReal := Ideal.ofBits .f32 1035273459#32

/-- The score of row `j` for row `i`: both rows are weighed by their decay from the chunk's middle, row 31; later rows do not count. -/
def score (b q k : Fin 64 → Fin 128 → EReal) (i j : Fin 64) : EReal :=
  if j ≤ i then ∑ d, (q i d * scale * Ideal.exp (b i d - b 31 d)) * (k j d * Ideal.exp (b 31 d - b j d)) else 0

/-- The chunk's own part of output row `i`. -/
def intra (b q k : Fin 64 → Fin 128 → EReal) (v : Fin 64 → Fin 256 → EReal) (i : Fin 64) (l : Fin 256) : EReal :=
  ∑ j, score b q k i j * v j l

/-- Output row `i` before the normalisation: the chunk's own part and the part read from the state before the chunk. -/
def raw (b q k : Fin 64 → Fin 128 → EReal) (v : Fin 64 → Fin 256 → EReal) (S : Fin 128 → Fin 256 → EReal) (i : Fin 64) (l : Fin 256) :
    EReal :=
  intra b q k v i l + ∑ d, q i d * scale * Ideal.exp (b i d) * S d l

/-- The state after the chunk: the state before it, decayed, and the outer products of the chunk's keys and values. -/
def next (b k : Fin 64 → Fin 128 → EReal) (v : Fin 64 → Fin 256 → EReal) (S : Fin 128 → Fin 256 → EReal) (d : Fin 128) (l : Fin 256) :
    EReal :=
  Ideal.exp (b 63 d) * S d l + ∑ j, k j d * Ideal.exp (b 63 d - b j d) * v j l

/-- A row normalised by the root of its mean square, weighed by `g` and gated by `r · logistic r`. -/
def gated (o : Fin 256 → EReal) (r g : EReal) (l : Fin 256) : EReal :=
  o l * Ideal.rsqrt (Ideal.div (∑ l, o l * o l) (Ideal.ofBits .f32 1132462080#32) + Ideal.ofBits .f32 925353388#32) * g *
    (r * Ideal.logistic r)

/-- An array of two axes read at two natural numbers; 0 outside. -/
def at2 {a b : ℕ} (X : (⟨2, ![a, b]⟩ : Shape).Idx → EReal) (r c : ℕ) : EReal :=
  if h : r < a ∧ c < b then X (ix2 ⟨r, h.1⟩ ⟨c, h.2⟩) else 0

theorem at2_mk {a b : ℕ} (X : (⟨2, ![a, b]⟩ : Shape).Idx → EReal) (i : Fin a) (j : Fin b) (r c : ℕ) (hr : (i : ℕ) = r) (hc : (j : ℕ) = c) :
    X (ix2 i j) = at2 X r c := by
  subst hr hc
  rw [at2, dif_pos (And.intro i.2 j.2)]

/-- Splitting a number in three by `x - x` changes no sum when no term is `+inf`: the second and third parts are 0 at a finite
    number, and at `-inf` the sum is `-inf` already. -/
theorem sum_split {n : ℕ} (p : Fin n → Prop) [DecidablePred p] (x : Fin n → EReal) (hx : ∀ j, x j ≠ ⊤) :
    (∑ j, if p j then x j else 0) + (∑ j, if p j then x j - x j else 0) +
      (∑ j, if p j then x j - x j - (x j - x j) else 0) = ∑ j, if p j then x j else 0 := by
  by_cases h : ∃ j, p j ∧ x j = ⊥
  · obtain ⟨j, hp, hb⟩ := h
    have : (∑ j, if p j then x j else 0) = ⊥ := by
      rw [← Finset.add_sum_erase _ _ (Finset.mem_univ j), if_pos hp, hb, EReal.bot_add]
    rw [this, EReal.bot_add, EReal.bot_add]
  · have h0 : ∀ j, p j → x j - x j = 0 := fun j hj =>
      EReal.sub_self (hx j) (fun hb => h ⟨j, hj, hb⟩)
    have e1 : (∑ j, if p j then x j - x j else 0) = 0 :=
      Finset.sum_eq_zero fun j _ => by
        split
        · exact h0 j ‹_›
        · rfl
    have e2 : (∑ j, if p j then x j - x j - (x j - x j) else 0) = 0 :=
      Finset.sum_eq_zero fun j _ => by
        split
        · rw [h0 j ‹_›, sub_zero]
        · rfl
    rw [e1, e2, add_zero, add_zero]

/-- The last running sum is the whole sum. -/
theorem upTo_last (x : Fin 64 → EReal) : upTo x 63 = ∑ j, x j :=
  Finset.sum_congr rfl fun j _ => if_pos (Fin.le_last j)

/-- An array of four axes read at two natural numbers and two places; 0 outside. -/
def at4 {a b e f : ℕ} (X : (⟨4, ![a, b, e, f]⟩ : Shape).Idx → EReal) (r c : ℕ) (d : Fin e) (l : Fin f) : EReal :=
  if h : r < a ∧ c < b then X (ix4 ⟨r, h.1⟩ ⟨c, h.2⟩ d l) else 0

theorem at4_mk {a b e f : ℕ} (X : (⟨4, ![a, b, e, f]⟩ : Shape).Idx → EReal) (i : Fin a) (j : Fin b) (d : Fin e) (l : Fin f) (r c : ℕ)
    (hr : (i : ℕ) = r) (hc : (j : ℕ) = c) : X (ix4 i j d l) = at4 X r c d l := by
  subst hr hc
  rw [at4, dif_pos (And.intro i.2 j.2)]

/-! The rows of chunk `n` (64 rows each, counted over the whole array) of head `h`: queries, keys, values and gates are column blocks of one
    array, the decay logarithms another array. -/

variable (P : (⟨2, ![32768, 3072]⟩ : Shape).Idx → EReal) (A : (⟨2, ![32768, 512]⟩ : Shape).Idx → EReal)
  (S0 : (⟨4, ![16, 4, 128, 256]⟩ : Shape).Idx → EReal)

def qs (n h : ℕ) (i : Fin 64) (d : Fin 128) : EReal := at2 P (64 * n + i) (128 * h + d)
def ks (n h : ℕ) (i : Fin 64) (d : Fin 128) : EReal := at2 P (64 * n + i) (512 + 128 * h + d)
def vs (n h : ℕ) (i : Fin 64) (l : Fin 256) : EReal := at2 P (64 * n + i) (1024 + 256 * h + l)
def rs (n h : ℕ) (i : Fin 64) (l : Fin 256) : EReal := at2 P (64 * n + i) (2048 + 256 * h + l)
/-- The running sums of the chunk's decay logarithms. -/
def cs (n h : ℕ) (i : Fin 64) (d : Fin 128) : EReal := upTo (fun j => at2 A (64 * n + j) (128 * h + d)) i

/-- The state of head `h` of batch `b` before its chunk `n` (32 chunks a batch). -/
def states (b h : ℕ) : ℕ → Fin 128 → Fin 256 → EReal
  | 0 => at4 S0 b h
  | n + 1 => next (cs A (32 * b + n) h) (ks P (32 * b + n) h) (vs P (32 * b + n) h) (states b h n)

/-- Output row `i` of chunk `n` of batch `b`, head `h`, given the norm's weights. -/
def rows (g : Fin 256 → EReal) (b h n : ℕ) (i : Fin 64) (l : Fin 256) : EReal :=
  gated (raw (cs A (32 * b + n) h) (qs P (32 * b + n) h) (ks P (32 * b + n) h) (vs P (32 * b + n) h) (states P A S0 b h n) i)
    (rs P (32 * b + n) h i l) (g l) l

end Cert.Gla

end
-- ==== Proof.GlaRead.lean ====
/- What one chunk of one head computes over the reals, read at an entry: the functions of `Unit` are the sums of `Gla`. -/
module

public import proofs.«01_k».proof.Proof.GlaUnit
public import proofs.«01_k».proof.Proof.GlaSpec
public import Idealize.ShloMosaic.Lib.WordCmp

@[expose] public section

set_option maxRecDepth 16384

noncomputable section

namespace Cert.KernelIdeal.Unit

open Idealize.ShloMosaic Idealize.ShloMosaic.TcCoe Idealize.SL.Sem
open Cert.KernelIdeal Cert.KernelIdeal.Gen Cert.Gla

/-- A sum over the rows that keeps row `n` alone is that row. -/
theorem sum_row (f : Fin 64 → EReal) (n : Fin 64) :
    (∑ x : Fin 64, Scalar.select (IntOp.cmpi CmpIPredicate.eq (BitVec.ofNat 32 (x : ℕ)) (BitVec.ofNat 32 (n : ℕ))) (f x) 0) = f n := by
  have h : ∀ x n : Fin 64, IntOp.cmpi CmpIPredicate.eq (BitVec.ofNat 32 (x : ℕ)) (BitVec.ofNat 32 (n : ℕ)) = if x = n then 1#1 else 0#1 := by
    decide +kernel
  rw [← Finset.sum_ite_eq' Finset.univ n f |>.trans (if_pos (Finset.mem_univ _))]
  refine Finset.sum_congr rfl fun x _ => ?_
  rw [h]
  split <;> rfl

/-- The ones of the products are 1. -/
theorem ones_apply (x : Fin 64) (l : Fin 128) : k0_pay5 (F := Ideal) (ix2 x l) = (1 : EReal) := by
  pointwise [k0_pay5]

/-- The column sums of the decay logarithms' three parts. -/
theorem chunkTot_apply (hi mid lo : FVec Ideal S64x128 .bf16) (d : Fin 128) (l : Fin 128) :
    chunkTot hi mid lo (ix2 d l) = ((∑ x, hi (ix2 x d)) + (∑ x, mid (ix2 x d)) + (∑ x, lo (ix2 x d)) : EReal) := by
  pointwise [chunkTot]
  simp only [ones_apply, mul_one]

/-- The output rows before the normalisation. -/
theorem chunkRaw_apply (b : FVec Ideal S64x128 .f32) (S : FVec Ideal S128x256 .f32) (q k : Vec Ideal S64x128 .f32) (v : Vec Ideal S64x256 .f32)
    (i : Fin 64) (l : Fin 256) :
    chunkRaw b S q k v (ix2 i l) =
      raw (fun i d => b (ix2 i d)) (fun i d => q (ix2 i d)) (fun i d => k (ix2 i d)) (fun i l => v (ix2 i l)) (fun d l => S (ix2 d l)) i l := by
  have h : ∀ x n : Fin 64, IntOp.cmpi CmpIPredicate.sle (BitVec.ofNat 32 (x : ℕ)) (BitVec.ofNat 32 (n : ℕ)) = if x ≤ n then 1#1 else 0#1 := by
    decide +kernel
  pointwise [chunkRaw, k0_pay17, k0_pay4, k0_pay16]
  refine congrArg₂ (· + ·) (Finset.sum_congr rfl fun x _ => ?_) rfl
  rw [h]
  unfold score
  split
  · refine congrArg (· * _) (Finset.sum_congr rfl fun d _ => ?_)
    have := sum_row (fun x => b (ix2 x d)) 31
    simp only [scale]
    rw [← this]
    rfl
  · exact (zero_mul _).symm

/-- The normalised, gated rows. -/
theorem chunkOut_apply (o : FVec Ideal S64x256 .f32) (r : Vec Ideal S64x256 .f32) (g : Vec Ideal S1x256 .f32)
    (i : Fin 64) (l : Fin 256) :
    chunkOut o r g (ix2 i l) = gated (fun l => o (ix2 i l)) (r (ix2 i l)) (g (ix2 0 l)) l := by
  pointwise [chunkOut, k0_pay20]
  rfl

/-- The state after the chunk. -/
theorem chunkState_apply (S : FVec Ideal S128x256 .f32) (b : FVec Ideal S64x128 .f32) (tot : FVec Ideal S128x128 .f32) (k : Vec Ideal S64x128 .f32)
    (v : Vec Ideal S64x256 .f32) (d : Fin 128) (l : Fin 256) (ht : tot (ix2 d 0) = b (ix2 63 d)) :
    chunkState S b tot k v (ix2 d l) =
      next (fun i d => b (ix2 i d)) (fun i d => k (ix2 i d)) (fun i l => v (ix2 i l)) (fun d l => S (ix2 d l)) d l := by
  pointwise [chunkState, k0_pay19, k0_pay16, k0_pay18]
  rw [ht]
  refine congrArg₂ (· + ·) rfl (Finset.sum_congr rfl fun x _ => ?_)
  have := sum_row (fun x => b (ix2 x d)) 63
  simp only
  rw [← this]
  rfl

/-- The running sums within a chunk: row `64 c + i` of the block's sums holds the sum of the chunk's rows up to `i`. -/
theorem cum_apply (la : Vec Ideal S256x512 .f32) (hla : ∀ i, la i ≠ (⊤ : EReal)) (r : Fin 256) (d : Fin 512) :
    k0_pay10 la (ix2 r d) = (∑ x : Fin 256, if x ≤ r ∧ (x : ℕ) / 64 = (r : ℕ) / 64 then la (ix2 x d) else 0 : EReal) := by
  have h : ∀ x r : Fin 256, FloatOps.sitofp (F := Ideal) FTy.f32
              (BitVec.setWidth 32
                (IntOp.andi (IntOp.cmpi CmpIPredicate.sle (BitVec.ofNat 32 ↑x) (BitVec.ofNat 32 ↑r))
                  (IntOp.cmpi CmpIPredicate.eq (IntOp.shrsi ArithUnit.vector (BitVec.ofNat 32 ↑r) 6#32)
                    (IntOp.shrsi ArithUnit.vector (BitVec.ofNat 32 ↑x) 6#32)))) = (if x ≤ r ∧ (x : ℕ) / 64 = (r : ℕ) / 64 then 1 else 0 : EReal) := by
    intro x r
    have hs : ∀ x : Fin 256, IntOp.shrsi ArithUnit.vector (BitVec.ofNat 32 (x : ℕ)) 6#32 = BitVec.ofNat 32 ((x : ℕ) / 64) := by decide +kernel
    rw [hs, hs, WordCmp.cmpi_sle_ofNat (by have := x.2; omega) (by have := r.2; omega), WordCmp.cmpi_eq_ofNat (by have := r.2; omega) (by have := x.2; omega)]
    by_cases h1 : x ≤ r
    · by_cases h2 : (x : ℕ) / 64 = (r : ℕ) / 64
      · rw [if_pos ⟨h1, h2⟩, decide_eq_true (Fin.le_def.mp h1), decide_eq_true h2.symm]
        show (((1 : ℤ) : ℝ) : EReal) = 1
        norm_num
      · rw [if_neg (fun h => h2 h.2), decide_eq_true (Fin.le_def.mp h1), decide_eq_false (fun h => h2 h.symm)]
        show (((0 : ℤ) : ℝ) : EReal) = 0
        norm_num
    · rw [if_neg (fun h => h1 h.1), decide_eq_false (fun h => h1 (Fin.le_def.mpr h))]
      have : IntOp.andi (BitVec.ofBool false) (BitVec.ofBool (decide ((r : ℕ) / 64 = (x : ℕ) / 64))) = 0#1 := by
        cases decide ((r : ℕ) / 64 = (x : ℕ) / 64) <;> rfl
      rw [this]
      show (((0 : ℤ) : ℝ) : EReal) = 0
      norm_num
  refine Eq.trans ?_ (sum_split (fun x : Fin 256 => x ≤ r ∧ (x : ℕ) / 64 = (r : ℕ) / 64) (fun x => la (ix2 x d)) (fun x => hla _))
  pointwise [k0_pay10, k0_pay6, k0_pay8, k0_pay9, k0_pay7]
  simp only [h, ite_mul, one_mul, zero_mul]

/-- The rows of chunk `c` up to row `i` are the block's rows up to `64 c + i` that lie in the chunk. -/
theorem sum_chunk (c : ℕ) (hc : c < 4) (f : Fin 256 → EReal) (i : Fin 64) (r : Fin 256) (hr : (r : ℕ) = 64 * c + i) :
    (∑ x : Fin 256, if x ≤ r ∧ (x : ℕ) / 64 = (r : ℕ) / 64 then f x else 0) =
      upTo (fun j : Fin 64 => f ⟨64 * c + j, by have := j.2; omega⟩) i := by
  unfold upTo
  symm
  have hi := i.2
  refine Finset.sum_of_injOn (fun j : Fin 64 => (⟨64 * c + j, by have := j.2; omega⟩ : Fin 256)) ?_ ?_ ?_ ?_
  · intro a _ b _ h
    have := congrArg Fin.val h
    exact Fin.ext (by simpa using this)
  · intro _ _
    exact Finset.mem_coe.mpr (Finset.mem_univ _)
  · intro x _ hx
    refine if_neg fun h => hx ⟨⟨x - 64 * c, ?_⟩, Finset.mem_coe.mpr (Finset.mem_univ _), Fin.ext ?_⟩
    · have := h.2; omega
    · have := h.2
      show 64 * c + (x - 64 * c) = (x : ℕ)
      omega
  · intro j _
    have hj := j.2
    refine if_congr ?_ rfl rfl
    rw [Fin.le_def, Fin.le_def]
    show (j : ℕ) ≤ i ↔ 64 * c + (j : ℕ) ≤ r ∧ (64 * c + (j : ℕ)) / 64 = (r : ℕ) / 64
    omega

end Cert.KernelIdeal.Unit

end
-- ==== Proof.GlaStep.lean ====
/- One chunk of one head as the body computes it from the point's blocks is the recurrence's step: the state after the chunk and
   the chunk's output rows, with the blocks' rows counted over the whole array. -/
module

public import proofs.«01_k».proof.Proof.GlaRead

@[expose] public section

set_option maxRecDepth 16384
set_option backward.proofsInPublic true

noncomputable section

namespace Cert.KernelIdeal.Unit

open Idealize.ShloMosaic Idealize.ShloMosaic.TcCoe Idealize.SL.Sem
open Cert.KernelIdeal Cert.KernelIdeal.Gen Cert.Gla

variable (P : (⟨2, ![32768, 3072]⟩ : Shape).Idx → EReal) (A : (⟨2, ![32768, 512]⟩ : Shape).Idx → EReal)
  (S0 : (⟨4, ![16, 4, 128, 256]⟩ : Shape).Idx → EReal) (G : Fin 256 → EReal)

/-- A 64 x 128 slice of a block, read at an entry. -/
theorem slice_apply {φ : EltTy} (X : Vec Ideal S256x512 φ) (c h : ℕ) (hc : c < 4) (hh : h < 4)
    (hs : S256x512.Slices ![64 * c, 128 * h] S64x128) (i : Fin 64) (d : Fin 128) :
    extractStridedSlice S64x128 ![64 * c, 128 * h] X hs (ix2 i d) =
      X (ix2 ⟨64 * c + i, by have := i.2; omega⟩ ⟨128 * h + d, by have := d.2; omega⟩) := by
  pointwise

/-- The running sums of a chunk, read off the point's block of decay logarithms. -/
theorem cum_spec (n c h : ℕ) (hc : c < 4) (hh : h < 4) (la : Vec Ideal S256x512 .f32) (hf : ∀ i, la i ≠ (⊤ : EReal))
    (hla : ∀ (j : Fin 64) (d : Fin 128), la (ix2 ⟨64 * c + j, by have := j.2; omega⟩ ⟨128 * h + d, by have := d.2; omega⟩) = at2 A (64 * n + j) (128 * h + d))
    (hs : S256x512.Slices ![64 * c, 128 * h] S64x128) (i : Fin 64) (d : Fin 128) :
    extractStridedSlice S64x128 ![64 * c, 128 * h] (k0_pay10 la) hs (ix2 i d) = cs A n h i d := by
  rw [slice_apply (φ := .f32) _ c h hc hh hs, cum_apply la hf, sum_chunk c hc _ i _ rfl]
  exact congrArg (upTo · i) (funext fun j => hla j d)

/-- The column sums are the last running sum. -/
theorem tot_spec (n c h : ℕ) (hc : c < 4) (hh : h < 4) (la : Vec Ideal S256x512 .f32) (hf : ∀ i, la i ≠ (⊤ : EReal))
    (hla : ∀ (j : Fin 64) (d : Fin 128), la (ix2 ⟨64 * c + j, by have := j.2; omega⟩ ⟨128 * h + d, by have := d.2; omega⟩) = at2 A (64 * n + j) (128 * h + d))
    (hs : S256x512.Slices ![64 * c, 128 * h] S64x128) (d : Fin 128) (l : Fin 128) :
    chunkTot (extractStridedSlice S64x128 ![64 * c, 128 * h] (k0_pay6 la) hs) (extractStridedSlice S64x128 ![64 * c, 128 * h] (k0_pay8 la) hs)
      (extractStridedSlice S64x128 ![64 * c, 128 * h] (k0_pay9 la) hs) (ix2 d l) = cs A n h 63 d := by
  rw [chunkTot_apply]
  have e (X : Vec Ideal S256x512 .bf16) := fun i => slice_apply (φ := .bf16) X c h hc hh hs i d
  simp only [e]
  unfold cs
  rw [upTo_last]
  have := sum_split (fun _ : Fin 64 => True) (fun j => la (ix2 ⟨64 * c + j, by have := j.2; omega⟩ ⟨128 * h + d, by have := d.2; omega⟩)) (fun j => hf _)
  simp only [if_true] at this
  simp only [hla] at this ⊢
  refine Eq.trans ?_ this
  refine congrArg₂ (· + ·) (congrArg₂ (· + ·) ?_ ?_) ?_ <;> refine Finset.sum_congr rfl fun j _ => ?_
  · exact hla j d
  · pointwise [k0_pay8, k0_pay7, k0_pay6]
    rw [← hla j d]
  · pointwise [k0_pay9, k0_pay8, k0_pay7, k0_pay6]
    rw [← hla j d]

/-- The state after chunk `n` of batch `b`, given the state before it. -/
theorem state_spec (b n c h : ℕ) (hc : c < 4) (hh : h < 4) (la : Vec Ideal S256x512 .f32) (hf : ∀ i, la i ≠ (⊤ : EReal))
    (hla : ∀ (j : Fin 64) (d : Fin 128), la (ix2 ⟨64 * c + j, by have := j.2; omega⟩ ⟨128 * h + d, by have := d.2; omega⟩) = at2 A (64 * (32 * b + n) + j) (128 * h + d))
    (hs : S256x512.Slices ![64 * c, 128 * h] S64x128) (S : FVec Ideal S128x256 .f32) (k : Vec Ideal S64x128 .f32) (v : Vec Ideal S64x256 .f32)
    (hk : ∀ i d, k (ix2 i d) = ks P (32 * b + n) h i d) (hv : ∀ i l, v (ix2 i l) = vs P (32 * b + n) h i l)
    (hS : ∀ d l, S (ix2 d l) = states P A S0 b h n d l) (d : Fin 128) (l : Fin 256) :
    chunkState S (extractStridedSlice S64x128 ![64 * c, 128 * h] (k0_pay10 la) hs)
      (chunkTot (extractStridedSlice S64x128 ![64 * c, 128 * h] (k0_pay6 la) hs) (extractStridedSlice S64x128 ![64 * c, 128 * h] (k0_pay8 la) hs)
        (extractStridedSlice S64x128 ![64 * c, 128 * h] (k0_pay9 la) hs)) k v (ix2 d l) = states P A S0 b h (n + 1) d l := by
  rw [chunkState_apply _ _ _ _ _ _ _ ((tot_spec A _ c h hc hh la hf hla hs d 0).trans (cum_spec A _ c h hc hh la hf hla hs 63 d).symm)]
  simp only [cum_spec A _ c h hc hh la hf hla hs, hk, hv, hS]
  rfl

/-- The output rows of chunk `n` of batch `b`, given the state before it. -/
theorem out_spec (b n c h : ℕ) (hc : c < 4) (hh : h < 4) (la : Vec Ideal S256x512 .f32) (hf : ∀ i, la i ≠ (⊤ : EReal))
    (hla : ∀ (j : Fin 64) (d : Fin 128), la (ix2 ⟨64 * c + j, by have := j.2; omega⟩ ⟨128 * h + d, by have := d.2; omega⟩) = at2 A (64 * (32 * b + n) + j) (128 * h + d))
    (hs : S256x512.Slices ![64 * c, 128 * h] S64x128) (S : FVec Ideal S128x256 .f32) (q k : Vec Ideal S64x128 .f32) (v r : Vec Ideal S64x256 .f32)
    (g : Vec Ideal S1x256 .f32)
    (hq : ∀ i d, q (ix2 i d) = qs P (32 * b + n) h i d)
    (hk : ∀ i d, k (ix2 i d) = ks P (32 * b + n) h i d) (hv : ∀ i l, v (ix2 i l) = vs P (32 * b + n) h i l)
    (hr : ∀ i l, r (ix2 i l) = rs P (32 * b + n) h i l) (hg : ∀ l, g (ix2 0 l) = G l)
    (hS : ∀ d l, S (ix2 d l) = states P A S0 b h n d l) (i : Fin 64) (l : Fin 256) :
    chunkOut (chunkRaw (extractStridedSlice S64x128 ![64 * c, 128 * h] (k0_pay10 la) hs) S q k v) r g (ix2 i l) =
      rows P A S0 G b h n i l := by
  rw [chunkOut_apply]
  simp only [chunkRaw_apply, cum_spec A _ c h hc hh la hf hla hs, hq, hk, hv, hr, hg, hS]
  rfl

/-- A stored state, read at an entry. -/
theorem stored_apply (X : FVec Ideal S128x256 .f32) (x : S1x128x256.Idx) :
    shapeCast S1x128x256 X shapeCasts_S128x256_S1x128x256 x = X (ix2 (x 1) (x 2)) := by
  idx_vars x
  pointwise

/-- A loaded state, read at an entry. -/
theorem load_apply (s : Vec Ideal S1x128x256 .f32) (d : Fin 128) (l : Fin 256) : k0_pay11 s (ix2 d l) = s (ix3 0 d l) := by
  pointwise [k0_pay11]

end Cert.KernelIdeal.Unit

end
-- ==== Proof.GlaHead.lean ====
/- The body's stores of one grid point: per head the state carried through the point's four chunks, each chunk's output rows and
   the state stored at the end, as the recurrence's. The rows read are named by what they hold (`hk`, `hv`, …), so the same
   statements serve the first, the middle and the last point of a batch. -/
module

public import proofs.«01_k».proof.Proof.GlaStep

@[expose] public section

set_option maxRecDepth 16384
set_option backward.proofsInPublic true

noncomputable section

namespace Cert.KernelIdeal.Unit

open Idealize.ShloMosaic Idealize.ShloMosaic.TcCoe Idealize.SL.Sem
open Cert.KernelIdeal Cert.KernelIdeal.Gen Cert.Gla

variable (P : (⟨2, ![32768, 3072]⟩ : Shape).Idx → EReal) (A : (⟨2, ![32768, 512]⟩ : Shape).Idx → EReal)
  (S0 : (⟨4, ![16, 4, 128, 256]⟩ : Shape).Idx → EReal) (G : Fin 256 → EReal) (b n : ℕ)
  (la : Vec Ideal S256x512 .f32) (hf : ∀ i, la i ≠ (⊤ : EReal))
  (hla : ∀ (c h : ℕ) (hc : c < 4) (hh : h < 4) (j : Fin 64) (d : Fin 128),
    la (ix2 ⟨64 * c + j, by have := j.2; omega⟩ ⟨128 * h + d, by have := d.2; omega⟩) = at2 A (64 * (32 * b + (n + c)) + j) (128 * h + d))

/-- Head 0: the state before the point. -/
theorem head_0_0 (s : Vec Ideal S1x128x256 .f32) (hs : ∀ d l, s (ix3 0 d l) = states P A S0 b 0 n d l) (d : Fin 128) (l : Fin 256) :
    k0_pay11 s (ix2 d l) = states P A S0 b 0 n d l :=
  ((load_apply _ _ _)).trans (hs d l)

include hf hla in
/-- Head 0: the state after chunk 0. -/
theorem head_0_1 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l) (d : Fin 128) (l : Fin 256) :
    k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la)) (ix2 d l) = states P A S0 b 0 (n + 1) d l :=
  (congrFun (state_0_0 _ _ _ _) (ix2 d l)).trans (state_spec P A S0 b (n + 0) 0 0 (by decide) (by decide) la hf (hla 0 0 (by decide) (by decide)) _ _ _ _ hk0 hv0 (head_0_0 P A S0 b n s hs) d l)

include hf hla in
/-- Head 0, chunk 0: the output rows. -/
theorem piece_0_0 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (q : Vec Ideal S64x128 .f32) (r : Vec Ideal S64x256 .f32) (g : Vec Ideal S1x256 .f32) (hq : ∀ i d, q (ix2 i d) = qs P (32 * b + (n + 0)) 0 i d)
    (hr : ∀ i l, r (ix2 i l) = rs P (32 * b + (n + 0)) 0 i l) (hg : ∀ l, g (ix2 0 l) = G l) (x : S64x256.Idx) :
    k0_pay20 (k0_pay17 k0_pay4 (iota .tc S64x128 32 [0] iota_S64x128_d0_w32) (k0_pay11 s) (k0_pay12 la) q k0 v0) r g x = rows P A S0 G b 0 (n + 0) (x 0) (x 1) :=
  (congrArg _ (show x = ix2 (x 0) (x 1) from by idx_vars x; rfl)).trans
    ((congrFun (out_0_0 _ _ _ _ _ _ _) (ix2 (x 0) (x 1))).trans
      (out_spec P A S0 G b (n + 0) 0 0 (by decide) (by decide) la hf (hla 0 0 (by decide) (by decide)) _ _ _ _ _ _ _ hq hk0 hv0 hr hg
        (head_0_0 P A S0 b n s hs) (x 0) (x 1)))

include hf hla in
/-- Head 0: the state after chunk 1. -/
theorem head_0_2 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l) (d : Fin 128) (l : Fin 256) :
    k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1 (ix2 d l) = states P A S0 b 0 (n + 2) d l :=
  (congrFun (state_0_1 _ _ _ _) (ix2 d l)).trans (state_spec P A S0 b (n + 1) 1 0 (by decide) (by decide) la hf (hla 1 0 (by decide) (by decide)) _ _ _ _ hk1 hv1 (head_0_1 P A S0 b n la hf hla s hs k0 v0 hk0 hv0) d l)

include hf hla in
/-- Head 0, chunk 1: the output rows. -/
theorem piece_0_1 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l)
    (q : Vec Ideal S64x128 .f32) (r : Vec Ideal S64x256 .f32) (g : Vec Ideal S1x256 .f32) (hq : ∀ i d, q (ix2 i d) = qs P (32 * b + (n + 1)) 0 i d)
    (hr : ∀ i l, r (ix2 i l) = rs P (32 * b + (n + 1)) 0 i l) (hg : ∀ l, g (ix2 0 l) = G l) (x : S64x256.Idx) :
    k0_pay27 (k0_pay25 k0_pay4 (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay23 (iota .tc S64x128 32 [0] iota_S64x128_d0_w32) (k0_pay10 la)) q k1 v1) r g x = rows P A S0 G b 0 (n + 1) (x 0) (x 1) :=
  (congrArg _ (show x = ix2 (x 0) (x 1) from by idx_vars x; rfl)).trans
    ((congrFun (out_0_1 _ _ _ _ _ _ _) (ix2 (x 0) (x 1))).trans
      (out_spec P A S0 G b (n + 1) 1 0 (by decide) (by decide) la hf (hla 1 0 (by decide) (by decide)) _ _ _ _ _ _ _ hq hk1 hv1 hr hg
        (head_0_1 P A S0 b n la hf hla s hs k0 v0 hk0 hv0) (x 0) (x 1)))

include hf hla in
/-- Head 0: the state after chunk 2. -/
theorem head_0_3 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l)
    (k2 : Vec Ideal S64x128 .f32) (v2 : Vec Ideal S64x256 .f32) (hk2 : ∀ i d, k2 (ix2 i d) = ks P (32 * b + (n + 2)) 0 i d) (hv2 : ∀ i l, v2 (ix2 i l) = vs P (32 * b + (n + 2)) 0 i l) (d : Fin 128) (l : Fin 256) :
    k0_pay34 (k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1) (k0_pay28 (k0_pay10 la)) (k0_pay29 (k0_pay5 (F := Ideal)) (k0_pay6 la) (k0_pay8 la) (k0_pay9 la)) (k0_pay31 (iota .tc S64x128 32 [0] iota_S64x128_d0_w32) (k0_pay10 la)) k2 v2 (ix2 d l) = states P A S0 b 0 (n + 3) d l :=
  (congrFun (state_0_2 _ _ _ _) (ix2 d l)).trans (state_spec P A S0 b (n + 2) 2 0 (by decide) (by decide) la hf (hla 2 0 (by decide) (by decide)) _ _ _ _ hk2 hv2 (head_0_2 P A S0 b n la hf hla s hs k0 v0 hk0 hv0 k1 v1 hk1 hv1) d l)

include hf hla in
/-- Head 0, chunk 2: the output rows. -/
theorem piece_0_2 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l)
    (k2 : Vec Ideal S64x128 .f32) (v2 : Vec Ideal S64x256 .f32) (hk2 : ∀ i d, k2 (ix2 i d) = ks P (32 * b + (n + 2)) 0 i d) (hv2 : ∀ i l, v2 (ix2 i l) = vs P (32 * b + (n + 2)) 0 i l)
    (q : Vec Ideal S64x128 .f32) (r : Vec Ideal S64x256 .f32) (g : Vec Ideal S1x256 .f32) (hq : ∀ i d, q (ix2 i d) = qs P (32 * b + (n + 2)) 0 i d)
    (hr : ∀ i l, r (ix2 i l) = rs P (32 * b + (n + 2)) 0 i l) (hg : ∀ l, g (ix2 0 l) = G l) (x : S64x256.Idx) :
    k0_pay36 (k0_pay33 k0_pay4 (k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1) (k0_pay28 (k0_pay10 la)) (k0_pay30 (iota .tc S64x128 32 [0] iota_S64x128_d0_w32) (k0_pay10 la)) q k2 v2) (k0_pay35 k0_pay4 (k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1) (k0_pay28 (k0_pay10 la)) (k0_pay30 (iota .tc S64x128 32 [0] iota_S64x128_d0_w32) (k0_pay10 la)) q k2 v2) r (FloatOps.ofBits .f32 925353388#32) g x = rows P A S0 G b 0 (n + 2) (x 0) (x 1) :=
  (congrArg _ (show x = ix2 (x 0) (x 1) from by idx_vars x; rfl)).trans
    ((congrFun (out_0_2 _ _ _ _ _ _ _) (ix2 (x 0) (x 1))).trans
      (out_spec P A S0 G b (n + 2) 2 0 (by decide) (by decide) la hf (hla 2 0 (by decide) (by decide)) _ _ _ _ _ _ _ hq hk2 hv2 hr hg
        (head_0_2 P A S0 b n la hf hla s hs k0 v0 hk0 hv0 k1 v1 hk1 hv1) (x 0) (x 1)))

include hf hla in
/-- Head 0: the state stored at the end. -/
theorem stored_0 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l)
    (k2 : Vec Ideal S64x128 .f32) (v2 : Vec Ideal S64x256 .f32) (hk2 : ∀ i d, k2 (ix2 i d) = ks P (32 * b + (n + 2)) 0 i d) (hv2 : ∀ i l, v2 (ix2 i l) = vs P (32 * b + (n + 2)) 0 i l)
    (k3 : Vec Ideal S64x128 .f32) (v3 : Vec Ideal S64x256 .f32) (hk3 : ∀ i d, k3 (ix2 i d) = ks P (32 * b + (n + 3)) 0 i d) (hv3 : ∀ i l, v3 (ix2 i l) = vs P (32 * b + (n + 3)) 0 i l) (x : S1x128x256.Idx) :
    k0_pay47 (k0_pay43 (k0_pay34 (k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1) (k0_pay28 (k0_pay10 la)) (k0_pay29 (k0_pay5 (F := Ideal)) (k0_pay6 la) (k0_pay8 la) (k0_pay9 la)) (k0_pay31 (iota .tc S64x128 32 [0] iota_S64x128_d0_w32) (k0_pay10 la)) k2 v2) (k0_pay37 (k0_pay10 la)) (k0_pay38 (k0_pay5 (F := Ideal)) (k0_pay6 la) (k0_pay8 la) (k0_pay9 la)) (k0_pay40 (iota .tc S64x128 32 [0] iota_S64x128_d0_w32) (k0_pay10 la)) k3 v3) x = states P A S0 b 0 (n + 4) (x 1) (x 2) :=
  (congrFun (state_0_3 _ _ _ _) x).trans ((stored_apply _ x).trans (state_spec P A S0 b (n + 3) 3 0 (by decide) (by decide) la hf (hla 3 0 (by decide) (by decide)) _ _ _ _ hk3 hv3 (head_0_3 P A S0 b n la hf hla s hs k0 v0 hk0 hv0 k1 v1 hk1 hv1 k2 v2 hk2 hv2) (x 1) (x 2)))

include hf hla in
/-- Head 0, chunk 3: the output rows. -/
theorem piece_0_3 (s : Vec Ideal S1x128x256 .f32) (hs : ∀ d l, s (ix3 0 d l) = states P A S0 b 0 n d l)
    (k0 : Vec Ideal S64x128 .f32) (v0 : Vec Ideal S64x256 .f32) (hk0 : ∀ i d, k0 (ix2 i d) = ks P (32 * b + (n + 0)) 0 i d) (hv0 : ∀ i l, v0 (ix2 i l) = vs P (32 * b + (n + 0)) 0 i l)
    (k1 : Vec Ideal S64x128 .f32) (v1 : Vec Ideal S64x256 .f32) (hk1 : ∀ i d, k1 (ix2 i d) = ks P (32 * b + (n + 1)) 0 i d) (hv1 : ∀ i l, v1 (ix2 i l) = vs P (32 * b + (n + 1)) 0 i l)
    (k2 : Vec Ideal S64x128 .f32) (v2 : Vec Ideal S64x256 .f32) (hk2 : ∀ i d, k2 (ix2 i d) = ks P (32 * b + (n + 2)) 0 i d) (hv2 : ∀ i l, v2 (ix2 i l) = vs P (32 * b + (n + 2)) 0 i l)
    (k3 : Vec Ideal S64x128 .f32) (v3 : Vec Ideal S64x256 .f32) (hk3 : ∀ i d, k3 (ix2 i d) = ks P (32 * b + (n + 3)) 0 i d) (hv3 : ∀ i l, v3 (ix2 i l) = vs P (32 * b + (n + 3)) 0 i l)
    (q : Vec Ideal S64x128 .f32) (r : Vec Ideal S64x256 .f32) (g : Vec Ideal S1x256 .f32) (hq : ∀ i d, q (ix2 i d) = qs P (32 * b + (n + 3)) 0 i d)
    (hr : ∀ i l, r (ix2 i l) = rs P (32 * b + (n + 3)) 0 i l) (hg : ∀ l, g (ix2 0 l) = G l) (x : S64x256.Idx) :
    k0_pay46 r (k0_pay44 k0_pay4 (k0_pay34 (k0_pay26 (iota .tc S64x128 32 [0] iota_S64x128_d0_w32) (k0_pay19 (k0_pay11 s) (k0_pay12 la) (k0_pay15 (k0_pay5 (F := Ideal)) (k0_pay13 la) (k0_pay14 la)) k0 (k0_pay16 v0) (k0_pay18 (iota .tc S64x128 32 [0] iota_S64x128_d0_w32) (k0_pay12 la))) (k0_pay21 (k0_pay10 la)) (k0_pay22 (k0_pay5 (F := Ideal)) (k0_pay6 la) (k0_pay8 la) (k0_pay9 la)) k1 v1) (k0_pay28 (k0_pay10 la)) (k0_pay29 (k0_pay5 (F := Ideal)) (k0_pay6 la) (k0_pay8 la) (k0_pay9 la)) (k0_pay31 (iota .tc S64x128 32 [0] iota_S64x128_d0_w32) (k0_pay10 la)) k2 v2) (k0_pay37 (k0_pay10 la)) (k0_pay39 (iota .tc S64x128 32 [0] iota_S64x128_d0_w32) (k0_pay10 la)) (k0_pay41 q) k3 v3 g) (k0_pay45 r) x = rows P A S0 G b 0 (n + 3) (x 0) (x 1) :=
  (congrArg _ (show x = ix2 (x 0) (x 1) from by idx_vars x; rfl)).trans
    ((congrFun (out_0_3 _ _ _ _ _ _ _) (ix2 (x 0) (x 1))).trans
      (out_spec P A S0 G b (n + 3) 3 0 (by decide) (by decide) la hf (hla 3 0 (by decide) (by decide)) _ _ _ _ _ _ _ hq hk3 hv3 hr hg
        (head_0_3 P A S0 b n la hf hla s hs k0 v0 hk0 hv0 k1 v1 hk1 hv1 k2 v2 hk2 hv2) (x 0) (x 1)))

/-- Head 1: the state before the point. -/
theorem head_1_0 (s : Vec Ideal S1x128x256 .f32) (hs : ∀ d l, s (ix3 0 d l) = states P A S0 b 1 n d l) (d : Fin 128) (l : Fin 256) :
    k0_pay48 s (ix2 d l) = states P A S0 b 1 n d l :=
  ((congrFun (load_1 _) _).trans (load_apply _ _ _)).trans (hs d l)

include hf hla in
/-- Head 1: the state after chunk 0. -/
theorem head_1_1 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l) (d : Fin 128) (l : Fin 256) :
    k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0 (ix2 d l) = states P A S0 b 1 (n + 1) d l :=
  (congrFun (state_1_0 _ _ _ _) (ix2 d l)).trans (state_spec P A S0 b (n + 0) 0 1 (by decide) (by decide) la hf (hla 0 1 (by decide) (by decide)) _ _ _ _ hk0 hv0 (head_1_0 P A S0 b n s hs) d l)

include hf hla in
/-- Head 1, chunk 0: the output rows. -/
theorem piece_1_0 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (q : Vec Ideal S64x128 .f32) (r : Vec Ideal S64x256 .f32) (g : Vec Ideal S1x256 .f32) (hq : ∀ i d, q (ix2 i d) = qs P (32 * b + (n + 0)) 1 i d)
    (hr : ∀ i l, r (ix2 i l) = rs P (32 * b + (n + 0)) 1 i l) (hg : ∀ l, g (ix2 0 l) = G l) (x : S64x256.Idx) :
    k0_pay57 r (k0_pay56 k0_pay4 (k0_pay48 s) (k0_pay49 (k0_pay10 la)) (k0_pay51 (iota .tc S64x128 32 [0] iota_S64x128_d0_w32) (k0_pay10 la)) (k0_pay53 q) k0 v0 g) x = rows P A S0 G b 1 (n + 0) (x 0) (x 1) :=
  (congrArg _ (show x = ix2 (x 0) (x 1) from by idx_vars x; rfl)).trans
    ((congrFun (out_1_0 _ _ _ _ _ _ _) (ix2 (x 0) (x 1))).trans
      (out_spec P A S0 G b (n + 0) 0 1 (by decide) (by decide) la hf (hla 0 1 (by decide) (by decide)) _ _ _ _ _ _ _ hq hk0 hv0 hr hg
        (head_1_0 P A S0 b n s hs) (x 0) (x 1)))

include hf hla in
/-- Head 1: the state after chunk 1. -/
theorem head_1_2 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l) (d : Fin 128) (l : Fin 256) :
    k0_pay66 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay59 (k0_pay5 (F := Ideal)) (k0_pay6 la) (k0_pay8 la) (k0_pay9 la)) (k0_pay61 (iota .tc S64x128 32 [0] iota_S64x128_d0_w32) (k0_pay10 la)) k1 (k0_pay63 v1) (ix2 d l) = states P A S0 b 1 (n + 2) d l :=
  (congrFun (state_1_1 _ _ _ _) (ix2 d l)).trans (state_spec P A S0 b (n + 1) 1 1 (by decide) (by decide) la hf (hla 1 1 (by decide) (by decide)) _ _ _ _ hk1 hv1 (head_1_1 P A S0 b n la hf hla s hs k0 v0 hk0 hv0) d l)

include hf hla in
/-- Head 1, chunk 1: the output rows. -/
theorem piece_1_1 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l)
    (q : Vec Ideal S64x128 .f32) (r : Vec Ideal S64x256 .f32) (g : Vec Ideal S1x256 .f32) (hq : ∀ i d, q (ix2 i d) = qs P (32 * b + (n + 1)) 1 i d)
    (hr : ∀ i l, r (ix2 i l) = rs P (32 * b + (n + 1)) 1 i l) (hg : ∀ l, g (ix2 0 l) = G l) (x : S64x256.Idx) :
    k0_pay67 k0_pay4 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay62 q) (k0_pay63 v1) (k0_pay64 (iota .tc S64x128 32 [0] iota_S64x128_d0_w32) (k0_pay10 la) q) (k0_pay65 (iota .tc S64x128 32 [0] iota_S64x128_d0_w32) (k0_pay10 la) k1) r g x = rows P A S0 G b 1 (n + 1) (x 0) (x 1) :=
  (congrArg _ (show x = ix2 (x 0) (x 1) from by idx_vars x; rfl)).trans
    ((congrFun (out_1_1 _ _ _ _ _ _ _) (ix2 (x 0) (x 1))).trans
      (out_spec P A S0 G b (n + 1) 1 1 (by decide) (by decide) la hf (hla 1 1 (by decide) (by decide)) _ _ _ _ _ _ _ hq hk1 hv1 hr hg
        (head_1_1 P A S0 b n la hf hla s hs k0 v0 hk0 hv0) (x 0) (x 1)))

include hf hla in
/-- Head 1: the state after chunk 2. -/
theorem head_1_3 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l)
    (k2 : Vec Ideal S64x128 .f32) (v2 : Vec Ideal S64x256 .f32) (hk2 : ∀ i d, k2 (ix2 i d) = ks P (32 * b + (n + 2)) 1 i d) (hv2 : ∀ i l, v2 (ix2 i l) = vs P (32 * b + (n + 2)) 1 i l) (d : Fin 128) (l : Fin 256) :
    k0_pay76 (k0_pay66 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay59 (k0_pay5 (F := Ideal)) (k0_pay6 la) (k0_pay8 la) (k0_pay9 la)) (k0_pay61 (iota .tc S64x128 32 [0] iota_S64x128_d0_w32) (k0_pay10 la)) k1 (k0_pay63 v1)) (k0_pay68 (k0_pay10 la)) (k0_pay70 (k0_pay5 (F := Ideal)) (k0_pay8 la) (k0_pay9 la) (k0_pay69 (k0_pay6 la)) (constant S128x128 .f32 0#32)) (k0_pay71 (iota .tc S64x128 32 [0] iota_S64x128_d0_w32) (k0_pay68 (k0_pay10 la))) k2 (k0_pay73 v2) (ix2 d l) = states P A S0 b 1 (n + 3) d l :=
  (congrFun (state_1_2 _ _ _ _) (ix2 d l)).trans (state_spec P A S0 b (n + 2) 2 1 (by decide) (by decide) la hf (hla 2 1 (by decide) (by decide)) _ _ _ _ hk2 hv2 (head_1_2 P A S0 b n la hf hla s hs k0 v0 hk0 hv0 k1 v1 hk1 hv1) d l)

include hf hla in
/-- Head 1, chunk 2: the output rows. -/
theorem piece_1_2 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l)
    (k2 : Vec Ideal S64x128 .f32) (v2 : Vec Ideal S64x256 .f32) (hk2 : ∀ i d, k2 (ix2 i d) = ks P (32 * b + (n + 2)) 1 i d) (hv2 : ∀ i l, v2 (ix2 i l) = vs P (32 * b + (n + 2)) 1 i l)
    (q : Vec Ideal S64x128 .f32) (r : Vec Ideal S64x256 .f32) (g : Vec Ideal S1x256 .f32) (hq : ∀ i d, q (ix2 i d) = qs P (32 * b + (n + 2)) 1 i d)
    (hr : ∀ i l, r (ix2 i l) = rs P (32 * b + (n + 2)) 1 i l) (hg : ∀ l, g (ix2 0 l) = G l) (x : S64x256.Idx) :
    k0_pay77 (k0_pay66 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay59 (k0_pay5 (F := Ideal)) (k0_pay6 la) (k0_pay8 la) (k0_pay9 la)) (k0_pay61 (iota .tc S64x128 32 [0] iota_S64x128_d0_w32) (k0_pay10 la)) k1 (k0_pay63 v1)) (k0_pay74 k0_pay4 (iota .tc S64x128 32 [0] iota_S64x128_d0_w32) (k0_pay68 (k0_pay10 la)) q k2 v2) (k0_pay75 (k0_pay68 (k0_pay10 la)) q) r g x = rows P A S0 G b 1 (n + 2) (x 0) (x 1) :=
  (congrArg _ (show x = ix2 (x 0) (x 1) from by idx_vars x; rfl)).trans
    ((congrFun (out_1_2 _ _ _ _ _ _ _) (ix2 (x 0) (x 1))).trans
      (out_spec P A S0 G b (n + 2) 2 1 (by decide) (by decide) la hf (hla 2 1 (by decide) (by decide)) _ _ _ _ _ _ _ hq hk2 hv2 hr hg
        (head_1_2 P A S0 b n la hf hla s hs k0 v0 hk0 hv0 k1 v1 hk1 hv1) (x 0) (x 1)))

include hf hla in
/-- Head 1: the state stored at the end. -/
theorem stored_1 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l)
    (k2 : Vec Ideal S64x128 .f32) (v2 : Vec Ideal S64x256 .f32) (hk2 : ∀ i d, k2 (ix2 i d) = ks P (32 * b + (n + 2)) 1 i d) (hv2 : ∀ i l, v2 (ix2 i l) = vs P (32 * b + (n + 2)) 1 i l)
    (k3 : Vec Ideal S64x128 .f32) (v3 : Vec Ideal S64x256 .f32) (hk3 : ∀ i d, k3 (ix2 i d) = ks P (32 * b + (n + 3)) 1 i d) (hv3 : ∀ i l, v3 (ix2 i l) = vs P (32 * b + (n + 3)) 1 i l) (x : S1x128x256.Idx) :
    k0_pay86 (k0_pay76 (k0_pay66 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay59 (k0_pay5 (F := Ideal)) (k0_pay6 la) (k0_pay8 la) (k0_pay9 la)) (k0_pay61 (iota .tc S64x128 32 [0] iota_S64x128_d0_w32) (k0_pay10 la)) k1 (k0_pay63 v1)) (k0_pay68 (k0_pay10 la)) (k0_pay70 (k0_pay5 (F := Ideal)) (k0_pay8 la) (k0_pay9 la) (k0_pay69 (k0_pay6 la)) (constant S128x128 .f32 0#32)) (k0_pay71 (iota .tc S64x128 32 [0] iota_S64x128_d0_w32) (k0_pay68 (k0_pay10 la))) k2 (k0_pay73 v2)) (k0_pay81 v3) (k0_pay83 (iota .tc S64x128 32 [0] iota_S64x128_d0_w32) (k0_pay78 (k0_pay10 la)) k3) (k0_pay84 (k0_pay79 (k0_pay5 (F := Ideal)) (k0_pay6 la) (k0_pay8 la) (k0_pay9 la))) x = states P A S0 b 1 (n + 4) (x 1) (x 2) :=
  (congrFun (state_1_3 _ _ _ _) x).trans ((stored_apply _ x).trans (state_spec P A S0 b (n + 3) 3 1 (by decide) (by decide) la hf (hla 3 1 (by decide) (by decide)) _ _ _ _ hk3 hv3 (head_1_3 P A S0 b n la hf hla s hs k0 v0 hk0 hv0 k1 v1 hk1 hv1 k2 v2 hk2 hv2) (x 1) (x 2)))

include hf hla in
/-- Head 1, chunk 3: the output rows. -/
theorem piece_1_3 (s : Vec Ideal S1x128x256 .f32) (hs : ∀ d l, s (ix3 0 d l) = states P A S0 b 1 n d l)
    (k0 : Vec Ideal S64x128 .f32) (v0 : Vec Ideal S64x256 .f32) (hk0 : ∀ i d, k0 (ix2 i d) = ks P (32 * b + (n + 0)) 1 i d) (hv0 : ∀ i l, v0 (ix2 i l) = vs P (32 * b + (n + 0)) 1 i l)
    (k1 : Vec Ideal S64x128 .f32) (v1 : Vec Ideal S64x256 .f32) (hk1 : ∀ i d, k1 (ix2 i d) = ks P (32 * b + (n + 1)) 1 i d) (hv1 : ∀ i l, v1 (ix2 i l) = vs P (32 * b + (n + 1)) 1 i l)
    (k2 : Vec Ideal S64x128 .f32) (v2 : Vec Ideal S64x256 .f32) (hk2 : ∀ i d, k2 (ix2 i d) = ks P (32 * b + (n + 2)) 1 i d) (hv2 : ∀ i l, v2 (ix2 i l) = vs P (32 * b + (n + 2)) 1 i l)
    (k3 : Vec Ideal S64x128 .f32) (v3 : Vec Ideal S64x256 .f32) (hk3 : ∀ i d, k3 (ix2 i d) = ks P (32 * b + (n + 3)) 1 i d) (hv3 : ∀ i l, v3 (ix2 i l) = vs P (32 * b + (n + 3)) 1 i l)
    (q : Vec Ideal S64x128 .f32) (r : Vec Ideal S64x256 .f32) (g : Vec Ideal S1x256 .f32) (hq : ∀ i d, q (ix2 i d) = qs P (32 * b + (n + 3)) 1 i d)
    (hr : ∀ i l, r (ix2 i l) = rs P (32 * b + (n + 3)) 1 i l) (hg : ∀ l, g (ix2 0 l) = G l) (x : S64x256.Idx) :
    k0_pay85 (k0_pay82 k0_pay4 (iota .tc S64x128 32 [0] iota_S64x128_d0_w32) (k0_pay76 (k0_pay66 (k0_pay55 (k0_pay48 s) (k0_pay49 (k0_pay10 la)) (k0_pay50 (k0_pay5 (F := Ideal)) (k0_pay6 la) (k0_pay8 la) (k0_pay9 la)) (k0_pay52 (iota .tc S64x128 32 [0] iota_S64x128_d0_w32) (k0_pay10 la)) k0 v0) (k0_pay58 (k0_pay10 la)) (k0_pay59 (k0_pay5 (F := Ideal)) (k0_pay6 la) (k0_pay8 la) (k0_pay9 la)) (k0_pay61 (iota .tc S64x128 32 [0] iota_S64x128_d0_w32) (k0_pay10 la)) k1 (k0_pay63 v1)) (k0_pay68 (k0_pay10 la)) (k0_pay70 (k0_pay5 (F := Ideal)) (k0_pay8 la) (k0_pay9 la) (k0_pay69 (k0_pay6 la)) (constant S128x128 .f32 0#32)) (k0_pay71 (iota .tc S64x128 32 [0] iota_S64x128_d0_w32) (k0_pay68 (k0_pay10 la))) k2 (k0_pay73 v2)) (k0_pay78 (k0_pay10 la)) k0_pay80 q k3 v3) r g x = rows P A S0 G b 1 (n + 3) (x 0) (x 1) :=
  (congrArg _ (show x = ix2 (x 0) (x 1) from by idx_vars x; rfl)).trans
    ((congrFun (out_1_3 _ _ _ _ _ _ _) (ix2 (x 0) (x 1))).trans
      (out_spec P A S0 G b (n + 3) 3 1 (by decide) (by decide) la hf (hla 3 1 (by decide) (by decide)) _ _ _ _ _ _ _ hq hk3 hv3 hr hg
        (head_1_3 P A S0 b n la hf hla s hs k0 v0 hk0 hv0 k1 v1 hk1 hv1 k2 v2 hk2 hv2) (x 0) (x 1)))

/-- Head 2: the state before the point. -/
theorem head_2_0 (s : Vec Ideal S1x128x256 .f32) (hs : ∀ d l, s (ix3 0 d l) = states P A S0 b 2 n d l) (d : Fin 128) (l : Fin 256) :
    k0_pay87 s (ix2 d l) = states P A S0 b 2 n d l :=
  ((congrFun (load_2 _) _).trans (load_apply _ _ _)).trans (hs d l)

include hf hla in
/-- Head 2: the state after chunk 0. -/
theorem head_2_1 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l) (d : Fin 128) (l : Fin 256) :
    k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0) (ix2 d l) = states P A S0 b 2 (n + 1) d l :=
  (congrFun (state_2_0 _ _ _ _) (ix2 d l)).trans (state_spec P A S0 b (n + 0) 0 2 (by decide) (by decide) la hf (hla 0 2 (by decide) (by decide)) _ _ _ _ hk0 hv0 (head_2_0 P A S0 b n s hs) d l)

include hf hla in
/-- Head 2, chunk 0: the output rows. -/
theorem piece_2_0 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (q : Vec Ideal S64x128 .f32) (r : Vec Ideal S64x256 .f32) (g : Vec Ideal S1x256 .f32) (hq : ∀ i d, q (ix2 i d) = qs P (32 * b + (n + 0)) 2 i d)
    (hr : ∀ i l, r (ix2 i l) = rs P (32 * b + (n + 0)) 2 i l) (hg : ∀ l, g (ix2 0 l) = G l) (x : S64x256.Idx) :
    k0_pay94 (k0_pay91 k0_pay4 (iota .tc S64x128 32 [0] iota_S64x128_d0_w32) (k0_pay87 s) (k0_pay88 (k0_pay10 la)) (31#32) q k0 v0) r g x = rows P A S0 G b 2 (n + 0) (x 0) (x 1) :=
  (congrArg _ (show x = ix2 (x 0) (x 1) from by idx_vars x; rfl)).trans
    ((congrFun (out_2_0 _ _ _ _ _ _ _) (ix2 (x 0) (x 1))).trans
      (out_spec P A S0 G b (n + 0) 0 2 (by decide) (by decide) la hf (hla 0 2 (by decide) (by decide)) _ _ _ _ _ _ _ hq hk0 hv0 hr hg
        (head_2_0 P A S0 b n s hs) (x 0) (x 1)))

include hf hla in
/-- Head 2: the state after chunk 1. -/
theorem head_2_2 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l) (d : Fin 128) (l : Fin 256) :
    k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1 (ix2 d l) = states P A S0 b 2 (n + 2) d l :=
  (congrFun (state_2_1 _ _ _ _) (ix2 d l)).trans (state_spec P A S0 b (n + 1) 1 2 (by decide) (by decide) la hf (hla 1 2 (by decide) (by decide)) _ _ _ _ hk1 hv1 (head_2_1 P A S0 b n la hf hla s hs k0 v0 hk0 hv0) d l)

include hf hla in
/-- Head 2, chunk 1: the output rows. -/
theorem piece_2_1 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l)
    (q : Vec Ideal S64x128 .f32) (r : Vec Ideal S64x256 .f32) (g : Vec Ideal S1x256 .f32) (hq : ∀ i d, q (ix2 i d) = qs P (32 * b + (n + 1)) 2 i d)
    (hr : ∀ i l, r (ix2 i l) = rs P (32 * b + (n + 1)) 2 i l) (hg : ∀ l, g (ix2 0 l) = G l) (x : S64x256.Idx) :
    k0_pay103 (k0_pay100 k0_pay4 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay97 (iota .tc S64x128 32 [0] iota_S64x128_d0_w32) (k0_pay10 la)) q k1 v1) (k0_pay102 k0_pay4 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay97 (iota .tc S64x128 32 [0] iota_S64x128_d0_w32) (k0_pay10 la)) q k1 v1) r g x = rows P A S0 G b 2 (n + 1) (x 0) (x 1) :=
  (congrArg _ (show x = ix2 (x 0) (x 1) from by idx_vars x; rfl)).trans
    ((congrFun (out_2_1 _ _ _ _ _ _ _) (ix2 (x 0) (x 1))).trans
      (out_spec P A S0 G b (n + 1) 1 2 (by decide) (by decide) la hf (hla 1 2 (by decide) (by decide)) _ _ _ _ _ _ _ hq hk1 hv1 hr hg
        (head_2_1 P A S0 b n la hf hla s hs k0 v0 hk0 hv0) (x 0) (x 1)))

include hf hla in
/-- Head 2: the state after chunk 2. -/
theorem head_2_3 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l)
    (k2 : Vec Ideal S64x128 .f32) (v2 : Vec Ideal S64x256 .f32) (hk2 : ∀ i d, k2 (ix2 i d) = ks P (32 * b + (n + 2)) 2 i d) (hv2 : ∀ i l, v2 (ix2 i l) = vs P (32 * b + (n + 2)) 2 i l) (d : Fin 128) (l : Fin 256) :
    k0_pay111 (k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1) (k0_pay104 (k0_pay10 la)) (k0_pay105 (k0_pay5 (F := Ideal)) (k0_pay6 la) (k0_pay8 la) (k0_pay9 la)) (k0_pay107 (iota .tc S64x128 32 [0] iota_S64x128_d0_w32) (k0_pay10 la)) k2 v2 (ix2 d l) = states P A S0 b 2 (n + 3) d l :=
  (congrFun (state_2_2 _ _ _ _) (ix2 d l)).trans (state_spec P A S0 b (n + 2) 2 2 (by decide) (by decide) la hf (hla 2 2 (by decide) (by decide)) _ _ _ _ hk2 hv2 (head_2_2 P A S0 b n la hf hla s hs k0 v0 hk0 hv0 k1 v1 hk1 hv1) d l)

include hf hla in
/-- Head 2, chunk 2: the output rows. -/
theorem piece_2_2 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l)
    (k2 : Vec Ideal S64x128 .f32) (v2 : Vec Ideal S64x256 .f32) (hk2 : ∀ i d, k2 (ix2 i d) = ks P (32 * b + (n + 2)) 2 i d) (hv2 : ∀ i l, v2 (ix2 i l) = vs P (32 * b + (n + 2)) 2 i l)
    (q : Vec Ideal S64x128 .f32) (r : Vec Ideal S64x256 .f32) (g : Vec Ideal S1x256 .f32) (hq : ∀ i d, q (ix2 i d) = qs P (32 * b + (n + 2)) 2 i d)
    (hr : ∀ i l, r (ix2 i l) = rs P (32 * b + (n + 2)) 2 i l) (hg : ∀ l, g (ix2 0 l) = G l) (x : S64x256.Idx) :
    k0_pay113 (k0_pay110 k0_pay4 (k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1) (k0_pay104 (k0_pay10 la)) (k0_pay106 (iota .tc S64x128 32 [0] iota_S64x128_d0_w32) (k0_pay10 la)) q k0_pay108 k2 v2) r (k0_pay112 k0_pay4 (k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1) (k0_pay104 (k0_pay10 la)) (k0_pay106 (iota .tc S64x128 32 [0] iota_S64x128_d0_w32) (k0_pay10 la)) q k0_pay108 k2 v2) g x = rows P A S0 G b 2 (n + 2) (x 0) (x 1) :=
  (congrArg _ (show x = ix2 (x 0) (x 1) from by idx_vars x; rfl)).trans
    ((congrFun (out_2_2 _ _ _ _ _ _ _) (ix2 (x 0) (x 1))).trans
      (out_spec P A S0 G b (n + 2) 2 2 (by decide) (by decide) la hf (hla 2 2 (by decide) (by decide)) _ _ _ _ _ _ _ hq hk2 hv2 hr hg
        (head_2_2 P A S0 b n la hf hla s hs k0 v0 hk0 hv0 k1 v1 hk1 hv1) (x 0) (x 1)))

include hf hla in
/-- Head 2: the state stored at the end. -/
theorem stored_2 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l)
    (k2 : Vec Ideal S64x128 .f32) (v2 : Vec Ideal S64x256 .f32) (hk2 : ∀ i d, k2 (ix2 i d) = ks P (32 * b + (n + 2)) 2 i d) (hv2 : ∀ i l, v2 (ix2 i l) = vs P (32 * b + (n + 2)) 2 i l)
    (k3 : Vec Ideal S64x128 .f32) (v3 : Vec Ideal S64x256 .f32) (hk3 : ∀ i d, k3 (ix2 i d) = ks P (32 * b + (n + 3)) 2 i d) (hv3 : ∀ i l, v3 (ix2 i l) = vs P (32 * b + (n + 3)) 2 i l) (x : S1x128x256.Idx) :
    k0_pay123 (k0_pay121 (k0_pay111 (k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1) (k0_pay104 (k0_pay10 la)) (k0_pay105 (k0_pay5 (F := Ideal)) (k0_pay6 la) (k0_pay8 la) (k0_pay9 la)) (k0_pay107 (iota .tc S64x128 32 [0] iota_S64x128_d0_w32) (k0_pay10 la)) k2 v2) (k0_pay114 (k0_pay10 la)) (k0_pay115 (k0_pay5 (F := Ideal)) (k0_pay6 la) (k0_pay8 la) (k0_pay9 la)) (k0_pay117 (iota .tc S64x128 32 [0] iota_S64x128_d0_w32) (k0_pay10 la)) k3 (k0_pay119 v3)) x = states P A S0 b 2 (n + 4) (x 1) (x 2) :=
  (congrFun (state_2_3 _ _ _ _) x).trans ((stored_apply _ x).trans (state_spec P A S0 b (n + 3) 3 2 (by decide) (by decide) la hf (hla 3 2 (by decide) (by decide)) _ _ _ _ hk3 hv3 (head_2_3 P A S0 b n la hf hla s hs k0 v0 hk0 hv0 k1 v1 hk1 hv1 k2 v2 hk2 hv2) (x 1) (x 2)))

include hf hla in
/-- Head 2, chunk 3: the output rows. -/
theorem piece_2_3 (s : Vec Ideal S1x128x256 .f32) (hs : ∀ d l, s (ix3 0 d l) = states P A S0 b 2 n d l)
    (k0 : Vec Ideal S64x128 .f32) (v0 : Vec Ideal S64x256 .f32) (hk0 : ∀ i d, k0 (ix2 i d) = ks P (32 * b + (n + 0)) 2 i d) (hv0 : ∀ i l, v0 (ix2 i l) = vs P (32 * b + (n + 0)) 2 i l)
    (k1 : Vec Ideal S64x128 .f32) (v1 : Vec Ideal S64x256 .f32) (hk1 : ∀ i d, k1 (ix2 i d) = ks P (32 * b + (n + 1)) 2 i d) (hv1 : ∀ i l, v1 (ix2 i l) = vs P (32 * b + (n + 1)) 2 i l)
    (k2 : Vec Ideal S64x128 .f32) (v2 : Vec Ideal S64x256 .f32) (hk2 : ∀ i d, k2 (ix2 i d) = ks P (32 * b + (n + 2)) 2 i d) (hv2 : ∀ i l, v2 (ix2 i l) = vs P (32 * b + (n + 2)) 2 i l)
    (k3 : Vec Ideal S64x128 .f32) (v3 : Vec Ideal S64x256 .f32) (hk3 : ∀ i d, k3 (ix2 i d) = ks P (32 * b + (n + 3)) 2 i d) (hv3 : ∀ i l, v3 (ix2 i l) = vs P (32 * b + (n + 3)) 2 i l)
    (q : Vec Ideal S64x128 .f32) (r : Vec Ideal S64x256 .f32) (g : Vec Ideal S1x256 .f32) (hq : ∀ i d, q (ix2 i d) = qs P (32 * b + (n + 3)) 2 i d)
    (hr : ∀ i l, r (ix2 i l) = rs P (32 * b + (n + 3)) 2 i l) (hg : ∀ l, g (ix2 0 l) = G l) (x : S64x256.Idx) :
    k0_pay122 k0_pay4 (k0_pay111 (k0_pay101 (k0_pay93 (k0_pay87 s) (k0_pay89 (k0_pay5 (F := Ideal)) (k0_pay6 la) (k0_pay8 la) (k0_pay9 la)) (k0_pay90 v0) (k0_pay92 (iota .tc S64x128 32 [0] iota_S64x128_d0_w32) (k0_pay88 (k0_pay10 la)) k0)) (k0_pay95 (k0_pay10 la)) (k0_pay96 (k0_pay5 (F := Ideal)) (k0_pay6 la) (k0_pay8 la) (k0_pay9 la)) (k0_pay98 (iota .tc S64x128 32 [0] iota_S64x128_d0_w32)) k1 v1) (k0_pay104 (k0_pay10 la)) (k0_pay105 (k0_pay5 (F := Ideal)) (k0_pay6 la) (k0_pay8 la) (k0_pay9 la)) (k0_pay107 (iota .tc S64x128 32 [0] iota_S64x128_d0_w32) (k0_pay10 la)) k2 v2) (k0_pay114 (k0_pay10 la)) (k0_pay116 (iota .tc S64x128 32 [0] iota_S64x128_d0_w32) (k0_pay10 la)) (k0_pay118 q) k3 (k0_pay119 v3) (k0_pay120 (iota .tc S64x128 32 [0] iota_S64x128_d0_w32) (k0_pay10 la)) r g x = rows P A S0 G b 2 (n + 3) (x 0) (x 1) :=
  (congrArg _ (show x = ix2 (x 0) (x 1) from by idx_vars x; rfl)).trans
    ((congrFun (out_2_3 _ _ _ _ _ _ _) (ix2 (x 0) (x 1))).trans
      (out_spec P A S0 G b (n + 3) 3 2 (by decide) (by decide) la hf (hla 3 2 (by decide) (by decide)) _ _ _ _ _ _ _ hq hk3 hv3 hr hg
        (head_2_3 P A S0 b n la hf hla s hs k0 v0 hk0 hv0 k1 v1 hk1 hv1 k2 v2 hk2 hv2) (x 0) (x 1)))

/-- Head 3: the state before the point. -/
theorem head_3_0 (s : Vec Ideal S1x128x256 .f32) (hs : ∀ d l, s (ix3 0 d l) = states P A S0 b 3 n d l) (d : Fin 128) (l : Fin 256) :
    k0_pay124 s (ix2 d l) = states P A S0 b 3 n d l :=
  ((congrFun (load_3 _) _).trans (load_apply _ _ _)).trans (hs d l)

include hf hla in
/-- Head 3: the state after chunk 0. -/
theorem head_3_1 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l) (d : Fin 128) (l : Fin 256) :
    k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0) (ix2 d l) = states P A S0 b 3 (n + 1) d l :=
  (congrFun (state_3_0 _ _ _ _) (ix2 d l)).trans (state_spec P A S0 b (n + 0) 0 3 (by decide) (by decide) la hf (hla 0 3 (by decide) (by decide)) _ _ _ _ hk0 hv0 (head_3_0 P A S0 b n s hs) d l)

include hf hla in
/-- Head 3, chunk 0: the output rows. -/
theorem piece_3_0 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (q : Vec Ideal S64x128 .f32) (r : Vec Ideal S64x256 .f32) (g : Vec Ideal S1x256 .f32) (hq : ∀ i d, q (ix2 i d) = qs P (32 * b + (n + 0)) 3 i d)
    (hr : ∀ i l, r (ix2 i l) = rs P (32 * b + (n + 0)) 3 i l) (hg : ∀ l, g (ix2 0 l) = G l) (x : S64x256.Idx) :
    k0_pay133 k0_pay4 (k0_pay124 s) (k0_pay125 (k0_pay10 la)) (k0_pay127 (iota .tc S64x128 32 [0] iota_S64x128_d0_w32) (k0_pay10 la)) (k0_pay129 q) k0 (k0_pay130 v0) (k0_pay131 (iota .tc S64x128 32 [0] iota_S64x128_d0_w32) (k0_pay10 la)) r g x = rows P A S0 G b 3 (n + 0) (x 0) (x 1) :=
  (congrArg _ (show x = ix2 (x 0) (x 1) from by idx_vars x; rfl)).trans
    ((congrFun (out_3_0 _ _ _ _ _ _ _) (ix2 (x 0) (x 1))).trans
      (out_spec P A S0 G b (n + 0) 0 3 (by decide) (by decide) la hf (hla 0 3 (by decide) (by decide)) _ _ _ _ _ _ _ hq hk0 hv0 hr hg
        (head_3_0 P A S0 b n s hs) (x 0) (x 1)))

include hf hla in
/-- Head 3: the state after chunk 1. -/
theorem head_3_2 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l) (d : Fin 128) (l : Fin 256) :
    k0_pay140 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay135 (k0_pay5 (F := Ideal)) (k0_pay6 la) (k0_pay8 la) (k0_pay9 la)) (k0_pay136 (iota .tc S64x128 32 [0] iota_S64x128_d0_w32) (k0_pay10 la)) k1 (k0_pay138 v1) (ix2 d l) = states P A S0 b 3 (n + 2) d l :=
  (congrFun (state_3_1 _ _ _ _) (ix2 d l)).trans (state_spec P A S0 b (n + 1) 1 3 (by decide) (by decide) la hf (hla 1 3 (by decide) (by decide)) _ _ _ _ hk1 hv1 (head_3_1 P A S0 b n la hf hla s hs k0 v0 hk0 hv0) d l)

include hf hla in
/-- Head 3, chunk 1: the output rows. -/
theorem piece_3_1 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l)
    (q : Vec Ideal S64x128 .f32) (r : Vec Ideal S64x256 .f32) (g : Vec Ideal S1x256 .f32) (hq : ∀ i d, q (ix2 i d) = qs P (32 * b + (n + 1)) 3 i d)
    (hr : ∀ i l, r (ix2 i l) = rs P (32 * b + (n + 1)) 3 i l) (hg : ∀ l, g (ix2 0 l) = G l) (x : S64x256.Idx) :
    k0_pay141 k0_pay4 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay137 q) (k0_pay138 v1) (k0_pay139 (iota .tc S64x128 32 [0] iota_S64x128_d0_w32) (k0_pay10 la) q k1) (FloatOps.ofBits .f32 0#32) r g x = rows P A S0 G b 3 (n + 1) (x 0) (x 1) :=
  (congrArg _ (show x = ix2 (x 0) (x 1) from by idx_vars x; rfl)).trans
    ((congrFun (out_3_1 _ _ _ _ _ _ _) (ix2 (x 0) (x 1))).trans
      (out_spec P A S0 G b (n + 1) 1 3 (by decide) (by decide) la hf (hla 1 3 (by decide) (by decide)) _ _ _ _ _ _ _ hq hk1 hv1 hr hg
        (head_3_1 P A S0 b n la hf hla s hs k0 v0 hk0 hv0) (x 0) (x 1)))

include hf hla in
/-- Head 3: the state after chunk 2. -/
theorem head_3_3 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l)
    (k2 : Vec Ideal S64x128 .f32) (v2 : Vec Ideal S64x256 .f32) (hk2 : ∀ i d, k2 (ix2 i d) = ks P (32 * b + (n + 2)) 3 i d) (hv2 : ∀ i l, v2 (ix2 i l) = vs P (32 * b + (n + 2)) 3 i l) (d : Fin 128) (l : Fin 256) :
    k0_pay151 (k0_pay140 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay135 (k0_pay5 (F := Ideal)) (k0_pay6 la) (k0_pay8 la) (k0_pay9 la)) (k0_pay136 (iota .tc S64x128 32 [0] iota_S64x128_d0_w32) (k0_pay10 la)) k1 (k0_pay138 v1)) (k0_pay142 (k0_pay10 la)) (k0_pay145 (k0_pay5 (F := Ideal)) (k0_pay9 la) (k0_pay143 (k0_pay5 (F := Ideal)) (k0_pay6 la)) (k0_pay144 (k0_pay5 (F := Ideal)) (k0_pay8 la))) (k0_pay146 (iota .tc S64x128 32 [0] iota_S64x128_d0_w32) (k0_pay142 (k0_pay10 la))) k2 (k0_pay148 v2) (ix2 d l) = states P A S0 b 3 (n + 3) d l :=
  (congrFun (state_3_2 _ _ _ _) (ix2 d l)).trans (state_spec P A S0 b (n + 2) 2 3 (by decide) (by decide) la hf (hla 2 3 (by decide) (by decide)) _ _ _ _ hk2 hv2 (head_3_2 P A S0 b n la hf hla s hs k0 v0 hk0 hv0 k1 v1 hk1 hv1) d l)

include hf hla in
/-- Head 3, chunk 2: the output rows. -/
theorem piece_3_2 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l)
    (k2 : Vec Ideal S64x128 .f32) (v2 : Vec Ideal S64x256 .f32) (hk2 : ∀ i d, k2 (ix2 i d) = ks P (32 * b + (n + 2)) 3 i d) (hv2 : ∀ i l, v2 (ix2 i l) = vs P (32 * b + (n + 2)) 3 i l)
    (q : Vec Ideal S64x128 .f32) (r : Vec Ideal S64x256 .f32) (g : Vec Ideal S1x256 .f32) (hq : ∀ i d, q (ix2 i d) = qs P (32 * b + (n + 2)) 3 i d)
    (hr : ∀ i l, r (ix2 i l) = rs P (32 * b + (n + 2)) 3 i l) (hg : ∀ l, g (ix2 0 l) = G l) (x : S64x256.Idx) :
    k0_pay152 (k0_pay149 k0_pay4 (iota .tc S64x128 32 [0] iota_S64x128_d0_w32) (k0_pay142 (k0_pay10 la)) q k2 v2) (k0_pay150 (k0_pay140 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay135 (k0_pay5 (F := Ideal)) (k0_pay6 la) (k0_pay8 la) (k0_pay9 la)) (k0_pay136 (iota .tc S64x128 32 [0] iota_S64x128_d0_w32) (k0_pay10 la)) k1 (k0_pay138 v1)) (k0_pay142 (k0_pay10 la)) q) r g x = rows P A S0 G b 3 (n + 2) (x 0) (x 1) :=
  (congrArg _ (show x = ix2 (x 0) (x 1) from by idx_vars x; rfl)).trans
    ((congrFun (out_3_2 _ _ _ _ _ _ _) (ix2 (x 0) (x 1))).trans
      (out_spec P A S0 G b (n + 2) 2 3 (by decide) (by decide) la hf (hla 2 3 (by decide) (by decide)) _ _ _ _ _ _ _ hq hk2 hv2 hr hg
        (head_3_2 P A S0 b n la hf hla s hs k0 v0 hk0 hv0 k1 v1 hk1 hv1) (x 0) (x 1)))

include hf hla in
/-- Head 3: the state stored at the end. -/
theorem stored_3 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l)
    (k2 : Vec Ideal S64x128 .f32) (v2 : Vec Ideal S64x256 .f32) (hk2 : ∀ i d, k2 (ix2 i d) = ks P (32 * b + (n + 2)) 3 i d) (hv2 : ∀ i l, v2 (ix2 i l) = vs P (32 * b + (n + 2)) 3 i l)
    (k3 : Vec Ideal S64x128 .f32) (v3 : Vec Ideal S64x256 .f32) (hk3 : ∀ i d, k3 (ix2 i d) = ks P (32 * b + (n + 3)) 3 i d) (hv3 : ∀ i l, v3 (ix2 i l) = vs P (32 * b + (n + 3)) 3 i l) (x : S1x128x256.Idx) :
    k0_pay1 (k0_pay160 (k0_pay156 v3) (k0_pay158 (iota .tc S64x128 32 [0] iota_S64x128_d0_w32) (k0_pay153 (k0_pay10 la)) k3) (k0_pay159 (k0_pay151 (k0_pay140 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay135 (k0_pay5 (F := Ideal)) (k0_pay6 la) (k0_pay8 la) (k0_pay9 la)) (k0_pay136 (iota .tc S64x128 32 [0] iota_S64x128_d0_w32) (k0_pay10 la)) k1 (k0_pay138 v1)) (k0_pay142 (k0_pay10 la)) (k0_pay145 (k0_pay5 (F := Ideal)) (k0_pay9 la) (k0_pay143 (k0_pay5 (F := Ideal)) (k0_pay6 la)) (k0_pay144 (k0_pay5 (F := Ideal)) (k0_pay8 la))) (k0_pay146 (iota .tc S64x128 32 [0] iota_S64x128_d0_w32) (k0_pay142 (k0_pay10 la))) k2 (k0_pay148 v2)) (k0_pay154 (k0_pay5 (F := Ideal)) (k0_pay6 la) (k0_pay8 la) (k0_pay9 la))) (constant S128x256 .f32 0#32)) x = states P A S0 b 3 (n + 4) (x 1) (x 2) :=
  (congrFun (state_3_3 _ _ _ _) x).trans ((stored_apply _ x).trans (state_spec P A S0 b (n + 3) 3 3 (by decide) (by decide) la hf (hla 3 3 (by decide) (by decide)) _ _ _ _ hk3 hv3 (head_3_3 P A S0 b n la hf hla s hs k0 v0 hk0 hv0 k1 v1 hk1 hv1 k2 v2 hk2 hv2) (x 1) (x 2)))

include hf hla in
/-- Head 3, chunk 3: the output rows. -/
theorem piece_3_3 (s : Vec Ideal S1x128x256 .f32) (hs : ∀ d l, s (ix3 0 d l) = states P A S0 b 3 n d l)
    (k0 : Vec Ideal S64x128 .f32) (v0 : Vec Ideal S64x256 .f32) (hk0 : ∀ i d, k0 (ix2 i d) = ks P (32 * b + (n + 0)) 3 i d) (hv0 : ∀ i l, v0 (ix2 i l) = vs P (32 * b + (n + 0)) 3 i l)
    (k1 : Vec Ideal S64x128 .f32) (v1 : Vec Ideal S64x256 .f32) (hk1 : ∀ i d, k1 (ix2 i d) = ks P (32 * b + (n + 1)) 3 i d) (hv1 : ∀ i l, v1 (ix2 i l) = vs P (32 * b + (n + 1)) 3 i l)
    (k2 : Vec Ideal S64x128 .f32) (v2 : Vec Ideal S64x256 .f32) (hk2 : ∀ i d, k2 (ix2 i d) = ks P (32 * b + (n + 2)) 3 i d) (hv2 : ∀ i l, v2 (ix2 i l) = vs P (32 * b + (n + 2)) 3 i l)
    (k3 : Vec Ideal S64x128 .f32) (v3 : Vec Ideal S64x256 .f32) (hk3 : ∀ i d, k3 (ix2 i d) = ks P (32 * b + (n + 3)) 3 i d) (hv3 : ∀ i l, v3 (ix2 i l) = vs P (32 * b + (n + 3)) 3 i l)
    (q : Vec Ideal S64x128 .f32) (r : Vec Ideal S64x256 .f32) (g : Vec Ideal S1x256 .f32) (hq : ∀ i d, q (ix2 i d) = qs P (32 * b + (n + 3)) 3 i d)
    (hr : ∀ i l, r (ix2 i l) = rs P (32 * b + (n + 3)) 3 i l) (hg : ∀ l, g (ix2 0 l) = G l) (x : S64x256.Idx) :
    k0_pay161 (k0_pay157 k0_pay4 (k0_pay151 (k0_pay140 (k0_pay132 (k0_pay124 s) (k0_pay125 (k0_pay10 la)) (k0_pay126 (k0_pay5 (F := Ideal)) (k0_pay6 la) (k0_pay8 la) (k0_pay9 la)) (k0_pay128 (iota .tc S64x128 32 [0] iota_S64x128_d0_w32) (k0_pay10 la)) k0 (k0_pay130 v0)) (k0_pay134 (k0_pay10 la)) (k0_pay135 (k0_pay5 (F := Ideal)) (k0_pay6 la) (k0_pay8 la) (k0_pay9 la)) (k0_pay136 (iota .tc S64x128 32 [0] iota_S64x128_d0_w32) (k0_pay10 la)) k1 (k0_pay138 v1)) (k0_pay142 (k0_pay10 la)) (k0_pay145 (k0_pay5 (F := Ideal)) (k0_pay9 la) (k0_pay143 (k0_pay5 (F := Ideal)) (k0_pay6 la)) (k0_pay144 (k0_pay5 (F := Ideal)) (k0_pay8 la))) (k0_pay146 (iota .tc S64x128 32 [0] iota_S64x128_d0_w32) (k0_pay142 (k0_pay10 la))) k2 (k0_pay148 v2)) (k0_pay153 (k0_pay10 la)) (k0_pay155 (iota .tc S64x128 32 [0] iota_S64x128_d0_w32) (k0_pay10 la)) q k3 v3) r g x = rows P A S0 G b 3 (n + 3) (x 0) (x 1) :=
  (congrArg _ (show x = ix2 (x 0) (x 1) from by idx_vars x; rfl)).trans
    ((congrFun (out_3_3 _ _ _ _ _ _ _) (ix2 (x 0) (x 1))).trans
      (out_spec P A S0 G b (n + 3) 3 3 (by decide) (by decide) la hf (hla 3 3 (by decide) (by decide)) _ _ _ _ _ _ _ hq hk3 hv3 hr hg
        (head_3_3 P A S0 b n la hf hla s hs k0 v0 hk0 hv0 k1 v1 hk1 hv1 k2 v2 hk2 hv2) (x 0) (x 1)))

end Cert.KernelIdeal.Unit

end
-- ==== Proof.GlaBlocks.lean ====
/- The point's blocks: what each input window holds at grid point `t`, as entries of the call's arguments. -/
module

public import proofs.«01_k».proof.Proof.GlaSpec
public import proofs.«01_k».proof.Proof.Gen.KernelIdeal.Value

@[expose] public section

set_option maxRecDepth 16384
set_option backward.proofsInPublic true

noncomputable section

namespace Cert.KernelIdeal.Point

open Idealize.ShloMosaic Idealize.ShloMosaic.TcCoe Idealize.SL.Sem
open Cert.KernelIdeal Cert.KernelIdeal.Gen Cert.Gla
variable (m : (l : Loc nD τ sig) → Buf (Elt Ideal) l)

/-- The arguments as arrays of extended reals. -/
abbrev pA (c : Dev nD) : (⟨2, ![32768, 3072]⟩ : Shape).Idx → EReal := m ((c : Thread nD τ).loc main_arg0)
abbrev laA (c : Dev nD) : (⟨2, ![32768, 512]⟩ : Shape).Idx → EReal := m ((c : Thread nD τ).loc main_arg1)
abbrev gA (c : Dev nD) : (⟨2, ![1, 256]⟩ : Shape).Idx → EReal := m ((c : Thread nD τ).loc main_arg2)
abbrev sA (c : Dev nD) : (⟨4, ![16, 4, 128, 256]⟩ : Shape).Idx → EReal := m ((c : Thread nD τ).loc main_arg3)

/-- Window 0: its block index at each point. -/
theorem idx0 : ∀ t : Fin cfg0.N, win0_0.index t (0 : Fin 2) = t.val ∧ win0_0.index t (1 : Fin 2) = 0 := (by decide +kernel : ∀ t : Fin grid0.N, _)
/-- Window 1: its block index at each point. -/
theorem idx1 : ∀ t : Fin cfg0.N, win0_1.index t (0 : Fin 2) = t.val ∧ win0_1.index t (1 : Fin 2) = 1 := (by decide +kernel : ∀ t : Fin grid0.N, _)
/-- Window 2: its block index at each point. -/
theorem idx2 : ∀ t : Fin cfg0.N, win0_2.index t (0 : Fin 2) = t.val ∧ win0_2.index t (1 : Fin 2) = 1 := (by decide +kernel : ∀ t : Fin grid0.N, _)
/-- Window 3: its block index at each point. -/
theorem idx3 : ∀ t : Fin cfg0.N, win0_3.index t (0 : Fin 2) = t.val ∧ win0_3.index t (1 : Fin 2) = 2 := (by decide +kernel : ∀ t : Fin grid0.N, _)
/-- Window 4: its block index at each point. -/
theorem idx4 : ∀ t : Fin cfg0.N, win0_4.index t (0 : Fin 2) = t.val ∧ win0_4.index t (1 : Fin 2) = 0 := (by decide +kernel : ∀ t : Fin grid0.N, _)
/-- Window 5: its block index at each point. -/
theorem idx5 : ∀ t : Fin cfg0.N, win0_5.index t (0 : Fin 2) = 0 ∧ win0_5.index t (1 : Fin 2) = 0 := (by decide +kernel : ∀ t : Fin grid0.N, _)
/-- Window 6: its block index at each point. -/
theorem idx6 : ∀ t : Fin cfg0.N, win0_6.index t (0 : Fin 4) = t.val / 8 ∧ win0_6.index t (1 : Fin 4) = 0 ∧
    win0_6.index t (2 : Fin 4) = 0 ∧ win0_6.index t (3 : Fin 4) = 0 := (by decide +kernel : ∀ t : Fin grid0.N, _)

/-- The queries, read at the point's block. -/
theorem blk0 (c : Dev nD) (t : Fin cfg0.N) (r : Fin 256) (d : Fin 512) (R D : ℕ) (hR : 256 * t.val + r = R) (hD : (d : ℕ) = D) :
    iblk m c 0 t (ix2 r d) = at2 (pA m c) R D := by
  have ht : t.val < 128 := lt_of_lt_of_eq t.isLt N_0
  rw [← at2_mk (pA m c) ⟨256 * t.val + r, by have := r.2; omega⟩ ⟨d, by have := d.2; omega⟩ R D hR hD]
  blk_simp [iblk, V]
  blk_ext
  all_goals (have e := idx0 t; omega)

/-- The decay logarithms, read at the point's block. -/
theorem blk4 (c : Dev nD) (t : Fin cfg0.N) (r : Fin 256) (d : Fin 512) (R D : ℕ) (hR : 256 * t.val + r = R) (hD : (d : ℕ) = D) :
    iblk m c 4 t (ix2 r d) = at2 (laA m c) R D := by
  have ht : t.val < 128 := lt_of_lt_of_eq t.isLt N_0
  rw [← at2_mk (laA m c) ⟨256 * t.val + r, by have := r.2; omega⟩ ⟨d, by have := d.2; omega⟩ R D hR hD]
  blk_simp [iblk, V]
  blk_ext
  all_goals (have e := idx4 t; omega)

/-- The keys, read at the point's block. -/
theorem blk1 (c : Dev nD) (t : Fin cfg0.N) (r : Fin 256) (d : Fin 512) (R D : ℕ) (hR : 256 * t.val + r = R) (hD : 512 + (d : ℕ) = D) :
    iblk m c 1 t (ix2 r d) = at2 (pA m c) R D := by
  have ht : t.val < 128 := lt_of_lt_of_eq t.isLt N_0
  rw [← at2_mk (pA m c) ⟨256 * t.val + r, by have := r.2; omega⟩ ⟨512 + d, by have := d.2; omega⟩ R D hR hD]
  blk_simp [iblk, V]
  blk_ext
  all_goals (have e := idx1 t; omega)

/-- The values, read at the point's block. -/
theorem blk2 (c : Dev nD) (t : Fin cfg0.N) (r : Fin 256) (d : Fin 1024) (R D : ℕ) (hR : 256 * t.val + r = R) (hD : 1024 + (d : ℕ) = D) :
    iblk m c 2 t (ix2 r d) = at2 (pA m c) R D := by
  have ht : t.val < 128 := lt_of_lt_of_eq t.isLt N_0
  rw [← at2_mk (pA m c) ⟨256 * t.val + r, by have := r.2; omega⟩ ⟨1024 + d, by have := d.2; omega⟩ R D hR hD]
  blk_simp [iblk, V]
  blk_ext
  all_goals (have e := idx2 t; omega)

/-- The gates, read at the point's block. -/
theorem blk3 (c : Dev nD) (t : Fin cfg0.N) (r : Fin 256) (d : Fin 1024) (R D : ℕ) (hR : 256 * t.val + r = R) (hD : 2048 + (d : ℕ) = D) :
    iblk m c 3 t (ix2 r d) = at2 (pA m c) R D := by
  have ht : t.val < 128 := lt_of_lt_of_eq t.isLt N_0
  rw [← at2_mk (pA m c) ⟨256 * t.val + r, by have := r.2; omega⟩ ⟨2048 + d, by have := d.2; omega⟩ R D hR hD]
  blk_simp [iblk, V]
  blk_ext
  all_goals (have e := idx3 t; omega)

/-- The weights of the norm, read at the point's block. -/
theorem blk5 (c : Dev nD) (t : Fin cfg0.N) (l : Fin 256) : iblk m c 5 t (ix2 0 l) = gA m c (ix2 0 l) := by
  blk_simp [iblk, V]
  blk_ext
  all_goals (have e := idx5 t; omega)

/-- The batch's first state, read at the point's block. -/
theorem blk6 (c : Dev nD) (t : Fin cfg0.N) (h : Fin 4) (d : Fin 128) (l : Fin 256) :
    iblk m c 6 t (ix4 0 h d l) = at4 (sA m c) (t.val / 8) h d l := by
  have ht : t.val < 128 := lt_of_lt_of_eq t.isLt N_0
  rw [← at4_mk (sA m c) ⟨t.val / 8, by omega⟩ h d l _ _ rfl rfl]
  blk_simp [iblk, V]
  blk_ext
  all_goals (have e := idx6 t; omega)

/-- No decay logarithm of a block is `+inf`. -/
theorem fin4 (c : Dev nD) (t : Fin cfg0.N) (hA : ∀ i, laA m c i ≠ ⊤) (i : S256x512.Idx) : iblk m c 4 t i ≠ (⊤ : EReal) := by
  have ht : t.val < 128 := lt_of_lt_of_eq t.isLt N_0
  idx_vars i
  rw [blk4 m c t _ _ _ _ rfl rfl, ← at2_mk (laA m c) ⟨256 * t.val + (i0 : ℕ), by omega⟩ ⟨i1, by omega⟩ _ _ rfl rfl]
  exact hA _

/-- The norm's weights, as a row. -/
abbrev gRow (c : Dev nD) (l : Fin 256) : EReal := gA m c (ix2 0 l)

/-- The rows of chunk `e` of the point, of head `h`. -/
theorem rows4 (c : Dev nD) (t : Fin cfg0.N) (e h : ℕ) (he : e < 4) (hh : h < 4) (j : Fin 64) (d : Fin 128) :
    iblk m c 4 t (ix2 ⟨64 * e + j, by have := j.2; omega⟩ ⟨128 * h + d, by have := d.2; omega⟩) =
      at2 (laA m c) (64 * (32 * (t.val / 8) + (4 * (t.val % 8) + e)) + j) (128 * h + d) :=
  blk4 m c t _ _ _ _ (by dsimp only; omega) rfl

end Cert.KernelIdeal.Point

end
-- ==== Proof.GlaCaseA.lean ====
/- What the first point of a batch leaves: the carried states of the four heads and the output rows. -/
module

public import proofs.«01_k».proof.Proof.GlaHead
public import proofs.«01_k».proof.Proof.GlaBlocks
public import Idealize.ShloMosaic.Lib.Pipeline.ReadBack

@[expose] public section

set_option maxRecDepth 16384
set_option backward.proofsInPublic true
set_option backward.isDefEq.respectTransparency false

noncomputable section

namespace Cert.KernelIdeal.Point

open Idealize.ShloMosaic Idealize.ShloMosaic.TcCoe Idealize.SL.Sem
open Cert.KernelIdeal Cert.KernelIdeal.Gen Cert.Gla Cert.KernelIdeal.Unit
variable (m : (l : Loc nD τ sig) → Buf (Elt Ideal) l)

set_option maxHeartbeats 4000000 in
/-- The carried states after the point. -/
theorem stateA (c : Dev nD) (t : Fin cfg0.N) (h0 : t.val % 8 = 0) (h1 : ¬t.val % 8 = 7) (hA : ∀ i, laA m c i ≠ ⊤)
    (h : Fin 4) (d : Fin 128) (l : Fin 256) :
    (outsAt0 (F := Ideal) m c t.val t.isLt).2.2 (ix3 h d l) = states (pA m c) (laA m c) (sA m c) (t.val / 8) h (4 * (t.val % 8) + 4) d l := by
  have ht : t.val < 128 := lt_of_lt_of_eq t.isLt N_0
  rw [outsAt0_A m c t h0 h1]
  frame_open
  simp (disch := decide) only [↓ View.readCov_skip, ↓ View.readCov_cons_toLoadRect, ↓ View.readCov_fill]
  frame_out
  refine View.canon_append_of_piecesOf (Val := Elt Ideal) (s := S4x128x256) (e := .f32) (fun y => states (pA m c) (laA m c) (sA m c) (t.val / 8) (y 0 : ℕ) (4 * (t.val % 8) + 4) (y 1) (y 2)) [_] [_, _, _, _]
    ⟨fun x => ?p3, fun x => ?p2, fun x => ?p1, fun x => ?p0, trivial⟩ (ix3 h d l) ?hc
  case p3 =>
    refine (stored_3 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise [k0_pay3]
      rw [show 4 * (t.val % 8) = 0 by omega]
      exact blk6 m c t 3 d l
    have x0 : (x 0 : ℕ) < 1 := (x 0).isLt
    refine congr (congr (congrArg (fun z => states (pA m c) (laA m c) (sA m c) (t.val / 8) z (4 * (t.val % 8) + 4)) ?_) ?_) ?_
    · show 3 = 3 + 1 * (x 0 : ℕ)
      omega
    · exact Fin.ext (show (x 1 : ℕ) = 0 + 1 * (x 1 : ℕ) by omega)
    · exact Fin.ext (show (x 2 : ℕ) = 0 + 1 * (x 2 : ℕ) by omega)
  case p2 =>
    refine (stored_2 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise [k0_pay3]
      rw [show 4 * (t.val % 8) = 0 by omega]
      exact blk6 m c t 2 d l
    have x0 : (x 0 : ℕ) < 1 := (x 0).isLt
    refine congr (congr (congrArg (fun z => states (pA m c) (laA m c) (sA m c) (t.val / 8) z (4 * (t.val % 8) + 4)) ?_) ?_) ?_
    · show 2 = 2 + 1 * (x 0 : ℕ)
      omega
    · exact Fin.ext (show (x 1 : ℕ) = 0 + 1 * (x 1 : ℕ) by omega)
    · exact Fin.ext (show (x 2 : ℕ) = 0 + 1 * (x 2 : ℕ) by omega)
  case p1 =>
    refine (stored_1 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise [k0_pay3]
      rw [show 4 * (t.val % 8) = 0 by omega]
      exact blk6 m c t 1 d l
    have x0 : (x 0 : ℕ) < 1 := (x 0).isLt
    refine congr (congr (congrArg (fun z => states (pA m c) (laA m c) (sA m c) (t.val / 8) z (4 * (t.val % 8) + 4)) ?_) ?_) ?_
    · show 1 = 1 + 1 * (x 0 : ℕ)
      omega
    · exact Fin.ext (show (x 1 : ℕ) = 0 + 1 * (x 1 : ℕ) by omega)
    · exact Fin.ext (show (x 2 : ℕ) = 0 + 1 * (x 2 : ℕ) by omega)
  case p0 =>
    refine (stored_0 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise [k0_pay3]
      rw [show 4 * (t.val % 8) = 0 by omega]
      exact blk6 m c t 0 d l
    have x0 : (x 0 : ℕ) < 1 := (x 0).isLt
    refine congr (congr (congrArg (fun z => states (pA m c) (laA m c) (sA m c) (t.val / 8) z (4 * (t.val % 8) + 4)) ?_) ?_) ?_
    · show 0 = 0 + 1 * (x 0 : ℕ)
      omega
    · exact Fin.ext (show (x 1 : ℕ) = 0 + 1 * (x 1 : ℕ) by omega)
    · exact Fin.ext (show (x 2 : ℕ) = 0 + 1 * (x 2 : ℕ) by omega)
  case hc =>
    have hd := d.2
    have hl := l.2
    by_cases c0 : (h : ℕ) = 0
    · refine ⟨_, .tail _ (.tail _ (.tail _ (.head _))), ?_⟩
      refine (Rect.mem_set_unit (s := S4x128x256) (inb := by intro a; fin_cases a <;> decide)).mpr fun a => ?_
      fin_cases a
      · exact (show 0 ≤ (h : ℕ) ∧ (h : ℕ) < 0 + 1 by omega)
      · exact (show 0 ≤ (d : ℕ) ∧ (d : ℕ) < 0 + 128 by omega)
      · exact (show 0 ≤ (l : ℕ) ∧ (l : ℕ) < 0 + 256 by omega)
    by_cases c1 : (h : ℕ) = 1
    · refine ⟨_, .tail _ (.tail _ (.head _)), ?_⟩
      refine (Rect.mem_set_unit (s := S4x128x256) (inb := by intro a; fin_cases a <;> decide)).mpr fun a => ?_
      fin_cases a
      · exact (show 1 ≤ (h : ℕ) ∧ (h : ℕ) < 1 + 1 by omega)
      · exact (show 0 ≤ (d : ℕ) ∧ (d : ℕ) < 0 + 128 by omega)
      · exact (show 0 ≤ (l : ℕ) ∧ (l : ℕ) < 0 + 256 by omega)
    by_cases c2 : (h : ℕ) = 2
    · refine ⟨_, .tail _ (.head _), ?_⟩
      refine (Rect.mem_set_unit (s := S4x128x256) (inb := by intro a; fin_cases a <;> decide)).mpr fun a => ?_
      fin_cases a
      · exact (show 2 ≤ (h : ℕ) ∧ (h : ℕ) < 2 + 1 by omega)
      · exact (show 0 ≤ (d : ℕ) ∧ (d : ℕ) < 0 + 128 by omega)
      · exact (show 0 ≤ (l : ℕ) ∧ (l : ℕ) < 0 + 256 by omega)
    by_cases c3 : (h : ℕ) = 3
    · refine ⟨_, .head _, ?_⟩
      refine (Rect.mem_set_unit (s := S4x128x256) (inb := by intro a; fin_cases a <;> decide)).mpr fun a => ?_
      fin_cases a
      · exact (show 3 ≤ (h : ℕ) ∧ (h : ℕ) < 3 + 1 by omega)
      · exact (show 0 ≤ (d : ℕ) ∧ (d : ℕ) < 0 + 128 by omega)
      · exact (show 0 ≤ (l : ℕ) ∧ (l : ℕ) < 0 + 256 by omega)
    · have := h.2
      omega

set_option maxHeartbeats 8000000 in
/-- The output rows of the point. -/
theorem outA (c : Dev nD) (t : Fin cfg0.N) (h0 : t.val % 8 = 0) (h1 : ¬t.val % 8 = 7) (hA : ∀ i, laA m c i ≠ ⊤)
    (r : Fin 256) (l : Fin 1024) :
    (outsAt0 (F := Ideal) m c t.val t.isLt).1 (ix2 r l) =
      rows (pA m c) (laA m c) (sA m c) (gRow m c) (t.val / 8) (l / 256) (4 * (t.val % 8) + r / 64) ⟨r % 64, Nat.mod_lt _ (by decide)⟩ ⟨l % 256, Nat.mod_lt _ (by decide)⟩ := by
  have ht : t.val < 128 := lt_of_lt_of_eq t.isLt N_0
  rw [outsAt0_A m c t h0 h1]
  frame_open
  simp (disch := decide) only [↓ View.readCov_skip, ↓ View.readCov_cons_toLoadRect, ↓ View.readCov_fill]
  frame_out
  canon_tiles x hx
  case piece0 =>
    refine (piece_3_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 3 d l
    have e0 : (r : ℕ) = 192 + (x 0 : ℕ) := hx0
    have e1 : (l : ℕ) = 768 + (x 1 : ℕ) := hx1
    have a0 : (r : ℕ) / 64 = 3 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece1 =>
    refine (piece_3_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 3 d l
    have e0 : (r : ℕ) = 128 + (x 0 : ℕ) := hx0
    have e1 : (l : ℕ) = 768 + (x 1 : ℕ) := hx1
    have a0 : (r : ℕ) / 64 = 2 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece2 =>
    refine (piece_3_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 3 d l
    have e0 : (r : ℕ) = 64 + (x 0 : ℕ) := hx0
    have e1 : (l : ℕ) = 768 + (x 1 : ℕ) := hx1
    have a0 : (r : ℕ) / 64 = 1 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece3 =>
    refine (piece_3_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 3 d l
    have e0 : (r : ℕ) = (x 0 : ℕ) := hx0
    have e1 : (l : ℕ) = 768 + (x 1 : ℕ) := hx1
    have a0 : (r : ℕ) / 64 = 0 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece4 =>
    refine (piece_2_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 2 d l
    have e0 : (r : ℕ) = 192 + (x 0 : ℕ) := hx0
    have e1 : (l : ℕ) = 512 + (x 1 : ℕ) := hx1
    have a0 : (r : ℕ) / 64 = 3 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece5 =>
    refine (piece_2_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 2 d l
    have e0 : (r : ℕ) = 128 + (x 0 : ℕ) := hx0
    have e1 : (l : ℕ) = 512 + (x 1 : ℕ) := hx1
    have a0 : (r : ℕ) / 64 = 2 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece6 =>
    refine (piece_2_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 2 d l
    have e0 : (r : ℕ) = 64 + (x 0 : ℕ) := hx0
    have e1 : (l : ℕ) = 512 + (x 1 : ℕ) := hx1
    have a0 : (r : ℕ) / 64 = 1 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece7 =>
    refine (piece_2_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 2 d l
    have e0 : (r : ℕ) = (x 0 : ℕ) := hx0
    have e1 : (l : ℕ) = 512 + (x 1 : ℕ) := hx1
    have a0 : (r : ℕ) / 64 = 0 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece8 =>
    refine (piece_1_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 1 d l
    have e0 : (r : ℕ) = 192 + (x 0 : ℕ) := hx0
    have e1 : (l : ℕ) = 256 + (x 1 : ℕ) := hx1
    have a0 : (r : ℕ) / 64 = 3 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece9 =>
    refine (piece_1_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 1 d l
    have e0 : (r : ℕ) = 128 + (x 0 : ℕ) := hx0
    have e1 : (l : ℕ) = 256 + (x 1 : ℕ) := hx1
    have a0 : (r : ℕ) / 64 = 2 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece10 =>
    refine (piece_1_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 1 d l
    have e0 : (r : ℕ) = 64 + (x 0 : ℕ) := hx0
    have e1 : (l : ℕ) = 256 + (x 1 : ℕ) := hx1
    have a0 : (r : ℕ) / 64 = 1 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece11 =>
    refine (piece_1_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 1 d l
    have e0 : (r : ℕ) = (x 0 : ℕ) := hx0
    have e1 : (l : ℕ) = 256 + (x 1 : ℕ) := hx1
    have a0 : (r : ℕ) / 64 = 0 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece12 =>
    refine (piece_0_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 0 d l
    have e0 : (r : ℕ) = 192 + (x 0 : ℕ) := hx0
    have e1 : (l : ℕ) = (x 1 : ℕ) := hx1
    have a0 : (r : ℕ) / 64 = 3 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece13 =>
    refine (piece_0_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 0 d l
    have e0 : (r : ℕ) = 128 + (x 0 : ℕ) := hx0
    have e1 : (l : ℕ) = (x 1 : ℕ) := hx1
    have a0 : (r : ℕ) / 64 = 2 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece14 =>
    refine (piece_0_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 0 d l
    have e0 : (r : ℕ) = 64 + (x 0 : ℕ) := hx0
    have e1 : (l : ℕ) = (x 1 : ℕ) := hx1
    have a0 : (r : ℕ) / 64 = 1 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece15 =>
    refine (piece_0_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise [k0_pay3]
      rw [show 4 * (t.val % 8) = 0 by omega]
      exact blk6 m c t 0 d l
    have e0 : (r : ℕ) = (x 0 : ℕ) := hx0
    have e1 : (l : ℕ) = (x 1 : ℕ) := hx1
    have a0 : (r : ℕ) / 64 = 0 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]

end Cert.KernelIdeal.Point

end
-- ==== Proof.GlaCaseB.lean ====
/- What a middle point of a batch leaves: the carried states of the four heads and the output rows. -/
module

public import proofs.«01_k».proof.Proof.GlaHead
public import proofs.«01_k».proof.Proof.GlaBlocks
public import Idealize.ShloMosaic.Lib.Pipeline.ReadBack

@[expose] public section

set_option maxRecDepth 16384
set_option backward.proofsInPublic true
set_option backward.isDefEq.respectTransparency false

noncomputable section

namespace Cert.KernelIdeal.Point

open Idealize.ShloMosaic Idealize.ShloMosaic.TcCoe Idealize.SL.Sem
open Cert.KernelIdeal Cert.KernelIdeal.Gen Cert.Gla Cert.KernelIdeal.Unit
variable (m : (l : Loc nD τ sig) → Buf (Elt Ideal) l)

set_option maxHeartbeats 4000000 in
/-- The carried states after the point. -/
theorem stateB (c : Dev nD) (t : Fin cfg0.N) (h0 : ¬t.val % 8 = 0) (h1 : ¬t.val % 8 = 7) (hA : ∀ i, laA m c i ≠ ⊤)
    (hp : ∀ (h : Fin 4) d l, (outsAt0 (F := Ideal) m c (t.val - 1) (Nat.lt_of_le_of_lt (Nat.sub_le _ _) t.isLt)).2.2 (ix3 h d l) =
      states (pA m c) (laA m c) (sA m c) (t.val / 8) h (4 * (t.val % 8)) d l)
    (h : Fin 4) (d : Fin 128) (l : Fin 256) :
    (outsAt0 (F := Ideal) m c t.val t.isLt).2.2 (ix3 h d l) = states (pA m c) (laA m c) (sA m c) (t.val / 8) h (4 * (t.val % 8) + 4) d l := by
  have ht : t.val < 128 := lt_of_lt_of_eq t.isLt N_0
  rw [outsAt0_B m c t h0 h1]
  frame_out
  canon_tiles x hx
  case piece0 =>
    refine (stored_3 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 3 d l)
    obtain rfl : h = 3 := Fin.ext (hx0.trans (by show 3 + (x 0 : ℕ) = 3; omega))
    obtain rfl : d = x 1 := Fin.ext hx1
    obtain rfl : l = x 2 := Fin.ext hx2
    rfl
  case piece1 =>
    refine (stored_2 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 2 d l)
    obtain rfl : h = 2 := Fin.ext (hx0.trans (by show 2 + (x 0 : ℕ) = 2; omega))
    obtain rfl : d = x 1 := Fin.ext hx1
    obtain rfl : l = x 2 := Fin.ext hx2
    rfl
  case piece2 =>
    refine (stored_1 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 1 d l)
    obtain rfl : h = 1 := Fin.ext (hx0.trans (by show 1 + (x 0 : ℕ) = 1; omega))
    obtain rfl : d = x 1 := Fin.ext hx1
    obtain rfl : l = x 2 := Fin.ext hx2
    rfl
  case piece3 =>
    refine (stored_0 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 0 d l)
    obtain rfl : h = 0 := Fin.ext (hx0.trans (by show (x 0 : ℕ) = 0; omega))
    obtain rfl : d = x 1 := Fin.ext hx1
    obtain rfl : l = x 2 := Fin.ext hx2
    rfl

set_option maxHeartbeats 8000000 in
/-- The output rows of the point. -/
theorem outB (c : Dev nD) (t : Fin cfg0.N) (h0 : ¬t.val % 8 = 0) (h1 : ¬t.val % 8 = 7) (hA : ∀ i, laA m c i ≠ ⊤)
    (hp : ∀ (h : Fin 4) d l, (outsAt0 (F := Ideal) m c (t.val - 1) (Nat.lt_of_le_of_lt (Nat.sub_le _ _) t.isLt)).2.2 (ix3 h d l) =
      states (pA m c) (laA m c) (sA m c) (t.val / 8) h (4 * (t.val % 8)) d l)
    (r : Fin 256) (l : Fin 1024) :
    (outsAt0 (F := Ideal) m c t.val t.isLt).1 (ix2 r l) =
      rows (pA m c) (laA m c) (sA m c) (gRow m c) (t.val / 8) (l / 256) (4 * (t.val % 8) + r / 64) ⟨r % 64, Nat.mod_lt _ (by decide)⟩ ⟨l % 256, Nat.mod_lt _ (by decide)⟩ := by
  have ht : t.val < 128 := lt_of_lt_of_eq t.isLt N_0
  rw [outsAt0_B m c t h0 h1]
  frame_out
  canon_tiles x hx
  case piece0 =>
    refine (piece_3_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 192 + (x 0 : ℕ) := hx0
    have e1 : (l : ℕ) = 768 + (x 1 : ℕ) := hx1
    have a0 : (r : ℕ) / 64 = 3 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece1 =>
    refine (piece_3_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 128 + (x 0 : ℕ) := hx0
    have e1 : (l : ℕ) = 768 + (x 1 : ℕ) := hx1
    have a0 : (r : ℕ) / 64 = 2 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece2 =>
    refine (piece_3_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 64 + (x 0 : ℕ) := hx0
    have e1 : (l : ℕ) = 768 + (x 1 : ℕ) := hx1
    have a0 : (r : ℕ) / 64 = 1 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece3 =>
    refine (piece_3_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = (x 0 : ℕ) := hx0
    have e1 : (l : ℕ) = 768 + (x 1 : ℕ) := hx1
    have a0 : (r : ℕ) / 64 = 0 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece4 =>
    refine (piece_2_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 192 + (x 0 : ℕ) := hx0
    have e1 : (l : ℕ) = 512 + (x 1 : ℕ) := hx1
    have a0 : (r : ℕ) / 64 = 3 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece5 =>
    refine (piece_2_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 128 + (x 0 : ℕ) := hx0
    have e1 : (l : ℕ) = 512 + (x 1 : ℕ) := hx1
    have a0 : (r : ℕ) / 64 = 2 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece6 =>
    refine (piece_2_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 64 + (x 0 : ℕ) := hx0
    have e1 : (l : ℕ) = 512 + (x 1 : ℕ) := hx1
    have a0 : (r : ℕ) / 64 = 1 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece7 =>
    refine (piece_2_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = (x 0 : ℕ) := hx0
    have e1 : (l : ℕ) = 512 + (x 1 : ℕ) := hx1
    have a0 : (r : ℕ) / 64 = 0 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece8 =>
    refine (piece_1_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 192 + (x 0 : ℕ) := hx0
    have e1 : (l : ℕ) = 256 + (x 1 : ℕ) := hx1
    have a0 : (r : ℕ) / 64 = 3 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece9 =>
    refine (piece_1_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 128 + (x 0 : ℕ) := hx0
    have e1 : (l : ℕ) = 256 + (x 1 : ℕ) := hx1
    have a0 : (r : ℕ) / 64 = 2 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece10 =>
    refine (piece_1_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 64 + (x 0 : ℕ) := hx0
    have e1 : (l : ℕ) = 256 + (x 1 : ℕ) := hx1
    have a0 : (r : ℕ) / 64 = 1 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece11 =>
    refine (piece_1_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = (x 0 : ℕ) := hx0
    have e1 : (l : ℕ) = 256 + (x 1 : ℕ) := hx1
    have a0 : (r : ℕ) / 64 = 0 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece12 =>
    refine (piece_0_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 192 + (x 0 : ℕ) := hx0
    have e1 : (l : ℕ) = (x 1 : ℕ) := hx1
    have a0 : (r : ℕ) / 64 = 3 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece13 =>
    refine (piece_0_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 128 + (x 0 : ℕ) := hx0
    have e1 : (l : ℕ) = (x 1 : ℕ) := hx1
    have a0 : (r : ℕ) / 64 = 2 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece14 =>
    refine (piece_0_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 64 + (x 0 : ℕ) := hx0
    have e1 : (l : ℕ) = (x 1 : ℕ) := hx1
    have a0 : (r : ℕ) / 64 = 1 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece15 =>
    refine (piece_0_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = (x 0 : ℕ) := hx0
    have e1 : (l : ℕ) = (x 1 : ℕ) := hx1
    have a0 : (r : ℕ) / 64 = 0 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]

end Cert.KernelIdeal.Point

end
-- ==== Proof.GlaCaseC.lean ====
/- What the last point of a batch leaves: the carried states of the four heads and the output rows, and the states written out. -/
module

public import proofs.«01_k».proof.Proof.GlaHead
public import proofs.«01_k».proof.Proof.GlaBlocks
public import Idealize.ShloMosaic.Lib.Pipeline.ReadBack

@[expose] public section

set_option maxRecDepth 16384
set_option backward.proofsInPublic true
set_option backward.isDefEq.respectTransparency false

noncomputable section

namespace Cert.KernelIdeal.Point

open Idealize.ShloMosaic Idealize.ShloMosaic.TcCoe Idealize.SL.Sem
open Cert.KernelIdeal Cert.KernelIdeal.Gen Cert.Gla Cert.KernelIdeal.Unit
variable (m : (l : Loc nD τ sig) → Buf (Elt Ideal) l)

set_option maxHeartbeats 4000000 in
/-- The carried states after the point. -/
theorem stateC (c : Dev nD) (t : Fin cfg0.N) (h0 : ¬t.val % 8 = 0) (h1 : t.val % 8 = 7) (hA : ∀ i, laA m c i ≠ ⊤)
    (hp : ∀ (h : Fin 4) d l, (outsAt0 (F := Ideal) m c (t.val - 1) (Nat.lt_of_le_of_lt (Nat.sub_le _ _) t.isLt)).2.2 (ix3 h d l) =
      states (pA m c) (laA m c) (sA m c) (t.val / 8) h (4 * (t.val % 8)) d l)
    (h : Fin 4) (d : Fin 128) (l : Fin 256) :
    (outsAt0 (F := Ideal) m c t.val t.isLt).2.2 (ix3 h d l) = states (pA m c) (laA m c) (sA m c) (t.val / 8) h (4 * (t.val % 8) + 4) d l := by
  have ht : t.val < 128 := lt_of_lt_of_eq t.isLt N_0
  rw [outsAt0_C m c t h0 h1]
  frame_open
  simp (disch := decide) only [↓ View.readCov_skip, ↓ View.readCov_cons_toLoadRect, ↓ View.readCov_fill]
  frame_out
  canon_tiles x hx
  case piece0 =>
    refine (stored_3 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 3 d l)
    obtain rfl : h = 3 := Fin.ext (hx0.trans (by show 3 + (x 0 : ℕ) = 3; omega))
    obtain rfl : d = x 1 := Fin.ext hx1
    obtain rfl : l = x 2 := Fin.ext hx2
    rfl
  case piece1 =>
    refine (stored_2 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 2 d l)
    obtain rfl : h = 2 := Fin.ext (hx0.trans (by show 2 + (x 0 : ℕ) = 2; omega))
    obtain rfl : d = x 1 := Fin.ext hx1
    obtain rfl : l = x 2 := Fin.ext hx2
    rfl
  case piece2 =>
    refine (stored_1 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 1 d l)
    obtain rfl : h = 1 := Fin.ext (hx0.trans (by show 1 + (x 0 : ℕ) = 1; omega))
    obtain rfl : d = x 1 := Fin.ext hx1
    obtain rfl : l = x 2 := Fin.ext hx2
    rfl
  case piece3 =>
    refine (stored_0 (pA m c) (laA m c) (sA m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hs =>
      intro d l
      pointwise
      exact (congrFun ((Memref.isWhole_whole cc0_scratch0).read_unread _) _).trans (hp 0 d l)
    obtain rfl : h = 0 := Fin.ext (hx0.trans (by show (x 0 : ℕ) = 0; omega))
    obtain rfl : d = x 1 := Fin.ext hx1
    obtain rfl : l = x 2 := Fin.ext hx2
    rfl

set_option maxHeartbeats 8000000 in
/-- The output rows of the point. -/
theorem outC (c : Dev nD) (t : Fin cfg0.N) (h0 : ¬t.val % 8 = 0) (h1 : t.val % 8 = 7) (hA : ∀ i, laA m c i ≠ ⊤)
    (hp : ∀ (h : Fin 4) d l, (outsAt0 (F := Ideal) m c (t.val - 1) (Nat.lt_of_le_of_lt (Nat.sub_le _ _) t.isLt)).2.2 (ix3 h d l) =
      states (pA m c) (laA m c) (sA m c) (t.val / 8) h (4 * (t.val % 8)) d l)
    (r : Fin 256) (l : Fin 1024) :
    (outsAt0 (F := Ideal) m c t.val t.isLt).1 (ix2 r l) =
      rows (pA m c) (laA m c) (sA m c) (gRow m c) (t.val / 8) (l / 256) (4 * (t.val % 8) + r / 64) ⟨r % 64, Nat.mod_lt _ (by decide)⟩ ⟨l % 256, Nat.mod_lt _ (by decide)⟩ := by
  have ht : t.val < 128 := lt_of_lt_of_eq t.isLt N_0
  rw [outsAt0_C m c t h0 h1]
  frame_open
  simp (disch := decide) only [↓ View.readCov_skip, ↓ View.readCov_cons_toLoadRect, ↓ View.readCov_fill]
  frame_out
  canon_tiles x hx
  case piece0 =>
    refine (piece_3_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 192 + (x 0 : ℕ) := hx0
    have e1 : (l : ℕ) = 768 + (x 1 : ℕ) := hx1
    have a0 : (r : ℕ) / 64 = 3 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece1 =>
    refine (piece_3_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 128 + (x 0 : ℕ) := hx0
    have e1 : (l : ℕ) = 768 + (x 1 : ℕ) := hx1
    have a0 : (r : ℕ) / 64 = 2 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece2 =>
    refine (piece_3_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = 64 + (x 0 : ℕ) := hx0
    have e1 : (l : ℕ) = 768 + (x 1 : ℕ) := hx1
    have a0 : (r : ℕ) / 64 = 1 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece3 =>
    refine (piece_3_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 3 d l)
    have e0 : (r : ℕ) = (x 0 : ℕ) := hx0
    have e1 : (l : ℕ) = 768 + (x 1 : ℕ) := hx1
    have a0 : (r : ℕ) / 64 = 0 := by omega
    have a1 : (l : ℕ) / 256 = 3 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece4 =>
    refine (piece_2_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 192 + (x 0 : ℕ) := hx0
    have e1 : (l : ℕ) = 512 + (x 1 : ℕ) := hx1
    have a0 : (r : ℕ) / 64 = 3 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece5 =>
    refine (piece_2_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 128 + (x 0 : ℕ) := hx0
    have e1 : (l : ℕ) = 512 + (x 1 : ℕ) := hx1
    have a0 : (r : ℕ) / 64 = 2 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece6 =>
    refine (piece_2_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = 64 + (x 0 : ℕ) := hx0
    have e1 : (l : ℕ) = 512 + (x 1 : ℕ) := hx1
    have a0 : (r : ℕ) / 64 = 1 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece7 =>
    refine (piece_2_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 2 d l)
    have e0 : (r : ℕ) = (x 0 : ℕ) := hx0
    have e1 : (l : ℕ) = 512 + (x 1 : ℕ) := hx1
    have a0 : (r : ℕ) / 64 = 0 := by omega
    have a1 : (l : ℕ) / 256 = 2 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece8 =>
    refine (piece_1_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 192 + (x 0 : ℕ) := hx0
    have e1 : (l : ℕ) = 256 + (x 1 : ℕ) := hx1
    have a0 : (r : ℕ) / 64 = 3 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece9 =>
    refine (piece_1_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 128 + (x 0 : ℕ) := hx0
    have e1 : (l : ℕ) = 256 + (x 1 : ℕ) := hx1
    have a0 : (r : ℕ) / 64 = 2 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece10 =>
    refine (piece_1_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = 64 + (x 0 : ℕ) := hx0
    have e1 : (l : ℕ) = 256 + (x 1 : ℕ) := hx1
    have a0 : (r : ℕ) / 64 = 1 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece11 =>
    refine (piece_1_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 1 d l)
    have e0 : (r : ℕ) = (x 0 : ℕ) := hx0
    have e1 : (l : ℕ) = 256 + (x 1 : ℕ) := hx1
    have a0 : (r : ℕ) / 64 = 0 := by omega
    have a1 : (l : ℕ) / 256 = 1 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece12 =>
    refine (piece_0_3 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ ?hk3 ?hv3 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hk3 =>
      intro i d
      pointwise
      exact blk1 m c t _ _ _ _ (by first | (dsimp only <;> omega) | omega) (by first | (dsimp only <;> omega) | omega)
    case hv3 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 192 + (x 0 : ℕ) := hx0
    have e1 : (l : ℕ) = (x 1 : ℕ) := hx1
    have a0 : (r : ℕ) / 64 = 3 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece13 =>
    refine (piece_0_2 (pA m c) (laA m c) (sA m c) (gRow m c) (t.val / 8) (4 * (t.val % 8)) (iblk m c 4 t) (fin4 m c t hA) (rows4 m c t) _ ?hs _ _ ?hk0 ?hv0 _ _ ?hk1 ?hv1 _ _ ?hk2 ?hv2 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hk2 =>
      intro i d
      pointwise
      exact blk1 m c t _ _ _ _ (by first | (dsimp only <;> omega) | omega) (by first | (dsimp only <;> omega) | omega)
    case hv2 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 128 + (x 0 : ℕ) := hx0
    have e1 : (l : ℕ) = (x 1 : ℕ) := hx1
    have a0 : (r : ℕ) / 64 = 2 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece14 =>
    refine (piece_0_1 (pA m c) (laA m c) (sA m c) (gRow m c) (t.val / 8) (4 * (t.val % 8)) (iblk m c 4 t) (fin4 m c t hA) (rows4 m c t) _ ?hs _ _ ?hk0 ?hv0 _ _ ?hk1 ?hv1 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hk1 =>
      intro i d
      pointwise
      exact blk1 m c t _ _ _ _ (by first | (dsimp only <;> omega) | omega) (by first | (dsimp only <;> omega) | omega)
    case hv1 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = 64 + (x 0 : ℕ) := hx0
    have e1 : (l : ℕ) = (x 1 : ℕ) := hx1
    have a0 : (r : ℕ) / 64 = 1 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]
  case piece15 =>
    refine (piece_0_0 (pA m c) (laA m c) (sA m c) (gRow m c) (t.val / 8) (4 * (t.val % 8)) (iblk m c 4 t) (fin4 m c t hA) (rows4 m c t) _ ?hs _ _ ?hk0 ?hv0 _ _ _ ?hq ?hr ?hg x).trans ?_
    case hk0 =>
      intro i d
      pointwise
      exact blk1 m c t _ _ _ _ (by first | (dsimp only <;> omega) | omega) (by first | (dsimp only <;> omega) | omega)
    case hv0 =>
      intro i d
      pointwise
      exact blk2 m c t _ _ _ _ (by first | (dsimp only <;> omega) | omega) (by first | (dsimp only <;> omega) | omega)
    case hq =>
      intro i d
      pointwise
      exact blk0 m c t _ _ _ _ (by first | (dsimp only <;> omega) | omega) (by first | (dsimp only <;> omega) | omega)
    case hr =>
      intro i d
      pointwise
      exact blk3 m c t _ _ _ _ (by first | (dsimp only <;> omega) | omega) (by first | (dsimp only <;> omega) | omega)
    case hg =>
      intro l
      pointwise
      exact blk5 m c t l
    case hs =>
      intro d l
      pointwise
      exact (congrFun ((Memref.isWhole_whole cc0_scratch0).read_unread _) _).trans (hp 0 d l)
    have e0 : (r : ℕ) = (x 0 : ℕ) := hx0
    have e1 : (l : ℕ) = (x 1 : ℕ) := hx1
    have a0 : (r : ℕ) / 64 = 0 := by omega
    have a1 : (l : ℕ) / 256 = 0 := by omega
    have a2 : x 0 = (⟨(r : ℕ) % 64, Nat.mod_lt _ (by decide)⟩ : Fin 64) := Fin.ext (by dsimp only; omega)
    have a3 : x 1 = (⟨(l : ℕ) % 256, Nat.mod_lt _ (by decide)⟩ : Fin 256) := Fin.ext (by dsimp only; omega)
    rw [a0, a1, a2, a3]

set_option maxHeartbeats 4000000 in
/-- The states written out are the carried ones. -/
theorem finalC (c : Dev nD) (t : Fin cfg0.N) (h0 : ¬t.val % 8 = 0) (h1 : t.val % 8 = 7) (h : Fin 4) (d : Fin 128) (l : Fin 256) :
    (outsAt0 (F := Ideal) m c t.val t.isLt).2.1 (ix4 0 h d l) = (outsAt0 (F := Ideal) m c t.val t.isLt).2.2 (ix3 h d l) := by
  rw [outsAt0_C m c t h0 h1]
  frame_out
  pointwise [k0_pay2]
  rw [View.readCov_eq_canon']
  refine congrArg _ ?_
  idx_ext

end Cert.KernelIdeal.Point

end
-- ==== Proof.GlaKernel.lean ====
/- The kernel's two results: the carried states after every grid point (by induction over the points), and from them every output row
   and every final state. -/
module

public import proofs.«01_k».proof.Proof.GlaCaseA
public import proofs.«01_k».proof.Proof.GlaCaseB
public import proofs.«01_k».proof.Proof.GlaCaseC

@[expose] public section

set_option maxRecDepth 16384
set_option backward.proofsInPublic true

noncomputable section

namespace Cert.KernelIdeal.Point

open Idealize.ShloMosaic Idealize.ShloMosaic.TcCoe Idealize.SL.Sem
open Cert.KernelIdeal Cert.KernelIdeal.Gen Cert.KernelIdeal.Value Cert.Gla Cert.KernelIdeal.Unit
variable (m : (l : Loc nD τ sig) → Buf (Elt Ideal) l)

/-- The carried states after grid point `n`: eight points a batch, four chunks a point. -/
theorem carried (c : Dev nD) (hA : ∀ i, laA m c i ≠ ⊤) : ∀ (n : ℕ) (hn : n < cfg0.N) (h : Fin 4) (d : Fin 128) (l : Fin 256),
    (outsAt0 (F := Ideal) m c n hn).2.2 (ix3 h d l) = states (pA m c) (laA m c) (sA m c) (n / 8) h (4 * (n % 8) + 4) d l := by
  intro n
  induction n with
  | zero => exact fun hn => stateA m c ⟨0, hn⟩ rfl (show ¬0 % 8 = 7 by decide) hA
  | succ n ih =>
    intro hn
    by_cases h0 : (n + 1) % 8 = 0
    · exact stateA m c ⟨n + 1, hn⟩ h0 (by dsimp only; omega) hA
    · have hp : ∀ (h : Fin 4) d l, (outsAt0 (F := Ideal) m c n (Nat.lt_of_succ_lt hn)).2.2 (ix3 h d l) =
          states (pA m c) (laA m c) (sA m c) ((n + 1) / 8) h (4 * ((n + 1) % 8)) d l := by
        intro h d l
        rw [ih, show n / 8 = (n + 1) / 8 by omega, show 4 * (n % 8) + 4 = 4 * ((n + 1) % 8) by omega]
      by_cases h1 : (n + 1) % 8 = 7
      · exact stateC m c ⟨n + 1, hn⟩ h0 h1 hA hp
      · exact stateB m c ⟨n + 1, hn⟩ h0 h1 hA hp

/-- The output rows of grid point `n`. -/
theorem written (c : Dev nD) (hA : ∀ i, laA m c i ≠ ⊤) (n : ℕ) (hn : n < cfg0.N) (r : Fin 256) (l : Fin 1024) :
    (outsAt0 (F := Ideal) m c n hn).1 (ix2 r l) =
      rows (pA m c) (laA m c) (sA m c) (gRow m c) (n / 8) (l / 256) (4 * (n % 8) + r / 64) ⟨r % 64, Nat.mod_lt _ (by decide)⟩ ⟨l % 256, Nat.mod_lt _ (by decide)⟩ := by
  by_cases h0 : n % 8 = 0
  · exact outA m c ⟨n, hn⟩ h0 (by dsimp only; omega) hA r l
  · have hp : ∀ (h : Fin 4) d l, (outsAt0 (F := Ideal) m c (n - 1) (Nat.lt_of_le_of_lt (Nat.sub_le _ _) hn)).2.2 (ix3 h d l) =
        states (pA m c) (laA m c) (sA m c) (n / 8) h (4 * (n % 8)) d l := by
      intro h d l
      rw [carried m c hA, show (n - 1) / 8 = n / 8 by omega, show 4 * ((n - 1) % 8) + 4 = 4 * (n % 8) by omega]
    by_cases h1 : n % 8 = 7
    · exact outC m c ⟨n, hn⟩ h0 h1 hA hp r l
    · exact outB m c ⟨n, hn⟩ h0 h1 hA hp r l

/-- The output array: row `r`, column `l`. -/
theorem result_out (c : Dev nD) (hA : ∀ i, laA m c i ≠ ⊤) (r : Fin 32768) (l : Fin 1024) :
    G7 m c (ix2 r l) =
      rows (pA m c) (laA m c) (sA m c) (gRow m c) (r / 2048) (l / 256) (r % 2048 / 64) ⟨r % 64, Nat.mod_lt _ (by decide)⟩ ⟨l % 256, Nat.mod_lt _ (by decide)⟩ := by
  have hr := r.2
  have hl := l.2
  have hp : pt7Of (ix2 r l) = (r : ℕ) / 256 := by
    show 1 * ((r : ℕ) / 256 - 0) + 1 * ((l : ℕ) / 1024 - 0) = (r : ℕ) / 256
    omega
  have hN : cfg0.N = 128 := N_0
  have hlt : pt7Of (ix2 r l) < cfg0.N := by rw [hp, hN]; omega
  unfold G7
  rw [dif_pos hlt, ← outsAt0_sweep m c _ hlt]
  have e : loc7Of (ix2 r l) = ix2 ⟨(r : ℕ) % 256, Nat.mod_lt _ (by decide)⟩ ⟨(l : ℕ) % 1024, Nat.mod_lt _ (by decide)⟩ := by
    funext a
    match a with
    | ⟨0, _⟩ => rfl
    | ⟨1, _⟩ => rfl
  rw [e]
  refine (written m c hA _ hlt _ _).trans ?_
  have a0 : pt7Of (ix2 r l) / 8 = (r : ℕ) / 2048 := by rw [hp]; omega
  have a1 : (l : ℕ) % 1024 / 256 = (l : ℕ) / 256 := by omega
  have a2 : 4 * (pt7Of (ix2 r l) % 8) + (r : ℕ) % 256 / 64 = (r : ℕ) % 2048 / 64 := by rw [hp]; omega
  have a3 : (r : ℕ) % 256 % 64 = (r : ℕ) % 64 := by omega
  have a4 : (l : ℕ) % 1024 % 256 = (l : ℕ) % 256 := by omega
  simp only [a0, a1, a2, a3, a4]

/-- The final states. -/
theorem result_state (c : Dev nD) (hA : ∀ i, laA m c i ≠ ⊤) (b : Fin 16) (h : Fin 4) (d : Fin 128) (l : Fin 256) :
    G8 m c (ix4 b h d l) = states (pA m c) (laA m c) (sA m c) b h 32 d l := by
  have hb := b.2
  have hh := h.2
  have hd := d.2
  have hl := l.2
  have hp : pt8Of (ix4 b h d l) = 8 * (b : ℕ) + 7 := by
    show 8 * (1 * ((b : ℕ) / 1 - 0) + 1 * ((h : ℕ) / 4 - 0) + 1 * ((d : ℕ) / 128 - 0) + 1 * ((l : ℕ) / 256 - 0)) + 7 = _
    omega
  have hN : cfg0.N = 128 := N_0
  have hlt : pt8Of (ix4 b h d l) < cfg0.N := by rw [hp, hN]; omega
  unfold G8
  rw [dif_pos hlt, ← outsAt0_sweep m c _ hlt]
  have e : loc8Of (ix4 b h d l) = ix4 0 h d l := by
    funext a
    match a with
    | ⟨0, _⟩ => exact Fin.ext (Nat.mod_one _)
    | ⟨1, _⟩ => exact Fin.ext (Nat.mod_eq_of_lt hh)
    | ⟨2, _⟩ => exact Fin.ext (Nat.mod_eq_of_lt hd)
    | ⟨3, _⟩ => exact Fin.ext (Nat.mod_eq_of_lt hl)
  rw [e]
  refine (finalC m c ⟨_, hlt⟩ (by dsimp only; rw [hp]; omega) (by dsimp only; rw [hp]; omega) h d l).trans ((carried m c hA _ hlt h d l).trans ?_)
  rw [hp, show (8 * (b : ℕ) + 7) / 8 = b by omega, show 4 * ((8 * (b : ℕ) + 7) % 8) + 4 = 32 by omega]

end Cert.KernelIdeal.Point

end
-- ==== Proof.GlaCumsum.lean ====
/- The reference's running sum, printed as a window of 64 rows that slides over the padded rows, read as a plain sum. -/
module

public import proofs.«01_k».proof.Proof.GlaSpec
public import proofs.«01_k».proof.Proof.Gen.ReferenceIdeal.Step

@[expose] public section

set_option maxRecDepth 16384

noncomputable section

namespace Cert.ReferenceIdeal.Gla

open Idealize.ShloMosaic Cert.ReferenceIdeal Cert.ReferenceIdeal.Gen Cert.Gla

/-- A left fold of additions is the start plus the sum. -/
theorem foldl_sum {N : ℕ} (f : Fin N → EReal) (l : List (Fin N)) (a : EReal) :
    l.foldl (fun r n => r + f n) a = a + (l.map f).sum := by
  induction l generalizing a with
  | nil => exact (add_zero a).symm
  | cons n l ih => rw [List.foldl_cons, ih, List.map_cons, List.sum_cons, add_assoc]

/-- The window over the rows before row `i`, written as a sum over window places, is the sum of the rows up to `i`. -/
theorem window_sum (x : Fin 64 → EReal) (i : Fin 64) :
    (∑ k : Fin 64, if h : 63 ≤ (i : ℕ) + k ∧ (i : ℕ) + k - 63 < 64 then x ⟨(i : ℕ) + k - 63, h.2⟩ else 0) = upTo x i := by
  unfold upTo
  rw [← Equiv.sum_comp (Equiv.addRight (i + 1)) fun j => if j ≤ i then x j else 0]
  refine Finset.sum_congr rfl fun k _ => ?_
  have hk := k.2
  have hi := i.2
  have e : ((k + (i + 1) : Fin 64) : ℕ) = ((k : ℕ) + ((i : ℕ) + 1) % 64) % 64 := rfl
  show _ = if k + (i + 1) ≤ i then x (k + (i + 1)) else 0
  by_cases c : 63 ≤ (i : ℕ) + k
  · rw [dif_pos ⟨c, by omega⟩, if_pos (Fin.le_def.mpr (by omega))]
    exact congrArg x (Fin.ext (show (i : ℕ) + k - 63 = ((k + (i + 1) : Fin 64) : ℕ) by omega))
  · rw [dif_neg (fun q => c q.1), if_neg (fun q => c (by have := Fin.le_def.mp q; omega))]

/-- The printed running sum along the third axis. -/
theorem cum_host (x : FVec Ideal S16x32x64x4x128 .f32) (z : FVec Ideal S_ .f32) (hz : ∀ i, z i = (0 : EReal))
    (b : Fin 16) (n : Fin 32) (i : Fin 64) (h' : Fin 4) (d : Fin 128) :
    Host.reduceWindowAdd ![1, 1, 64, 1, 1] ![1, 1, 1, 1, 1] ![0, 0, 63, 0, 0] ![0, 0, 0, 0, 0] x z
      reduceWindows_S16x32x64x4x128_S16x32x64x4x128_w1s1p0_0_w1s1p0_0_w64s1p63_0_w1s1p0_0_w1s1p0_0 h_S_ (ix5 b n i h' d) =
      upTo (fun j => x (ix5 b n j h' d)) i := by
  refine Eq.trans ?_ (window_sum (fun j => x (ix5 b n j h' d)) i)
  unfold Host.reduceWindowAdd
  show Host.reduceWindow (s := S16x32x64x4x128) (t := S16x32x64x4x128) (· + ·) ![1, 1, 64, 1, 1] ![1, 1, 1, 1, 1] ![0, 0, 63, 0, 0] ![0, 0, 0, 0, 0] x
    (fun _ : (⟨0, ![]⟩ : Shape).Idx => z (Shape.Idx.first h_S_)) reduceWindows_S16x32x64x4x128_S16x32x64x4x128_w1s1p0_0_w1s1p0_0_w64s1p63_0_w1s1p0_0_w1s1p0_0 (by decide) (ix5 b n i h' d) = _
  unfold Host.reduceWindow
  dsimp only
  rw [foldl_sum, ← Fin.sum_univ_def, hz, zero_add]
  let Q : Fin 64 → EReal := fun k => if h : 63 ≤ (i : ℕ) + k ∧ (i : ℕ) + k - 63 < 64 then x (ix5 b n ⟨(i : ℕ) + k - 63, h.2⟩ h' d) else 0
  have hQ0 : ∀ k : Fin 64, ¬63 ≤ (i : ℕ) + k → Q k = 0 := fun k hk => dif_neg fun q => hk q.1
  refine Eq.trans (b := ∑ w : Fin (⟨5, ![1, 1, 64, 1, 1]⟩ : Shape).numel, Q ((⟨5, ![1, 1, 64, 1, 1]⟩ : Shape).rowMajor.symm w 2)) ?_
    ((Equiv.sum_comp ((⟨5, ![1, 1, 64, 1, 1]⟩ : Shape).rowMajor.symm) (fun y : (⟨5, ![1, 1, 64, 1, 1]⟩ : Shape).Idx => Q (y 2))).trans ?_)
  · refine Finset.sum_congr rfl fun w _ => ?_
    let y : (⟨5, ![1, 1, 64, 1, 1]⟩ : Shape).Idx := (⟨5, ![1, 1, 64, 1, 1]⟩ : Shape).rowMajor.symm w
    have y0 : (y 0 : ℕ) < 1 := (y 0).isLt
    have y1 : (y 1 : ℕ) < 1 := (y 1).isLt
    have y3 : (y 3 : ℕ) < 1 := (y 3).isLt
    have y4 : (y 4 : ℕ) < 1 := (y 4).isLt
    have hb := b.2
    have hn := n.2
    have hh := h'.2
    have hd := d.2
    have hi := i.2
    by_cases c : 63 ≤ (i : ℕ) + (y 2 : ℕ)
    · have y2 : (y 2 : ℕ) < 64 := (y 2).isLt
      refine (dif_pos ?_).trans (Eq.trans ?_ (dif_pos (show _ ∧ _ from ⟨c, by omega⟩)).symm)
      · intro a
        match a with
        | ⟨0, _⟩ => exact (show 0 ≤ (b : ℕ) * 1 + (y 0 : ℕ) ∧ (b : ℕ) * 1 + (y 0 : ℕ) - 0 < 16 by omega)
        | ⟨1, _⟩ => exact (show 0 ≤ (n : ℕ) * 1 + (y 1 : ℕ) ∧ (n : ℕ) * 1 + (y 1 : ℕ) - 0 < 32 by omega)
        | ⟨2, _⟩ => exact (show 63 ≤ (i : ℕ) * 1 + (y 2 : ℕ) ∧ (i : ℕ) * 1 + (y 2 : ℕ) - 63 < 64 by omega)
        | ⟨3, _⟩ => exact (show 0 ≤ (h' : ℕ) * 1 + (y 3 : ℕ) ∧ (h' : ℕ) * 1 + (y 3 : ℕ) - 0 < 4 by omega)
        | ⟨4, _⟩ => exact (show 0 ≤ (d : ℕ) * 1 + (y 4 : ℕ) ∧ (d : ℕ) * 1 + (y 4 : ℕ) - 0 < 128 by omega)
      · refine congrArg x (funext fun a => ?_)
        match a with
        | ⟨0, _⟩ => exact Fin.ext (show (b : ℕ) * 1 + (y 0 : ℕ) - 0 = b by omega)
        | ⟨1, _⟩ => exact Fin.ext (show (n : ℕ) * 1 + (y 1 : ℕ) - 0 = n by omega)
        | ⟨2, _⟩ => exact Fin.ext (show (i : ℕ) * 1 + (y 2 : ℕ) - 63 = (i : ℕ) + (y 2 : ℕ) - 63 by omega)
        | ⟨3, _⟩ => exact Fin.ext (show (h' : ℕ) * 1 + (y 3 : ℕ) - 0 = h' by omega)
        | ⟨4, _⟩ => exact Fin.ext (show (d : ℕ) * 1 + (y 4 : ℕ) - 0 = d by omega)
    · refine (dif_neg fun q => c ?_).trans (hQ0 (y 2) c).symm
      have q2 : 63 ≤ (i : ℕ) * 1 + (y 2 : ℕ) := (q 2).1
      omega
  · rw [sum_idx5]
    simp only [Finset.univ_unique, Finset.sum_singleton]
    rfl

end Cert.ReferenceIdeal.Gla

end
-- ==== Proof.GlaRefPre.lean ====
/- What the reference computes before its loop, read at an index: the chunks' rows, running sums, scores and decayed rows. -/
module

public import proofs.«01_k».proof.Proof.GlaCumsum
public import Idealize.ShloMosaic.Lib.WordCmp

@[expose] public section

set_option maxRecDepth 16384

noncomputable section

namespace Cert.ReferenceIdeal.Gla

open Idealize.ShloMosaic Cert.ReferenceIdeal Cert.ReferenceIdeal.Gen Cert.ReferenceIdeal.Step Cert.Gla

variable (P : FVec Ideal S32768x3072 .f32) (A : FVec Ideal S32768x512 .f32) (b : Fin 16) (n : Fin 32) (h : Fin 4)

theorem v10 (i : Fin 64) (d : Fin 128) : A_main_v10 (F := Ideal) P A (ix5 b n i h d) = qs P (32 * b + n) h i d * scale := by
  pointwise [A_main_v10, A_main_v6, A_main_v4, A_main_v1, A_main_v0, K_main_v5, K_main_cst]
  exact congrArg (· * scale) (at2_mk P _ _ _ _ (by dsimp only; omega) (by dsimp only; omega))

theorem v11 (i : Fin 64) (d : Fin 128) : A_main_v11 (F := Ideal) P A (ix5 b n i h d) = ks P (32 * b + n) h i d := by
  pointwise [A_main_v11, A_main_v7, A_main_v2, A_main_v0]
  exact at2_mk P _ _ _ _ (by dsimp only; omega) (by dsimp only; omega)

theorem v12 (i : Fin 64) (l : Fin 256) : A_main_v12 (F := Ideal) P A (ix5 b n i h l) = vs P (32 * b + n) h i l := by
  pointwise [A_main_v12, A_main_v8, A_main_v3, A_main_v0]
  exact at2_mk P _ _ _ _ (by dsimp only; omega) (by dsimp only; omega)

theorem v14 (i : Fin 64) (d : Fin 128) : A_main_v14 (F := Ideal) P A (ix5 b n i h d) = cs A (32 * b + n) h i d := by
  unfold A_main_v14
  refine (cum_host _ _ (fun i => ?_) b n i h d).trans (congrArg (fun f => upTo f i) (funext fun j => ?_))
  · pointwise [K_main_call0_call0_v0, K_main_call0_call0_cst]
  · pointwise [A_main_v13, A_main_v9]
    exact at2_mk A _ _ _ _ (by dsimp only; omega) (by dsimp only; omega)

/-- The rows' decay from the chunk's middle, on the queries. -/
theorem v23 (i : Fin 64) (d : Fin 128) : A_main_v23 (F := Ideal) P A (ix5 b n i h d) =
    qs P (32 * b + n) h i d * scale * Ideal.exp (cs A (32 * b + n) h i d - cs A (32 * b + n) h 31 d) := by
  pointwise [A_main_v23, A_main_v22, A_main_v21, A_main_v20, A_main_v17, A_main_v16, A_main_v15, v10, v14]

theorem v27 (i : Fin 64) (d : Fin 128) : A_main_v27 (F := Ideal) P A (ix5 b n i h d) =
    ks P (32 * b + n) h i d * Ideal.exp (cs A (32 * b + n) h 31 d - cs A (32 * b + n) h i d) := by
  pointwise [A_main_v27, A_main_v26, A_main_v25, A_main_v24, A_main_v17, A_main_v16, A_main_v15, v11, v14]

/-- The mask's bit: a row counts for itself and for the later ones. -/
theorem mask : ∀ i j : Fin 64, Scalar.select (IntOp.cmpi CmpIPredicate.sge (IntOp.addi (BitVec.ofNat 32 i) 0#32) (BitVec.ofNat 32 j)) 1#1 0#1 =
    if j ≤ i then 1#1 else 0#1 := by
  decide +kernel

/-- The masked scores. -/
theorem v31 (i j : Fin 64) : A_main_v31 (F := Ideal) P A (ix5 b n h i j) =
    score (cs A (32 * b + n) h) (qs P (32 * b + n) h) (ks P (32 * b + n) h) i j := by
  pointwise [A_main_v31, A_main_v28, K_main_call2_v1, K_main_call2_v2, K_main_call2_v0, K_main_cst_0, K_main_v30, K_main_call1_v4, K_main_call1_v2,
    K_main_call1_v0, K_main_call1_v1, K_main_call1_c, K_main_call1_v3, K_main_call1_v5, K_main_call1_c_0, K_main_v29, K_main_c, v23, v27]
  rw [mask i j]
  unfold score
  by_cases c : j ≤ i
  · rw [if_pos c, if_pos c]
    rfl
  · rw [if_neg c, if_neg c]
    have z : constant (F := Ideal) S_ .f32 0x00000000#32 ix0 = (0 : EReal) := by pointwise
    exact z

/-- The chunk's own part of the output. -/
theorem v33 (i : Fin 64) (l : Fin 256) : A_main_v33 (F := Ideal) P A (ix5 b n i h l) =
    intra (cs A (32 * b + n) h) (qs P (32 * b + n) h) (ks P (32 * b + n) h) (vs P (32 * b + n) h) i l := by
  pointwise [A_main_v33, A_main_v32, v12, v31]
  exact Finset.sum_congr rfl fun j _ => mul_comm _ _

theorem v42 (i : Fin 64) (d : Fin 128) : A_main_v42 (F := Ideal) P A (ix5 n b i h d) =
    qs P (32 * b + n) h i d * scale * Ideal.exp (cs A (32 * b + n) h i d) := by
  pointwise [A_main_v42, A_main_v35, A_main_v34, v10, v14]

theorem v43 (i : Fin 64) (d : Fin 128) : A_main_v43 (F := Ideal) P A (ix5 n b i h d) =
    ks P (32 * b + n) h i d * Ideal.exp (cs A (32 * b + n) h 63 d - cs A (32 * b + n) h i d) := by
  pointwise [A_main_v43, A_main_v40, A_main_v39, A_main_v38, A_main_v37, A_main_v36, A_main_v19, A_main_v18, v11, v14]

theorem v44 (i : Fin 64) (l : Fin 256) : A_main_v44 (F := Ideal) P A (ix5 n b i h l) = vs P (32 * b + n) h i l := by
  pointwise [A_main_v44, v12]

theorem v45 (d : Fin 128) : A_main_v45 (F := Ideal) P A (ix4 n b h d) = Ideal.exp (cs A (32 * b + n) h 63 d) := by
  pointwise [A_main_v45, A_main_v41, A_main_v19, A_main_v18, v14]

theorem v46 (i : Fin 64) (l : Fin 256) : A_main_v46 (F := Ideal) P A (ix5 n b i h l) =
    intra (cs A (32 * b + n) h) (qs P (32 * b + n) h) (ks P (32 * b + n) h) (vs P (32 * b + n) h) i l := by
  pointwise [A_main_v46, v33]

end Cert.ReferenceIdeal.Gla

end
-- ==== Proof.GlaRefLoop.lean ====
/- The reference's loop over the chunks: after `j` trips the carried state is the recurrence's, and the rows of the chunks gone by are
   stored. -/
module

public import proofs.«01_k».proof.Proof.GlaRefPre

@[expose] public section

set_option maxRecDepth 16384
set_option backward.proofsInPublic true

noncomputable section

namespace Cert.ReferenceIdeal.Gla

open Idealize.ShloMosaic Cert.ReferenceIdeal Cert.ReferenceIdeal.Gen Cert.ReferenceIdeal.Step Cert.Gla

/-- The start of the slice of chunk `j`: the chunk on the first axis, 0 on the others. -/
theorem clamp128 : ∀ j : Fin 32, ∀ a : Fin 5, Host.clampedStart S32x16x64x4x128 S1x16x64x4x128 sliceFits_S32x16x64x4x128_S1x16x64x4x128.1 (fun k => BitVec.toInt ((![(constantI S_ 32 (BitVec.ofNat 32 j) : IVec S_ 32), constantI S_ 32 0#32, constantI S_ 32 0#32, constantI S_ 32 0#32, constantI S_ 32 0#32] : Fin 5 → IVec S_ 32) k (Shape.Idx.first h_S_))) a =
    if a = 0 then (j : ℕ) else 0 := by
  decide +kernel

/-- The start of the slice of chunk `j`: the chunk on the first axis, 0 on the others. -/
theorem clamp256 : ∀ j : Fin 32, ∀ a : Fin 5, Host.clampedStart S32x16x64x4x256 S1x16x64x4x256 sliceFits_S32x16x64x4x256_S1x16x64x4x256.1 (fun k => BitVec.toInt ((![(constantI S_ 32 (BitVec.ofNat 32 j) : IVec S_ 32), constantI S_ 32 0#32, constantI S_ 32 0#32, constantI S_ 32 0#32, constantI S_ 32 0#32] : Fin 5 → IVec S_ 32) k (Shape.Idx.first h_S_))) a =
    if a = 0 then (j : ℕ) else 0 := by
  decide +kernel

/-- The start of the slice of chunk `j`: the chunk on the first axis, 0 on the others. -/
theorem clamp4 : ∀ j : Fin 32, ∀ a : Fin 4, Host.clampedStart S32x16x4x128 S1x16x4x128 sliceFits_S32x16x4x128_S1x16x4x128.1 (fun k => BitVec.toInt ((![(constantI S_ 32 (BitVec.ofNat 32 j) : IVec S_ 32), constantI S_ 32 0#32, constantI S_ 32 0#32, constantI S_ 32 0#32] : Fin 4 → IVec S_ 32) k (Shape.Idx.first h_S_))) a =
    if a = 0 then (j : ℕ) else 0 := by
  decide +kernel

theorem b36_apply (s : State Ideal) (j : Fin 32) (b : Fin 16) (h : Fin 4) (d : Fin 128) (l : Fin 256) :
    b36 (F := Ideal) j s (ix4 b h d l) =
      s.main_v48_3 (ix4 j b h d) * s.main_v48_6 (ix4 b h d l) + ∑ i : Fin 64, s.main_v48_1 (ix5 j b i h d) * s.main_v48_2 (ix5 j b i h l) := by
  pointwise [b36, b34, b33, b32, b22, b21, b18, b19, b20, b35, b11, b10, b6, b7, b8, b9, b17, b16, b12, b13, b14, b15]
  simp only [clamp128, clamp256, clamp4]
  pointwise

theorem b31_apply (s : State Ideal) (j : Fin 32) (b : Fin 16) (h : Fin 4) (i : Fin 64) (l : Fin 256) :
    b31 (F := Ideal) j s (ix4 b i h l) =
      s.main_v48_4 (ix5 j b i h l) + ∑ d : Fin 128, s.main_v48_6 (ix4 b h d l) * s.main_v48_0 (ix5 j b i h d) := by
  pointwise [b31, b28, b27, b23, b24, b25, b26, b30, b29, b5, b4, b0, b1, b2, b3]
  simp only [clamp128, clamp256, clamp4]
  pointwise

theorem b42_apply (s : State Ideal) (j n : Fin 32) (b : Fin 16) (h : Fin 4) (i : Fin 64) (l : Fin 256) :
    b42 (F := Ideal) j s (ix5 n b i h l) = if n = j then b31 (F := Ideal) j s (ix4 b i h l) else s.main_v48_7 (ix5 n b i h l) := by
  pointwise [b42, b37, b38, b39, b40, b41]
  simp only [clamp128, clamp256, clamp4]
  by_cases c : n = j
  · subst c
    refine (dif_pos ?_).trans (Eq.trans ?_ (if_pos rfl).symm)
    · exact ⟨⟨le_refl _, Nat.lt_succ_self _⟩, Nat.zero_le _, Nat.zero_le _, Nat.zero_le _, Nat.zero_le _⟩
    · rfl
  · refine (dif_neg fun q => c (Fin.ext ?_)).trans (if_neg c).symm
    have q1 : (j : ℕ) ≤ n := q.1.1
    have q2 : (n : ℕ) < (j : ℕ) + 1 := q.1.2
    omega

variable (P : FVec Ideal S32768x3072 .f32) (A : FVec Ideal S32768x512 .f32) (S0 : FVec Ideal S16x4x128x256 .f32)

/-- The loop's states, one after another. -/
def it : ℕ → State Ideal
  | 0 => init S0 P A
  | n + 1 => step n (it n)

/-- What a trip does not change: the rows it reads. -/
theorem it_fixed : ∀ n, (it P A S0 n).main_v48_0 = A_main_v42 P A ∧ (it P A S0 n).main_v48_1 = A_main_v43 P A ∧
    (it P A S0 n).main_v48_2 = A_main_v44 P A ∧ (it P A S0 n).main_v48_3 = A_main_v45 P A ∧ (it P A S0 n).main_v48_4 = A_main_v46 P A
  | 0 => ⟨rfl, rfl, rfl, rfl, rfl⟩
  | n + 1 => it_fixed n

/-- After `n` trips the carried array holds every head's state before chunk `n`. -/
theorem it_state : ∀ (n : ℕ), n ≤ 32 → ∀ (b : Fin 16) (h : Fin 4) (d : Fin 128) (l : Fin 256),
    (it P A S0 n).main_v48_6 (ix4 b h d l) = states P A S0 b h n d l
  | 0, _, b, h, d, l => at4_mk S0 b h d l _ _ rfl rfl
  | n + 1, hn, b, h, d, l => by
    obtain ⟨_, e1, e2, e3, _⟩ := it_fixed P A S0 n
    refine (congrFun (step_main_v48_6 n (it P A S0 n)) _).trans ((b36_apply _ ⟨n, by omega⟩ b h d l).trans ?_)
    rw [e1, e2, e3, it_state n (by omega), v45]
    exact congrArg (_ + ·) (Finset.sum_congr rfl fun i _ => by rw [v43, v44])

/-- The rows a trip stores. -/
theorem it_rows (n : Fin 32) (b : Fin 16) (h : Fin 4) (i : Fin 64) (l : Fin 256) :
    b31 (F := Ideal) n (it P A S0 n) (ix4 b i h l) =
      raw (cs A (32 * b + n) h) (qs P (32 * b + n) h) (ks P (32 * b + n) h) (vs P (32 * b + n) h) (states P A S0 b h n) i l := by
  obtain ⟨e0, _, _, _, e4⟩ := it_fixed P A S0 n
  rw [b31_apply, e0, e4, v46]
  exact congrArg (_ + ·) (Finset.sum_congr rfl fun d _ => by rw [it_state P A S0 n (by omega), v42, mul_comm])

/-- After `k` trips the rows of the first `k` chunks are stored. -/
theorem it_stored : ∀ (k : ℕ), k ≤ 32 → ∀ (n : Fin 32), (n : ℕ) < k → ∀ (b : Fin 16) (h : Fin 4) (i : Fin 64) (l : Fin 256),
    (it P A S0 k).main_v48_7 (ix5 n b i h l) =
      raw (cs A (32 * b + n) h) (qs P (32 * b + n) h) (ks P (32 * b + n) h) (vs P (32 * b + n) h) (states P A S0 b h n) i l
  | 0, _, n, hn, b, h, i, l => absurd hn (Nat.not_lt_zero _)
  | k + 1, hk, n, hn, b, h, i, l => by
    refine (congrFun (step_main_v48_7 k (it P A S0 k)) _).trans ((b42_apply _ ⟨k, by omega⟩ n b h i l).trans ?_)
    by_cases c : n = ⟨k, by omega⟩
    · rw [if_pos c]
      have ck : (n : ℕ) = k := congrArg Fin.val c
      subst ck
      exact it_rows P A S0 n b h i l
    · rw [if_neg c]
      exact it_stored k (by omega) n (by have : (n : ℕ) ≠ k := fun q => c (Fin.ext q); omega) b h i l

end Cert.ReferenceIdeal.Gla

end
-- ==== Proof.GlaRef.lean ====
/- The reference's two results: output rows and final states. -/
module

public import proofs.«01_k».proof.Proof.GlaRefLoop

@[expose] public section

set_option maxRecDepth 16384
set_option backward.proofsInPublic true

noncomputable section

namespace Cert.ReferenceIdeal.Gla

open Idealize.ShloMosaic Cert.ReferenceIdeal Cert.ReferenceIdeal.Gen Cert.ReferenceIdeal.Step Cert.Gla

/-- One over one plus the exponential of the negated number is the logistic function. -/
theorem silu (x : EReal) : Ideal.div 1 (1 + Ideal.exp (-x)) = Ideal.logistic x := rfl

variable (P : FVec Ideal S32768x3072 .f32) (g : FVec Ideal S1x256 .f32)

/-- What the operations after the loop make of the stored rows: row `r`, column `l`. -/
theorem out_read (s : State Ideal) (r : Fin 32768) (l : Fin 1024) :
    R_main_v70 (F := Ideal) s P g (ix2 r l) =
      gated (fun x : Fin 256 => s.main_v48_7 (ix5 (⟨r % 2048 / 64, by omega⟩ : Fin 32) (⟨r / 2048, by omega⟩ : Fin 16) (⟨r % 2048 % 64, Nat.mod_lt _ (by decide)⟩ : Fin 64)
        (⟨l / 256, by omega⟩ : Fin 4) x)) (P (ix2 r (⟨2048 + l, by omega⟩ : Fin 3072))) (g (ix2 0 (⟨l % 256, Nat.mod_lt _ (by decide)⟩ : Fin 256)))
        ⟨l % 256, Nat.mod_lt _ (by decide)⟩ := by
  pointwise [R_main_v70]
  unfold gated
  exact congrArg (HMul.hMul _) (congrArg (HMul.hMul _) (silu _))

/-- Row `r`, column `l` of the reference's output, given the last state of its loop. -/
theorem out_apply (A : FVec Ideal S32768x512 .f32) (S0 : FVec Ideal S16x4x128x256 .f32) (s : State Ideal) (hs : s = it P A S0 32)
    (r : Fin 32768) (l : Fin 1024) :
    R_main_v70 (F := Ideal) s P g (ix2 r l) =
      rows P A S0 (fun l => g (ix2 0 l)) (r / 2048) (l / 256) (r % 2048 / 64) ⟨r % 64, Nat.mod_lt _ (by decide)⟩ ⟨l % 256, Nat.mod_lt _ (by decide)⟩ := by
  rw [out_read]
  unfold rows
  refine congr (congr (congr (congrArg gated (funext fun x => ?_)) ?_) rfl) rfl
  · rw [hs]
    exact (it_stored P A S0 32 (le_refl _) _ (by dsimp only; omega) _ _ _ _).trans (congrArg (fun i => raw _ _ _ _ _ i x) (Fin.ext (by dsimp only; omega)))
  · exact at2_mk P _ _ _ _ (by dsimp only; omega) (by dsimp only; omega)

/-- The reference's final states. -/
theorem state_apply (A : FVec Ideal S32768x512 .f32) (S0 : FVec Ideal S16x4x128x256 .f32) (s : State Ideal) (hs : s = it P A S0 32)
    (b : Fin 16) (h : Fin 4) (d : Fin 128) (l : Fin 256) :
    s.main_v48_6 (ix4 b h d l) = states P A S0 b h 32 d l := by
  rw [hs]
  exact it_state P A S0 32 (le_refl _) b h d l

end Cert.ReferenceIdeal.Gla

end
-- ==== Proof.GlaPre.lean ====
/- The precondition, read: no decay's logarithm is `+inf`. -/
module

public import proofs.«01_k».proof.Pre_decays
public import Idealize.ShloMosaic.Lib.Pointwise
public import Idealize.ShloMosaic.Lib.ReduceAll

@[expose] public section

set_option maxRecDepth 16384

noncomputable section

namespace Cert.Gla

open Idealize.ShloMosaic Cert.Pre_decays

/-- Where the printed precondition is all ones, no element of the second argument is `+inf`. -/
theorem pre_finite [Facts] (P : FVec Ideal S32768x3072 .f32) (A : FVec Ideal S32768x512 .f32) (g : FVec Ideal S1x256 .f32)
    (S0 : FVec Ideal S16x4x128x256 .f32) (hpre : fn (F := Ideal) P A g S0 = fun _ => 1#1) (i : S32768x512.Idx) : A i ≠ (⊤ : EReal) := by
  have e := congrFun hpre ix0
  dsimp only [fn] at e
  have hi := Host.reduce_andi_all _ _ _ _ _ e i
  intro ht
  idx_vars i
  pointwise at hi
  rw [ht] at hi
  rw [decide_eq_false not_top_lt] at hi
  exact absurd hi (by decide)

end Cert.Gla

end
-- ==== Proof.GlaValue.lean ====
/- The value claim: kernel and reference end with the same output rows and the same final states. -/
module

public import proofs.«01_k».proof.Defs
public import proofs.«01_k».proof.Proof.GlaKernel
public import proofs.«01_k».proof.Proof.GlaRef
public import proofs.«01_k».proof.Proof.GlaRun
public import proofs.«01_k».proof.Proof.GlaPre

@[expose] public section

set_option maxRecDepth 16384

noncomputable section

namespace Cert.Gla

open Idealize.ShloMosaic Idealize.ShloMosaic.TcCoe Idealize.SL.Sem

/-- The shape facts the precondition's text states. -/
theorem preFacts : Cert.Pre_decays.Facts where
  bcast_S_S32768x512 := by decide
  reducesTo_S32768x512_S_d0_1 := by decide
  h_S_ := by decide

section reference
open Cert.ReferenceIdeal

variable (m : (l : Loc nD τ sig) → Buf (Elt Ideal) l)

/-- The reference's run: its results at the last state of the loop, its arguments unchanged. -/
theorem run_reference (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = Step.R_main_v70 (F := Ideal)
        (Cert.ReferenceIdeal.Gla.it (m ((c.tc : Thread nD τ).loc main_arg0)) (m ((c.tc : Thread nD τ).loc main_arg1)) (m ((c.tc : Thread nD τ).loc main_arg3)) 32)
        (m ((c.tc : Thread nD τ).loc main_arg0)) (m ((c.tc : Thread nD τ).loc main_arg2))
      ∧ r.2.mem ((c.tc : Thread nD τ).loc main_v48_6) =
        (Cert.ReferenceIdeal.Gla.it (m ((c.tc : Thread nD τ).loc main_arg0)) (m ((c.tc : Thread nD τ).loc main_arg1)) (m ((c.tc : Thread nD τ).loc main_arg3)) 32).main_v48_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GlaRun.run_iter (F := Ideal) m ρ
    (fun c => Cert.ReferenceIdeal.Gla.it (m ((c.tc : Thread nD τ).loc main_arg0)) (m ((c.tc : Thread nD τ).loc main_arg1)) (m ((c.tc : Thread nD τ).loc main_arg3)))
    (fun _ => rfl) (fun _ _ => rfl)

/-- The reference terminates, leaves its arguments unchanged and has no semaphore. -/
theorem frame_reference (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems (by decide) r.2⟩) (run_reference m ρ)

end reference

/-- The outputs agree. -/
theorem out_eq (m : (l : Loc Cert.KernelIdeal.nD Cert.KernelIdeal.τ Cert.KernelIdeal.sig) → Buf (Elt Ideal) l) (c : Dev Cert.KernelIdeal.nD)
    (hA : ∀ i, Cert.KernelIdeal.Point.laA m c i ≠ ⊤) :
    Cert.ReferenceIdeal.Step.R_main_v70 (F := Ideal)
      (Cert.ReferenceIdeal.Gla.it (Cert.KernelIdeal.Point.pA m c) (Cert.KernelIdeal.Point.laA m c) (Cert.KernelIdeal.Point.sA m c) 32)
      (Cert.KernelIdeal.Point.pA m c) (Cert.KernelIdeal.Point.gA m c) = Cert.KernelIdeal.Value.G7 m c := by
  funext i
  rw [eq_ix2 i]
  exact (Cert.ReferenceIdeal.Gla.out_apply _ _ _ _ _ rfl (i 0) (i 1)).trans (Cert.KernelIdeal.Point.result_out m c hA (i 0) (i 1)).symm

/-- The final states agree. -/
theorem state_eq (m : (l : Loc Cert.KernelIdeal.nD Cert.KernelIdeal.τ Cert.KernelIdeal.sig) → Buf (Elt Ideal) l) (c : Dev Cert.KernelIdeal.nD)
    (hA : ∀ i, Cert.KernelIdeal.Point.laA m c i ≠ ⊤) :
    (Cert.ReferenceIdeal.Gla.it (Cert.KernelIdeal.Point.pA m c) (Cert.KernelIdeal.Point.laA m c) (Cert.KernelIdeal.Point.sA m c) 32).main_v48_6 =
      Cert.KernelIdeal.Value.G8 m c := by
  funext i
  rw [eq_ix4 i]
  exact (Cert.ReferenceIdeal.Gla.state_apply _ _ _ _ rfl (i 0) (i 1) (i 2) (i 3)).trans
    (Cert.KernelIdeal.Point.result_state m c hA (i 0) (i 1) (i 2) (i 3)).symm

/-- Kernel and reference compute the same output and the same final states wherever no decay's logarithm is `+inf`. -/
theorem algebraic : Cert.algebraic_KernelIdeal_ReferenceIdeal_pre_decays (hKernelIdeal := Cert.KernelIdeal.Gen.facts)
    (hReferenceIdeal := Cert.ReferenceIdeal.Gen.facts) (hPre_decays := preFacts) := by
  intro m g m' g' hpre hagree
  have hA : ∀ c i, Cert.KernelIdeal.Point.laA m c i ≠ ⊤ := fun c => @pre_finite preFacts _ _ _ _ (hpre c)
  refine ⟨fun c => Cert.KernelIdeal.Value.G7 m c, fun c => Cert.KernelIdeal.Value.G8 m c, Cert.KernelIdeal.Value.run m g, ?_⟩
  refine (θ_run _ _ _).mono (fun r h c => ⟨(h c).1.trans ?_, (h c).2.1.trans ?_, (h c).2.2⟩) (run_reference m' g')
  · rw [(hagree c).1, (hagree c).2.1, (hagree c).2.2.1, (hagree c).2.2.2]
    exact out_eq m c (hA c)
  · rw [(hagree c).1, (hagree c).2.1, (hagree c).2.2.2]
    exact state_eq m c (hA c)

end Cert.Gla

end
-- ==== Proof.MoeRuns.lean ====
/- The expert feed-forward call: what its runs share — the arrays and the prefetched tables as the launch finds them,
   the blocks of the windows, the conditions of the body's branches, and where the result's window is left alone. -/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S168x8 .i32 := Memref.whole main_arg0
abbrev htbM0_0 : tbM0_0.IsWhole := Memref.isWhole_whole _
abbrev tbM0_1 : Memref sig .tc .smem S168 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
/-- An input window's current staging buffer holds its block at every point, fetched there or not, for any proof
    data over the launch's arrays whose body leaves the block in place. -/
theorem before_of (hO : Ok m) {c : Dev nD} (dat : Dat τ (Elt F) Unit ℕ (UR sig nD τ) ℕ (cfgM m hO) c) (w : Fin (cfgM m hO).W)
    (hin : ((cfgM m hO).win w).isOut = false) (hlive : ∀ i, (cfgM m hO).idle w i = false)
    (hA : dat.A w = V m c (Pipeline.arrRef spec0 w))
    (hafter : ∀ t, dat.after w t = iblk m hO c w t) (t : Fin (cfgM m hO).N) (d) : dat.before w t d = iblk m hO c w t :=
  (dat.before_in_eq_fetched w hin hlive (fun _ _ _ => rfl) (fun t => by rw [hafter]; unfold Dat.blockOf iblk; rw [hA]; try rfl) t d).trans
    (by unfold Dat.fetched Dat.blockOf iblk; rw [hA]
        funext j; exact dif_pos ((((cfgM m hO).win w).moved_iff _ j).mpr fun a => (j a).isLt))

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 7).trans (((dats 0 c).arrAt_in 7 rfl _).trans ((hA c 7).trans (V_main_arg3 m c))),
      ((h c).1 8).trans (((dats 0 c).arrAt_in 8 rfl _).trans ((hA c 8).trans (V_main_arg4 m c))),
      ((h c).1 9).trans (((dats 0 c).arrAt_in 9 rfl _).trans ((hA c 9).trans (V_main_arg5 m c))),
      ((h c).1 10).trans (((dats 0 c).arrAt_in 10 rfl _).trans ((hA c 10).trans (V_main_arg6 m c)))⟩) h
/-! ## The points -/

/-- Window 11 (result 0 (%0)) is written back at the points ≡ 1 (mod 2), at any contents of the tables (its index map reads none). -/
theorem flush0_11 (a : (pcfg0 (F := F)).Adm) : ∀ t : Fin (cfg0 a).N, ((cfg0 a).win 11).flush t = true ↔ t.val % 2 = 1 :=
  (fun t => Pipeline.Window.flushOf_reads cc0_transform_11 reads0_11 hreads0_11 0 (by decide) (by decide) (Pipeline.Window.sep_of_coord cc0_transform_11 0 0 (fun _ => rfl) (by decide)) (P := 2) (m := 1) (by decide) rfl t : ∀ t : Fin grid0.N, Pipeline.Window.flushOf grid0 true cc0_transform_11 t = true ↔ t.val % 2 = 1)
/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _)

/-! ## The staging buffers and the scratch -/

abbrev VO0_11 : View sig .tc .vmem S512x1024 .bf16 := (Memref.whole cc0_stg11_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S64x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S64x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S64x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S64x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S64x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S64x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S64x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S64x1024 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024x1792 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1024x1792 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1792x1024 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S512x1024 .bf16 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S512x1024 .bf16 := Memref.whole cc0_scratch0
abbrev scM0_1 : Memref sig .tc .vmem S512x1024 .f32 := Memref.whole cc0_scratch1
/-- The scratch `arg17` the kernel carries between points, as a view: what it holds is stated through it. -/
abbrev VS0_0 : View sig .tc .vmem S512x1024 .bf16 := scM0_0.view
/-- The scratch `arg18` the kernel carries between points, as a view: what it holds is stated through it. -/
abbrev VS0_1 : View sig .tc .vmem S512x1024 .f32 := scM0_1.view
/-- The frame kit's invariant with the scratch operands as memrefs owned at some contents (`scopedRest0_eq`, `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ExpertsIdeal.Moe

end
-- ==== Proof.MoeIns.lean ====
/- What the body of the expert feed-forward call is handed, and the word it branches on. -/
module

public import proofs.«01_k».proof.Proof.MoeRuns

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of groups in use, as the body reads it. -/
abbrev nuW {c : Dev nD} (xt2 : TbBuf0 (F := F) c tbM0_2) : BitVec 32 := View.readAt (Elt F) tbM0_2.view (Rect.unit (s := S1) ![0] S1.size inb_S1_S1_0).toLoadRect xt2 (Shape.Idx.first (numel1_S1.symm ▸ Nat.one_pos))

/-- The point is the first of its group. -/
abbrev firstHalf (i : grid0.Coords) : Prop := (Scalar.cmpi .ne (Scalar.extui (Scalar.cmpi .eq (BitVec.ofNat 32 (i 1).val) 0#32)) 0#32) = 1#1

/-- The body's inputs: its blocks in their staging buffers, and the three tables. -/
def Ins (c : Dev nD) (arg5 : Memref sig .tc .vmem S64x1024 .bf16) (arg6 : Memref sig .tc .vmem S64x1024 .bf16) (arg7 : Memref sig .tc .vmem S64x1024 .bf16) (arg8 : Memref sig .tc .vmem S64x1024 .bf16) (arg9 : Memref sig .tc .vmem S64x1024 .bf16) (arg10 : Memref sig .tc .vmem S64x1024 .bf16) (arg11 : Memref sig .tc .vmem S64x1024 .bf16) (arg12 : Memref sig .tc .vmem S64x1024 .bf16) (arg13 : Memref sig .tc .vmem S1x1024x1792 .bf16) (arg14 : Memref sig .tc .vmem S1x1024x1792 .bf16) (arg15 : Memref sig .tc .vmem S1x1792x1024 .bf16)
    (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16) (xt0 : TbBuf0 (F := F) c tbM0_0) (xt1 : TbBuf0 (F := F) c tbM0_1) (xt2 : TbBuf0 (F := F) c tbM0_2) : sProp 𝕄 :=
  iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ tbPt0 c tbM0_0 xt0 ∗ tbPt0 c tbM0_1 xt1 ∗ tbPt0 c tbM0_2 xt2)

end Cert.ExpertsIdeal.Moe

end
-- ==== Proof.MoeRunA.lean ====
/- The body of the expert feed-forward call at a group in use, first half of the columns: the rows are gathered, and the sum started. -/
module

public import proofs.«01_k».proof.Proof.MoeIns

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a group in use, first half of the columns: the rows are gathered, and the sum started. -/
noncomputable def runA (c : Dev nD) (i : grid0.Coords) (arg5 : Memref sig .tc .vmem S64x1024 .bf16) (harg5 : arg5.IsWhole) (arg6 : Memref sig .tc .vmem S64x1024 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S1x1024x1792 .bf16) (harg13 : arg13.IsWhole) (arg14 : Memref sig .tc .vmem S1x1024x1792 .bf16) (harg14 : arg14.IsWhole) (arg15 : Memref sig .tc .vmem S1x1792x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .f32) (harg18 : arg18.IsWhole)
    (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16) (xt0 : TbBuf0 (F := F) c tbM0_0) (xt1 : TbBuf0 (F := F) c tbM0_1) (xt2 : TbBuf0 (F := F) c tbM0_2)
    (hc0 : k0_cond1 i (nuW xt2) = 1#1) (hc1 : firstHalf i) (hc2 : ¬k0_cond3 i = 1#1) (hc3 : ¬k0_cond4 i (nuW xt2) = 1#1) :
    Σ' (LS0 : List (View.Piece (Elt F) S512x1024 .bf16)), { LS1 : List (View.Piece (Elt F) S512x1024 .f32) //
      ∀ (xi : Vec F S512x1024 .bf16) (E : Set ℕ) (K : PUnit → sProp 𝕄),
        iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ (∃ d, owns (c : Thread nD τ) arg17 fullShare d) ∗ (∃ d, owns (c : Thread nD τ) arg18 fullShare d)
            ∗ (iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi E K => ?run⟩
  case run =>
    simp only [cc0_moe_ffn_eq_skeleton]; unfold cc0_moe_ffn_skel
    simp only [k0_part1_eq_skeleton]
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, HT2⟩, ⟨%f11, %hf11, H11⟩, ⟨%dS0, %fS0, -, HS0⟩, ⟨%dS1, %fS1, -, HS1⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11
    sl_exec (disch := first | sl_exact hc0 | sl_exact hc1 | sl_exact hc2 | sl_exact hc3)
    sl_step
    iapply Hk
    isplitl [H0 H1 H2 H3 H4 H5 H6 H7 H8 H9 H10 HT0 HT1 HT2]
    · isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; · ipureintro; exact harg9.read_unread _
        iexact H4
      isplitl [H5]
      · iexists _; isplitr; · ipureintro; exact harg10.read_unread _
        iexact H5
      isplitl [H6]
      · iexists _; isplitr; · ipureintro; exact harg11.read_unread _
        iexact H6
      isplitl [H7]
      · iexists _; isplitr; · ipureintro; exact harg12.read_unread _
        iexact H7
      isplitl [H8]
      · iexists _; isplitr; · ipureintro; exact harg13.read_unread _
        iexact H8
      isplitl [H9]
      · iexists _; isplitr; · ipureintro; exact harg14.read_unread _
        iexact H9
      isplitl [H10]
      · iexists _; isplitr; · ipureintro; exact harg15.read_unread _
        iexact H10
      isplitl [HT0]; · iexact HT0
      isplitl [HT1]; · iexact HT1
      iexact HT2
    isplitl [H11]
    · iexists _; isplitr; · ipureintro; exact harg16.read_unread _
      iexact H11
    isplitl [HS0]
    · iexists _; iexact HS0
    iexists _; iexact HS1

end Cert.ExpertsIdeal.Moe

end
-- ==== Proof.MoeRunB.lean ====
/- The body of the expert feed-forward call at a group in use, second half of the columns: the sum is finished and stored. -/
module

public import proofs.«01_k».proof.Proof.MoeIns

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a group in use, second half of the columns: the sum is finished and stored. -/
noncomputable def runB (c : Dev nD) (i : grid0.Coords) (arg5 : Memref sig .tc .vmem S64x1024 .bf16) (harg5 : arg5.IsWhole) (arg6 : Memref sig .tc .vmem S64x1024 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S1x1024x1792 .bf16) (harg13 : arg13.IsWhole) (arg14 : Memref sig .tc .vmem S1x1024x1792 .bf16) (harg14 : arg14.IsWhole) (arg15 : Memref sig .tc .vmem S1x1792x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .f32) (harg18 : arg18.IsWhole)
    (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16) (xt0 : TbBuf0 (F := F) c tbM0_0) (xt1 : TbBuf0 (F := F) c tbM0_1) (xt2 : TbBuf0 (F := F) c tbM0_2) (xs0 : Vec F S512x1024 .bf16) (xs1 : Vec F S512x1024 .f32)
    (hc0 : k0_cond1 i (nuW xt2) = 1#1) (hc1 : ¬firstHalf i) (hc2 : k0_cond3 i = 1#1) (hc3 : ¬k0_cond4 i (nuW xt2) = 1#1) :
    Σ' (L11 : List (View.Piece (Elt F) S512x1024 .bf16)), { LS1 : List (View.Piece (Elt F) S512x1024 .f32) //
      ∀ (E : Set ℕ) (K : PUnit → sProp 𝕄),
        iprop(Ins c arg5 arg6 arg7 arg8 arg9 arg10 arg11 arg12 arg13 arg14 arg15 x0 x1 x2 x3 x4 x5 x6 x7 x8 x9 x10 xt0 xt1 xt2 ∗ (∃ d, owns (c : Thread nD τ) arg16 fullShare d) ∗ owns (c : Thread nD τ) arg17 fullShare xs0 ∗ owns (c : Thread nD τ) arg18 fullShare xs1
            ∗ (iprop(Ins c arg5 arg6 arg7 arg8 arg9 arg10 arg11 arg12 arg13 arg14 arg15 x0 x1 x2 x3 x4 x5 x6 x7 x8 x9 x10 xt0 xt1 xt2 ∗ (∃ f, arg16.view.loc (c : Thread nD τ) ↦[arg16.view.set]{fullShare} arg16.view.writes (Elt F) f L11) ∗ owns (c : Thread nD τ) arg17 fullShare xs0 ∗ (∃ f, arg18.view.loc (c : Thread nD τ) ↦[arg18.view.set]{fullShare} arg18.view.writes (Elt F) f LS1)) -∗ K ⟨⟩))
          ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_moe_ffn_eq_skeleton]; unfold cc0_moe_ffn_skel
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, HT2⟩, ⟨%d11, %f11, -, H11⟩, ⟨%fS0, %hfS0, HS0⟩, ⟨%fS1, %hfS1, HS1⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg17.eq_unread hfS0; obtain rfl := harg18.eq_unread hfS1
    sl_exec (disch := first | sl_exact hc0 | sl_exact hc1 | sl_exact hc2 | sl_exact hc3)
    sl_step
    iapply Hk
    isplitl [H0 H1 H2 H3 H4 H5 H6 H7 H8 H9 H10 HT0 HT1 HT2]
    · isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; · ipureintro; exact harg9.read_unread _
        iexact H4
      isplitl [H5]
      · iexists _; isplitr; · ipureintro; exact harg10.read_unread _
        iexact H5
      isplitl [H6]
      · iexists _; isplitr; · ipureintro; exact harg11.read_unread _
        iexact H6
      isplitl [H7]
      · iexists _; isplitr; · ipureintro; exact harg12.read_unread _
        iexact H7
      isplitl [H8]
      · iexists _; isplitr; · ipureintro; exact harg13.read_unread _
        iexact H8
      isplitl [H9]
      · iexists _; isplitr; · ipureintro; exact harg14.read_unread _
        iexact H9
      isplitl [H10]
      · iexists _; isplitr; · ipureintro; exact harg15.read_unread _
        iexact H10
      isplitl [HT0]; · iexact HT0
      isplitl [HT1]; · iexact HT1
      iexact HT2
    isplitl [H11]
    · iexists _; iexact H11
    isplitl [HS0]
    · iexists _; isplitr; · ipureintro; exact harg17.read_unread _
      iexact HS0
    iexists _; iexact HS1

end Cert.ExpertsIdeal.Moe

end
-- ==== Proof.MoeRunC.lean ====
/- The body of the expert feed-forward call at a group not in use, first point: zeros are stored. -/
module

public import proofs.«01_k».proof.Proof.MoeIns

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a group not in use, first point: zeros are stored. -/
noncomputable def runC (c : Dev nD) (i : grid0.Coords) (arg5 : Memref sig .tc .vmem S64x1024 .bf16) (harg5 : arg5.IsWhole) (arg6 : Memref sig .tc .vmem S64x1024 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S1x1024x1792 .bf16) (harg13 : arg13.IsWhole) (arg14 : Memref sig .tc .vmem S1x1024x1792 .bf16) (harg14 : arg14.IsWhole) (arg15 : Memref sig .tc .vmem S1x1792x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .f32) (harg18 : arg18.IsWhole)
    (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16) (xt0 : TbBuf0 (F := F) c tbM0_0) (xt1 : TbBuf0 (F := F) c tbM0_1) (xt2 : TbBuf0 (F := F) c tbM0_2)
    (hc0 : ¬k0_cond1 i (nuW xt2) = 1#1) (hc1 : firstHalf i) (hc2 : ¬k0_cond3 i = 1#1) (hc3 : k0_cond4 i (nuW xt2) = 1#1) :
    { L11 : List (View.Piece (Elt F) S512x1024 .bf16) //
      ∀ (E : Set ℕ) (K : PUnit → sProp 𝕄),
        iprop(Ins c arg5 arg6 arg7 arg8 arg9 arg10 arg11 arg12 arg13 arg14 arg15 x0 x1 x2 x3 x4 x5 x6 x7 x8 x9 x10 xt0 xt1 xt2 ∗ (∃ d, owns (c : Thread nD τ) arg16 fullShare d) ∗ (∃ d, owns (c : Thread nD τ) arg17 fullShare d) ∗ (∃ d, owns (c : Thread nD τ) arg18 fullShare d)
            ∗ (iprop(Ins c arg5 arg6 arg7 arg8 arg9 arg10 arg11 arg12 arg13 arg14 arg15 x0 x1 x2 x3 x4 x5 x6 x7 x8 x9 x10 xt0 xt1 xt2 ∗ (∃ f, arg16.view.loc (c : Thread nD τ) ↦[arg16.view.set]{fullShare} arg16.view.writes (Elt F) f L11) ∗ (∃ d, owns (c : Thread nD τ) arg17 fullShare d) ∗ (∃ d, owns (c : Thread nD τ) arg18 fullShare d)) -∗ K ⟨⟩))
          ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_moe_ffn_eq_skeleton]; unfold cc0_moe_ffn_skel
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, HT2⟩, ⟨%d11, %f11, -, H11⟩, ⟨%dS0, %fS0, -, HS0⟩, ⟨%dS1, %fS1, -, HS1⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10
    sl_exec (disch := first | sl_exact hc0 | sl_exact hc1 | sl_exact hc2 | sl_exact hc3)
    sl_step
    iapply Hk
    isplitl [H0 H1 H2 H3 H4 H5 H6 H7 H8 H9 H10 HT0 HT1 HT2]
    · isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; · ipureintro; exact harg9.read_unread _
        iexact H4
      isplitl [H5]
      · iexists _; isplitr; · ipureintro; exact harg10.read_unread _
        iexact H5
      isplitl [H6]
      · iexists _; isplitr; · ipureintro; exact harg11.read_unread _
        iexact H6
      isplitl [H7]
      · iexists _; isplitr; · ipureintro; exact harg12.read_unread _
        iexact H7
      isplitl [H8]
      · iexists _; isplitr; · ipureintro; exact harg13.read_unread _
        iexact H8
      isplitl [H9]
      · iexists _; isplitr; · ipureintro; exact harg14.read_unread _
        iexact H9
      isplitl [H10]
      · iexists _; isplitr; · ipureintro; exact harg15.read_unread _
        iexact H10
      isplitl [HT0]; · iexact HT0
      isplitl [HT1]; · iexact HT1
      iexact HT2
    isplitl [H11]
    · iexists _; iexact H11
    isplitl [HS0]
    · iexists _; iexists fS0; isplitr; · ipureintro; exact rfl
      iexact HS0
    iexists _; iexists fS1; isplitr; · ipureintro; exact rfl
    iexact HS1

end Cert.ExpertsIdeal.Moe

end
-- ==== Proof.MoeRunD.lean ====
/- The body of the expert feed-forward call at a group not in use, second point: nothing is stored. -/
module

public import proofs.«01_k».proof.Proof.MoeIns

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body at a group not in use, second point: nothing is stored. -/
theorem runD (c : Dev nD) (i : grid0.Coords) (arg5 : Memref sig .tc .vmem S64x1024 .bf16) (harg5 : arg5.IsWhole) (arg6 : Memref sig .tc .vmem S64x1024 .bf16) (harg6 : arg6.IsWhole) (arg7 : Memref sig .tc .vmem S64x1024 .bf16) (harg7 : arg7.IsWhole) (arg8 : Memref sig .tc .vmem S64x1024 .bf16) (harg8 : arg8.IsWhole) (arg9 : Memref sig .tc .vmem S64x1024 .bf16) (harg9 : arg9.IsWhole) (arg10 : Memref sig .tc .vmem S64x1024 .bf16) (harg10 : arg10.IsWhole) (arg11 : Memref sig .tc .vmem S64x1024 .bf16) (harg11 : arg11.IsWhole) (arg12 : Memref sig .tc .vmem S64x1024 .bf16) (harg12 : arg12.IsWhole) (arg13 : Memref sig .tc .vmem S1x1024x1792 .bf16) (harg13 : arg13.IsWhole) (arg14 : Memref sig .tc .vmem S1x1024x1792 .bf16) (harg14 : arg14.IsWhole) (arg15 : Memref sig .tc .vmem S1x1792x1024 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x1024 .f32) (harg18 : arg18.IsWhole)
    (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16) (xt0 : TbBuf0 (F := F) c tbM0_0) (xt1 : TbBuf0 (F := F) c tbM0_1) (xt2 : TbBuf0 (F := F) c tbM0_2)
    (hc0 : ¬k0_cond1 i (nuW xt2) = 1#1) (hc1 : ¬firstHalf i) (hc2 : k0_cond3 i = 1#1) (hc3 : ¬k0_cond4 i (nuW xt2) = 1#1) :
      ∀ (xi : Vec F S512x1024 .bf16) (E : Set ℕ) (K : PUnit → sProp 𝕄),
        iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ (∃ d, owns (c : Thread nD τ) arg17 fullShare d) ∗ (∃ d, owns (c : Thread nD τ) arg18 fullShare d)
            ∗ (iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ (∃ d, owns (c : Thread nD τ) arg17 fullShare d) ∗ (∃ d, owns (c : Thread nD τ) arg18 fullShare d)) -∗ K ⟨⟩))
          ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K := by
  intro xi E K
  · skip
    simp only [cc0_moe_ffn_eq_skeleton]; unfold cc0_moe_ffn_skel
    unfold Ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, HT2⟩, ⟨%f11, %hf11, H11⟩, ⟨%dS0, %fS0, -, HS0⟩, ⟨%dS1, %fS1, -, HS1⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg15.eq_unread hf10; obtain rfl := harg16.eq_unread hf11
    sl_exec (disch := first | sl_exact hc0 | sl_exact hc1 | sl_exact hc2 | sl_exact hc3)
    sl_step
    iapply Hk
    isplitl [H0 H1 H2 H3 H4 H5 H6 H7 H8 H9 H10 HT0 HT1 HT2]
    · isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; · ipureintro; exact harg9.read_unread _
        iexact H4
      isplitl [H5]
      · iexists _; isplitr; · ipureintro; exact harg10.read_unread _
        iexact H5
      isplitl [H6]
      · iexists _; isplitr; · ipureintro; exact harg11.read_unread _
        iexact H6
      isplitl [H7]
      · iexists _; isplitr; · ipureintro; exact harg12.read_unread _
        iexact H7
      isplitl [H8]
      · iexists _; isplitr; · ipureintro; exact harg13.read_unread _
        iexact H8
      isplitl [H9]
      · iexists _; isplitr; · ipureintro; exact harg14.read_unread _
        iexact H9
      isplitl [H10]
      · iexists _; isplitr; · ipureintro; exact harg15.read_unread _
        iexact H10
      isplitl [HT0]; · iexact HT0
      isplitl [HT1]; · iexact HT1
      iexact HT2
    isplitl [H11]
    · iexists _; isplitr; · ipureintro; exact harg16.read_unread _
      iexact H11
    isplitl [HS0]
    · iexists _; iexists fS0; isplitr; · ipureintro; exact rfl
      iexact HS0
    iexists _; iexists fS1; isplitr; · ipureintro; exact rfl
    iexact HS1

end Cert.ExpertsIdeal.Moe

end
-- ==== Proof.MoeStep.lean ====
/- What the expert body stores at a point, from the blocks it is handed. -/
module

public import proofs.«01_k».proof.Proof.MoeRunA
public import proofs.«01_k».proof.Proof.MoeRunB
public import proofs.«01_k».proof.Proof.MoeRunC
public import proofs.«01_k».proof.Proof.MoeRunD
public import Idealize.ShloMosaic.Lib.Pipeline.ReadBack
public import Idealize.ShloMosaic.Lib.Pipeline.ValueKit

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
variable (arg5 : Memref sig .tc .vmem S64x1024 .bf16) (harg5 : arg5.IsWhole)
variable (arg6 : Memref sig .tc .vmem S64x1024 .bf16) (harg6 : arg6.IsWhole)
variable (arg7 : Memref sig .tc .vmem S64x1024 .bf16) (harg7 : arg7.IsWhole)
variable (arg8 : Memref sig .tc .vmem S64x1024 .bf16) (harg8 : arg8.IsWhole)
variable (arg9 : Memref sig .tc .vmem S64x1024 .bf16) (harg9 : arg9.IsWhole)
variable (arg10 : Memref sig .tc .vmem S64x1024 .bf16) (harg10 : arg10.IsWhole)
variable (arg11 : Memref sig .tc .vmem S64x1024 .bf16) (harg11 : arg11.IsWhole)
variable (arg12 : Memref sig .tc .vmem S64x1024 .bf16) (harg12 : arg12.IsWhole)
variable (arg13 : Memref sig .tc .vmem S1x1024x1792 .bf16) (harg13 : arg13.IsWhole)
variable (arg14 : Memref sig .tc .vmem S1x1024x1792 .bf16) (harg14 : arg14.IsWhole)
variable (arg15 : Memref sig .tc .vmem S1x1792x1024 .bf16) (harg15 : arg15.IsWhole)
variable (arg16 : Memref sig .tc .vmem S512x1024 .bf16) (harg16 : arg16.IsWhole)
variable (arg17 : Memref sig .tc .vmem S512x1024 .bf16) (harg17 : arg17.IsWhole)
variable (arg18 : Memref sig .tc .vmem S512x1024 .f32) (harg18 : arg18.IsWhole)
variable (x0 : Vec F S64x1024 .bf16) (x1 : Vec F S64x1024 .bf16) (x2 : Vec F S64x1024 .bf16) (x3 : Vec F S64x1024 .bf16) (x4 : Vec F S64x1024 .bf16) (x5 : Vec F S64x1024 .bf16) (x6 : Vec F S64x1024 .bf16) (x7 : Vec F S64x1024 .bf16) (x8 : Vec F S1x1024x1792 .bf16) (x9 : Vec F S1x1024x1792 .bf16) (x10 : Vec F S1x1792x1024 .bf16)
variable (xt0 : TbBuf0 (F := F) c tbM0_0) (xt1 : TbBuf0 (F := F) c tbM0_1) (xt2 : TbBuf0 (F := F) c tbM0_2)

/-- The eight tiles of a group, one below the other. -/
def gathered (x0 x1 x2 x3 x4 x5 x6 x7 : Vec F S64x1024 .bf16) : Vec F S512x1024 .bf16 := fun y =>
  (![x0, x1, x2, x3, x4, x5, x6, x7] : Fin 8 → Vec F S64x1024 .bf16) ⟨(y 0 : ℕ) / 64, by have := (y 0).isLt; change (y 0 : ℕ) < 512 at this; omega⟩
    (ix2 ⟨(y 0 : ℕ) % 64, Nat.mod_lt _ (by decide)⟩ (y 1))

/-- The sum a group starts from, with the first half of the columns added. -/
def sumA : Vec F S512x1024 .f32 := k0_pay4 (gathered x0 x1 x2 x3 x4 x5 x6 x7) x8 x9 k0_pay7 x10

theorem same64 (x : Vec F S64x1024 .bf16) (z : S64x1024.Idx) : shapeCast S64x1024 x shapeCasts_S64x1024_S64x1024 z = x z := by
  pointwise

/-- A tile at its place among the eight. -/
theorem gathered_at (n : Fin 8) (x : S64x1024.Idx) (y : S512x1024.Idx) (h0 : (y 0 : ℕ) = 64 * n.val + (x 0 : ℕ)) (h1 : (y 1 : ℕ) = (x 1 : ℕ)) :
    gathered x0 x1 x2 x3 x4 x5 x6 x7 y = (![x0, x1, x2, x3, x4, x5, x6, x7] : Fin 8 → Vec F S64x1024 .bf16) n x := by
  have hx : (x 0 : ℕ) < 64 := (x 0).isLt
  unfold gathered
  refine congr (congrArg _ (Fin.ext ?_)) ?_
  · show (y 0 : ℕ) / 64 = n.val
    omega
  · funext a
    refine Fin.cases ?_ (fun b => ?_) a
    · exact Fin.ext (by show (y 0 : ℕ) % 64 = (x 0 : ℕ); omega)
    · obtain rfl : b = 0 := Subsingleton.elim _ _
      exact Fin.ext h1

/-- A tile read whole and stored as it is. -/
theorem stored (arg : Memref sig .tc .vmem S64x1024 .bf16) (harg : arg.IsWhole) (x : Vec F S64x1024 .bf16) (z : S64x1024.Idx) :
    shapeCast S64x1024 (View.readAt (Elt F) arg.view (Rect.unit ![0, 0] S64x1024.size inb_S64x1024_S64x1024_0_0).toLoadRect (harg.unread x)) shapeCasts_S64x1024_S64x1024 z = x z :=
  (same64 _ z).trans (congrFun (by rw [View.readAt_eq_ld, Memref.IsWhole.read_unread]; exact View.ld_unit_lit _ _ (by decide)) z)

/-- The gathered rows are stored everywhere. -/
theorem cover_rows (y : S512x1024.Idx) : ∃ p ∈ runA.sl.HS0_8 c arg5 harg5 arg6 harg6 arg7 harg7 arg8 harg8 arg9 harg9 arg10 harg10 arg11 harg11 arg12 harg12 x0 x1 x2 x3 x4 x5 x6 x7, y ∈ p.1.set :=
  View.cover_of_tiledL (runA.sl.HS0_8 c arg5 harg5 arg6 harg6 arg7 harg7 arg8 harg8 arg9 harg9 arg10 harg10 arg11 harg11 arg12 harg12 x0 x1 x2 x3 x4 x5 x6 x7) S64x1024.size (by sl_kernel_rfl) y

/-- What the first point of a group in use leaves in the row scratch. -/
theorem canon_rows : View.canon (runA.sl.HS0_8 c arg5 harg5 arg6 harg6 arg7 harg7 arg8 harg8 arg9 harg9 arg10 harg10 arg11 harg11 arg12 harg12 x0 x1 x2 x3 x4 x5 x6 x7) = gathered x0 x1 x2 x3 x4 x5 x6 x7 := by
  funext y
  have h := cover_rows c arg5 harg5 arg6 harg6 arg7 harg7 arg8 harg8 arg9 harg9 arg10 harg10 arg11 harg11 arg12 harg12 x0 x1 x2 x3 x4 x5 x6 x7 y
  revert h
  sl_unfold_words
  intro h
  refine View.canon_append_of_piecesOf (Val := Elt F) (s := S512x1024) (e := .bf16) (gathered x0 x1 x2 x3 x4 x5 x6 x7) [] _ ?_ y h
  refine ⟨fun x => ?_, fun x => ?_, fun x => ?_, fun x => ?_, fun x => ?_, fun x => ?_, fun x => ?_, fun x => ?_, trivial⟩
  · exact (stored arg12 harg12 x7 x).trans (gathered_at x0 x1 x2 x3 x4 x5 x6 x7 7 x _ (show 448 + 1 * (x 0 : ℕ) = 64 * 7 + (x 0 : ℕ) by omega) (show 0 + 1 * (x 1 : ℕ) = (x 1 : ℕ) by omega)).symm
  · exact (stored arg11 harg11 x6 x).trans (gathered_at x0 x1 x2 x3 x4 x5 x6 x7 6 x _ (show 384 + 1 * (x 0 : ℕ) = 64 * 6 + (x 0 : ℕ) by omega) (show 0 + 1 * (x 1 : ℕ) = (x 1 : ℕ) by omega)).symm
  · exact (stored arg10 harg10 x5 x).trans (gathered_at x0 x1 x2 x3 x4 x5 x6 x7 5 x _ (show 320 + 1 * (x 0 : ℕ) = 64 * 5 + (x 0 : ℕ) by omega) (show 0 + 1 * (x 1 : ℕ) = (x 1 : ℕ) by omega)).symm
  · exact (stored arg9 harg9 x4 x).trans (gathered_at x0 x1 x2 x3 x4 x5 x6 x7 4 x _ (show 256 + 1 * (x 0 : ℕ) = 64 * 4 + (x 0 : ℕ) by omega) (show 0 + 1 * (x 1 : ℕ) = (x 1 : ℕ) by omega)).symm
  · exact (stored arg8 harg8 x3 x).trans (gathered_at x0 x1 x2 x3 x4 x5 x6 x7 3 x _ (show 192 + 1 * (x 0 : ℕ) = 64 * 3 + (x 0 : ℕ) by omega) (show 0 + 1 * (x 1 : ℕ) = (x 1 : ℕ) by omega)).symm
  · exact (stored arg7 harg7 x2 x).trans (gathered_at x0 x1 x2 x3 x4 x5 x6 x7 2 x _ (show 128 + 1 * (x 0 : ℕ) = 64 * 2 + (x 0 : ℕ) by omega) (show 0 + 1 * (x 1 : ℕ) = (x 1 : ℕ) by omega)).symm
  · exact (stored arg6 harg6 x1 x).trans (gathered_at x0 x1 x2 x3 x4 x5 x6 x7 1 x _ (show 64 + 1 * (x 0 : ℕ) = 64 * 1 + (x 0 : ℕ) by omega) (show 0 + 1 * (x 1 : ℕ) = (x 1 : ℕ) by omega)).symm
  · exact (stored arg5 harg5 x0 x).trans (gathered_at x0 x1 x2 x3 x4 x5 x6 x7 0 x _ (show 0 + 1 * (x 0 : ℕ) = 64 * 0 + (x 0 : ℕ) by omega) (show 0 + 1 * (x 1 : ℕ) = (x 1 : ℕ) by omega)).symm

/-- What the first point of a group in use leaves in the sum scratch. -/
theorem canon_sumA (hc0 : k0_cond1 i (nuW xt2) = 1#1) (hc1 : firstHalf i) (hc2 : ¬k0_cond3 i = 1#1) (hc3 : ¬k0_cond4 i (nuW xt2) = 1#1) :
    View.canon (runA c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3).2.1 = sumA x0 x1 x2 x3 x4 x5 x6 x7 x8 x9 x10 := by
  unfold runA
  dsimp only
  refine (View.canon_cons_unit_lit _ _ _ (by decide)).trans ?_
  unfold sumA
  have e : runA.sl.v13 c arg5 harg5 arg6 harg6 arg7 harg7 arg8 harg8 arg9 harg9 arg10 harg10 arg11 harg11 arg12 harg12 arg17 x0 x1 x2 x3 x4 x5 x6 x7 = gathered x0 x1 x2 x3 x4 x5 x6 x7 := by
    unfold runA.sl.v13
    rw [View.readCov_eq_canon', canon_rows]
    exact View.ld_unit_lit _ _ (by decide)
  have e1 : runA.sl.v23 (F := F) c arg18 = k0_pay7 := by
    unfold runA.sl.v23 runA.sl.HS1_1
    exact View.readCov_unit_lit _ _ _ (by decide)
  rw [e, e1]
  refine congr (congr (congr (congr rfl ?_) ?_) rfl) ?_
  all_goals
    rw [View.readAt_eq_ld, Memref.IsWhole.read_unread]
    exact View.ld_unit_lit _ _ (by decide)

/-- What the second point of a group in use leaves in the sum scratch: the second half of the columns added. -/
theorem canon_sumB (xs0 : Vec F S512x1024 .bf16) (xs1 : Vec F S512x1024 .f32) :
    View.canon (runB.sl.HS1_1 c arg13 harg13 arg14 harg14 arg15 harg15 arg17 harg17 arg18 harg18 x8 x9 x10 xs0 xs1) = k0_pay4 xs0 x8 x9 xs1 x10 := by
  unfold runB.sl.HS1_1
  refine (View.canon_cons_unit_lit _ _ _ (by decide)).trans ?_
  refine congr (congr (congr (congr (congrArg _ ?_) ?_) ?_) ?_) ?_
  all_goals
    rw [View.readAt_eq_ld, Memref.IsWhole.read_unread]
    exact View.ld_unit_lit _ _ (by decide)

/-- What the second point of a group in use leaves in the result block. -/
theorem canon_outB (xs0 : Vec F S512x1024 .bf16) (xs1 : Vec F S512x1024 .f32)
    (hc0 : k0_cond1 i (nuW xt2) = 1#1) (hc1 : ¬firstHalf i) (hc2 : k0_cond3 i = 1#1) (hc3 : ¬k0_cond4 i (nuW xt2) = 1#1) :
    View.canon (runB c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 xs0 xs1 hc0 hc1 hc2 hc3).1 = k0_pay5 (k0_pay4 xs0 x8 x9 xs1 x10) := by
  unfold runB
  dsimp only
  refine (View.canon_cons_unit_lit _ _ _ (by decide)).trans (congrArg _ ?_)
  unfold runB.sl.v35
  rw [View.readCov_eq_canon', canon_sumB]
  exact View.ld_unit_lit (Val := Elt F) (e := .f32) (S := S512x1024) (off := ![0, 0]) inb_S512x1024_S512x1024_0_0 (k0_pay4 xs0 x8 x9 xs1 x10) (by decide)

/-- What the first point of a group not in use leaves in the result block. -/
theorem canon_outC (hc0 : ¬k0_cond1 i (nuW xt2) = 1#1) (hc1 : firstHalf i) (hc2 : ¬k0_cond3 i = 1#1) (hc3 : k0_cond4 i (nuW xt2) = 1#1) :
    View.canon (runC c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3).1 = k0_pay6 := by
  unfold runC
  dsimp only
  exact View.canon_cons_unit_lit _ _ _ (by decide)

/-- The first point of a group in use. -/
theorem stepA (hc0 : k0_cond1 i (nuW xt2) = 1#1) (hc1 : firstHalf i) (hc2 : ¬k0_cond3 i = 1#1) (hc3 : ¬k0_cond4 i (nuW xt2) = 1#1)
    (xi : Vec F S512x1024 .bf16) (E : Set ℕ) (K : PUnit → sProp 𝕄) :
    iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ (∃ d, owns (c : Thread nD τ) arg17 fullShare d) ∗ (∃ d, owns (c : Thread nD τ) arg18 fullShare d)
        ∗ (iprop(Ins c arg5 arg6 arg7 arg8 arg9 arg10 arg11 arg12 arg13 arg14 arg15 x0 x1 x2 x3 x4 x5 x6 x7 x8 x9 x10 xt0 xt1 xt2 ∗ owns (c : Thread nD τ) arg16 fullShare xi ∗ owns (c : Thread nD τ) arg17 fullShare (gathered x0 x1 x2 x3 x4 x5 x6 x7) ∗ owns (c : Thread nD τ) arg18 fullShare (sumA x0 x1 x2 x3 x4 x5 x6 x7 x8 x9 x10)) -∗ K ⟨⟩))
      ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨HI, H11, HS0, HS1, Hk⟩
  iapply ((runA c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3).2.2 xi E K)
  isplitl [HI]; · iexact HI
  isplitl [H11]; · iexact H11
  isplitl [HS0]; · iexact HS0
  isplitl [HS1]; · iexact HS1
  iintro ⟨HI, H11, ⟨%f0, HS0⟩, ⟨%f1, HS1⟩⟩
  iapply Hk
  isplitl [HI]; · iexact HI
  isplitl [H11]; · iexact H11
  isplitl [HS0]
  · unfold owns; iexists _; isplitr
    swap; · iexact HS0
    ipureintro; exact (View.read_writes_eq_canon _ _ _ (cover_rows c arg5 harg5 arg6 harg6 arg7 harg7 arg8 harg8 arg9 harg9 arg10 harg10 arg11 harg11 arg12 harg12 x0 x1 x2 x3 x4 x5 x6 x7)).trans (canon_rows c arg5 harg5 arg6 harg6 arg7 harg7 arg8 harg8 arg9 harg9 arg10 harg10 arg11 harg11 arg12 harg12 x0 x1 x2 x3 x4 x5 x6 x7)
  unfold owns; iexists _; isplitr
  swap; · iexact HS1
  ipureintro
  exact (View.read_writes_eq_canon _ _ _ (View.cover_of_tiledL _ S512x1024.size (by sl_kernel_rfl))).trans (canon_sumA c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3)

/-- The second point of a group in use. -/
theorem stepB (xs0 : Vec F S512x1024 .bf16) (xs1 : Vec F S512x1024 .f32)
    (hc0 : k0_cond1 i (nuW xt2) = 1#1) (hc1 : ¬firstHalf i) (hc2 : k0_cond3 i = 1#1) (hc3 : ¬k0_cond4 i (nuW xt2) = 1#1)
    (E : Set ℕ) (K : PUnit → sProp 𝕄) :
    iprop(Ins c arg5 arg6 arg7 arg8 arg9 arg10 arg11 arg12 arg13 arg14 arg15 x0 x1 x2 x3 x4 x5 x6 x7 x8 x9 x10 xt0 xt1 xt2 ∗ (∃ d, owns (c : Thread nD τ) arg16 fullShare d) ∗ owns (c : Thread nD τ) arg17 fullShare xs0 ∗ owns (c : Thread nD τ) arg18 fullShare xs1
        ∗ (iprop(Ins c arg5 arg6 arg7 arg8 arg9 arg10 arg11 arg12 arg13 arg14 arg15 x0 x1 x2 x3 x4 x5 x6 x7 x8 x9 x10 xt0 xt1 xt2 ∗ owns (c : Thread nD τ) arg16 fullShare (k0_pay5 (k0_pay4 xs0 x8 x9 xs1 x10)) ∗ (∃ d, owns (c : Thread nD τ) arg17 fullShare d) ∗ (∃ d, owns (c : Thread nD τ) arg18 fullShare d)) -∗ K ⟨⟩))
      ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨HI, H11, HS0, HS1, Hk⟩
  iapply ((runB c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 xs0 xs1 hc0 hc1 hc2 hc3).2.2 E K)
  isplitl [HI]; · iexact HI
  isplitl [H11]; · iexact H11
  isplitl [HS0]; · iexact HS0
  isplitl [HS1]; · iexact HS1
  iintro ⟨HI, ⟨%f, H11⟩, HS0, ⟨%f1, HS1⟩⟩
  iapply Hk
  isplitl [HI]; · iexact HI
  isplitl [H11]
  · unfold owns; iexists _; isplitr
    swap; · iexact H11
    ipureintro
    exact (View.read_writes_eq_canon _ _ _ (View.cover_of_tiledL _ S512x1024.size (by sl_kernel_rfl))).trans (canon_outB c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 xs0 xs1 hc0 hc1 hc2 hc3)
  isplitl [HS0]; · iexists xs0; iexact HS0
  iexists (arg18.view.read (Elt F) (arg18.view.writes (Elt F) f1 (runB c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 xs0 xs1 hc0 hc1 hc2 hc3).2.1))
  unfold owns; iexists _; isplitr
  swap; · iexact HS1
  ipureintro; rfl

/-- The first point of a group not in use. -/
theorem stepC (hc0 : ¬k0_cond1 i (nuW xt2) = 1#1) (hc1 : firstHalf i) (hc2 : ¬k0_cond3 i = 1#1) (hc3 : k0_cond4 i (nuW xt2) = 1#1)
    (E : Set ℕ) (K : PUnit → sProp 𝕄) :
    iprop(Ins c arg5 arg6 arg7 arg8 arg9 arg10 arg11 arg12 arg13 arg14 arg15 x0 x1 x2 x3 x4 x5 x6 x7 x8 x9 x10 xt0 xt1 xt2 ∗ (∃ d, owns (c : Thread nD τ) arg16 fullShare d) ∗ (∃ d, owns (c : Thread nD τ) arg17 fullShare d) ∗ (∃ d, owns (c : Thread nD τ) arg18 fullShare d)
        ∗ (iprop(Ins c arg5 arg6 arg7 arg8 arg9 arg10 arg11 arg12 arg13 arg14 arg15 x0 x1 x2 x3 x4 x5 x6 x7 x8 x9 x10 xt0 xt1 xt2 ∗ owns (c : Thread nD τ) arg16 fullShare k0_pay6 ∗ (∃ d, owns (c : Thread nD τ) arg17 fullShare d) ∗ (∃ d, owns (c : Thread nD τ) arg18 fullShare d)) -∗ K ⟨⟩))
      ⊢ wp frame (wpE (defs₀ (F := F)) Variants.none c none) E (cc0_moe_ffn i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨HI, H11, HS0, HS1, Hk⟩
  iapply ((runC c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3).2 E K)
  isplitl [HI]; · iexact HI
  isplitl [H11]; · iexact H11
  isplitl [HS0]; · iexact HS0
  isplitl [HS1]; · iexact HS1
  iintro ⟨HI, ⟨%f, H11⟩, HS0, HS1⟩
  iapply Hk
  isplitl [HI]; · iexact HI
  isplitl [H11]
  · unfold owns; iexists _; isplitr
    swap; · iexact H11
    ipureintro
    exact (View.read_writes_eq_canon _ _ _ (View.cover_of_tiledL _ S512x1024.size (by sl_kernel_rfl))).trans (canon_outC c i arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 xt0 xt1 xt2 hc0 hc1 hc2 hc3)
  isplitl [HS0]; · iexact HS0
  iexact HS1

end Cert.ExpertsIdeal.Moe

end
-- ==== Proof.MoeFrame.lean ====
/- The frame of the expert feed-forward call: what every point finds and leaves, and the run. -/
module

public import proofs.«01_k».proof.Proof.MoeStep

@[expose] public section

set_option maxRecDepth 16384

noncomputable section

namespace Cert.ExpertsIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The number of groups in use. -/
abbrev nu : BitVec 32 := (tbl m).atD 2 ![0]

theorem nuW_eq (c : Dev nD) : nuW (c := c) (tbl m 2) = nu m := by
  refine Eq.trans ?_ (dif_pos (show ∀ a : Fin 1, (![0] : Fin 1 → ℕ) a + 1 ≤ S1.size a by decide)).symm
  show tbl m 2 _ = tbl m 2 _
  congr 1

/-- The point's group is in use. -/
abbrev Live (t : Fin grid0.N) : Prop := k0_cond1 (grid0.coords t) (nu m) = 1#1

theorem coords0 (t : Fin grid0.N) : (grid0.coords t 0).val = t.val / 2 % 168 := Pipeline.Grid.coords_val t 0 (by decide) rfl
theorem coords1 (t : Fin grid0.N) : (grid0.coords t 1).val = t.val / 1 % 2 := Pipeline.Grid.coords_val t 1 (by decide) rfl

theorem firstHalf_iff (t : Fin grid0.N) : firstHalf (grid0.coords t) ↔ t.val % 2 = 0 := by
  have ht : t.val < 336 := Nat.lt_of_lt_of_eq t.isLt N_0
  have e1 := coords1 t
  simp only [firstHalf, e1]
  word_cmp

theorem cond3_iff (t : Fin grid0.N) : k0_cond3 (grid0.coords t) = 1#1 ↔ t.val % 2 = 1 := by
  have ht : t.val < 336 := Nat.lt_of_lt_of_eq t.isLt N_0
  have e1 := coords1 t
  simp only [k0_cond3, e1]
  word_cmp

theorem group_toInt (t : Fin grid0.N) : (BitVec.ofNat 32 (grid0.coords t 0).val).toInt = ((t.val / 2 : ℕ) : ℤ) := by
  have ht : t.val < 336 := Nat.lt_of_lt_of_eq t.isLt N_0
  rw [coords0, BitVec.toInt_eq_toNat_cond, BitVec.toNat_ofNat, show t.val / 2 % 168 % 2 ^ 32 = t.val / 2 by omega, if_pos (by omega)]

theorem flag_iff (b : Bool) : Scalar.cmpi .ne (Scalar.extui (BitVec.ofBool b) : BitVec 32) 0#32 = 1#1 ↔ b = true := by
  cases b <;> decide

theorem cond1_iff (t : Fin grid0.N) (v : BitVec 32) : k0_cond1 (grid0.coords t) v = 1#1 ↔ ((t.val / 2 : ℕ) : ℤ) < v.toInt := by
  rw [← group_toInt t, ← BitVec.slt_iff_toInt_lt]
  exact flag_iff _

theorem cond4_iff (t : Fin grid0.N) (v : BitVec 32) : k0_cond4 (grid0.coords t) v = 1#1 ↔ (v.toInt ≤ ((t.val / 2 : ℕ) : ℤ) ∧ t.val % 2 = 0) := by
  have e : k0_cond4 (grid0.coords t) v
      = Scalar.cmpi .ne (Scalar.extui (BitVec.ofBool (BitVec.sle v (BitVec.ofNat 32 (grid0.coords t 0).val) && (BitVec.ofNat 32 (grid0.coords t 1).val == 0#32))) : BitVec 32) 0#32 := by
    show Scalar.cmpi .ne (Scalar.extui (BitVec.ofBool (BitVec.sle v (BitVec.ofNat 32 (grid0.coords t 0).val)) &&& BitVec.ofBool (BitVec.ofNat 32 (grid0.coords t 1).val == 0#32)) : BitVec 32) 0#32 = _
    generalize BitVec.sle v _ = a
    generalize (BitVec.ofNat 32 (grid0.coords t 1).val == 0#32) = b
    cases a <;> cases b <;> rfl
  rw [e, flag_iff, Bool.and_eq_true, BitVec.sle_iff_toInt_le, group_toInt, beq_iff_eq]
  refine and_congr_right fun _ => ?_
  have e1 := coords1 t
  rw [e1]
  constructor
  · intro h
    have := congrArg BitVec.toNat h
    rw [BitVec.toNat_ofNat] at this
    change _ = 0 at this
    omega
  · intro h
    rw [show t.val / 1 % 2 = 0 by omega]

/-- The point before position `n`. -/
def pt (n : ℕ) : Fin grid0.N := ⟨min (n - 1) 335, by rw [show grid0.N = 336 from N_0]; omega⟩

theorem pt_val (t : Fin grid0.N) : (pt t.val).val = t.val - 1 := by
  have ht : t.val < 336 := Nat.lt_of_lt_of_eq t.isLt N_0
  show min (t.val - 1) 335 = _
  omega

theorem pt_succ (t : Fin grid0.N) : pt (t.val + 1) = t := by
  have ht : t.val < 336 := Nat.lt_of_lt_of_eq t.isLt N_0
  exact Fin.ext (show min (t.val + 1 - 1) 335 = t.val by omega)

theorem live_pt (t : Fin grid0.N) (h : t.val % 2 = 1) : Live m (pt t.val) ↔ Live m t := by
  unfold Live
  rw [cond1_iff, cond1_iff, pt_val, show (t.val - 1) / 2 = t.val / 2 by omega]

/-! ## The proof data -/

/-- The gathered rows at point `t`. -/
abbrev rowsAt (hO : Ok m) (c : Dev nD) (t : Fin (cfgM m hO).N) : Vec F S512x1024 .bf16 := gathered (iblk m hO c 0 t) (iblk m hO c 1 t) (iblk m hO c 2 t) (iblk m hO c 3 t) (iblk m hO c 4 t) (iblk m hO c 5 t) (iblk m hO c 6 t) (iblk m hO c 7 t)
/-- The first half of the sum at point `t`. -/
abbrev sumAt (hO : Ok m) (c : Dev nD) (t : Fin (cfgM m hO).N) : Vec F S512x1024 .f32 := sumA (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)
/-- What the result block holds after the last point of `t`'s group. -/
def outAt (hO : Ok m) (c : Dev nD) (t : Fin (cfgM m hO).N) : Vec F S512x1024 .bf16 :=
  open Classical in if Live m t then
    k0_pay5 (k0_pay4 (rowsAt m hO c (pt t.val)) (iblk m hO c 8 t) (iblk m hO c 9 t) (sumAt m hO c (pt t.val)) (iblk m hO c 10 t))
  else k0_pay6

/-- The scratch between points: within a group in use at what its first point leaves, else at anything. -/
def Phi0 (hO : Ok m) (c : Dev nD) (n : ℕ) : sProp 𝕄 :=
  open Classical in if n % 2 = 1 ∧ Live m (pt n) then
    iprop(iprop(owns (c : Thread nD τ) scM0_0 fullShare (rowsAt m hO c (pt n)) ∗ owns (c : Thread nD τ) scM0_1 fullShare (sumAt m hO c (pt n))) ∗ (∃ r, prngReg c r))
  else Pipeline.ΦA spec0 c

theorem Phi0_named (hO : Ok m) (c : Dev nD) (n : ℕ) (h : n % 2 = 1 ∧ Live m (pt n)) : Phi0 m hO c n =
    iprop(iprop(owns (c : Thread nD τ) scM0_0 fullShare (rowsAt m hO c (pt n)) ∗ owns (c : Thread nD τ) scM0_1 fullShare (sumAt m hO c (pt n))) ∗ (∃ r, prngReg c r)) :=
  if_pos h

theorem Phi0_any (hO : Ok m) (c : Dev nD) (n : ℕ) (h : ¬(n % 2 = 1 ∧ Live m (pt n))) : Phi0 m hO c n =
    iprop(iprop((∃ d, owns (c : Thread nD τ) scM0_0 fullShare d) ∗ (∃ d, owns (c : Thread nD τ) scM0_1 fullShare d)) ∗ (∃ r, prngReg c r)) :=
  (if_neg h).trans (PhiA0_eq c)

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => outAt m hO c t
  Φ t := iprop(Phi0 m hO c t.val ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = outAt m hO c t := by dsimp only [dats]; try rfl

theorem before0_0 (hO : Ok m) (c : Dev nD) (t : Fin (cfgM m hO).N) (d) : (dats m hO 0 c).before 0 t d = iblk m hO c 0 t :=
  before_of m hO (dats m hO 0 c) 0 rfl (fun _ => rfl) (A_eq m hO c 0) (after0_0 m hO c) t d
theorem before0_1 (hO : Ok m) (c : Dev nD) (t : Fin (cfgM m hO).N) (d) : (dats m hO 0 c).before 1 t d = iblk m hO c 1 t :=
  before_of m hO (dats m hO 0 c) 1 rfl (fun _ => rfl) (A_eq m hO c 1) (after0_1 m hO c) t d
theorem before0_2 (hO : Ok m) (c : Dev nD) (t : Fin (cfgM m hO).N) (d) : (dats m hO 0 c).before 2 t d = iblk m hO c 2 t :=
  before_of m hO (dats m hO 0 c) 2 rfl (fun _ => rfl) (A_eq m hO c 2) (after0_2 m hO c) t d
theorem before0_3 (hO : Ok m) (c : Dev nD) (t : Fin (cfgM m hO).N) (d) : (dats m hO 0 c).before 3 t d = iblk m hO c 3 t :=
  before_of m hO (dats m hO 0 c) 3 rfl (fun _ => rfl) (A_eq m hO c 3) (after0_3 m hO c) t d
theorem before0_4 (hO : Ok m) (c : Dev nD) (t : Fin (cfgM m hO).N) (d) : (dats m hO 0 c).before 4 t d = iblk m hO c 4 t :=
  before_of m hO (dats m hO 0 c) 4 rfl (fun _ => rfl) (A_eq m hO c 4) (after0_4 m hO c) t d
theorem before0_5 (hO : Ok m) (c : Dev nD) (t : Fin (cfgM m hO).N) (d) : (dats m hO 0 c).before 5 t d = iblk m hO c 5 t :=
  before_of m hO (dats m hO 0 c) 5 rfl (fun _ => rfl) (A_eq m hO c 5) (after0_5 m hO c) t d
theorem before0_6 (hO : Ok m) (c : Dev nD) (t : Fin (cfgM m hO).N) (d) : (dats m hO 0 c).before 6 t d = iblk m hO c 6 t :=
  before_of m hO (dats m hO 0 c) 6 rfl (fun _ => rfl) (A_eq m hO c 6) (after0_6 m hO c) t d
theorem before0_7 (hO : Ok m) (c : Dev nD) (t : Fin (cfgM m hO).N) (d) : (dats m hO 0 c).before 7 t d = iblk m hO c 7 t :=
  before_of m hO (dats m hO 0 c) 7 rfl (fun _ => rfl) (A_eq m hO c 7) (after0_7 m hO c) t d
theorem before0_8 (hO : Ok m) (c : Dev nD) (t : Fin (cfgM m hO).N) (d) : (dats m hO 0 c).before 8 t d = iblk m hO c 8 t :=
  before_of m hO (dats m hO 0 c) 8 rfl (fun _ => rfl) (A_eq m hO c 8) (after0_8 m hO c) t d
theorem before0_9 (hO : Ok m) (c : Dev nD) (t : Fin (cfgM m hO).N) (d) : (dats m hO 0 c).before 9 t d = iblk m hO c 9 t :=
  before_of m hO (dats m hO 0 c) 9 rfl (fun _ => rfl) (A_eq m hO c 9) (after0_9 m hO c) t d
theorem before0_10 (hO : Ok m) (c : Dev nD) (t : Fin (cfgM m hO).N) (d) : (dats m hO 0 c).before 10 t d = iblk m hO c 10 t :=
  before_of m hO (dats m hO 0 c) 10 rfl (fun _ => rfl) (A_eq m hO c 10) (after0_10 m hO c) t d

/-- An input's buffer is left at its block. -/
theorem leaves_in (hO : Ok m) (c : Dev nD) (t : Fin (cfgM m hO).N) (w : Fin (cfgM m hO).W) (hi : ∀ i, (cfgM m hO).idle w i = false) :
    (dats m hO 0 c).leavesExact w t = owns (c : Thread nD τ) (((cfgM m hO).win w).stage ((cfgM m hO).slots t w)) fullShare ((dats m hO 0 c).after w t) := by
  unfold Dat.leavesExact; rw [hi]

/-- The result block of a group in use is idle at its first point. -/
theorem idle_A (hO : Ok m) (t : Fin (cfgM m hO).N) (h : Live m t) (h2 : t.val % 2 = 0) : (cfgM m hO).idle 11 ((cfgM m hO).grid.coords t) = true := by
  have e3 : ¬k0_cond3 (grid0.coords t) = 1#1 := fun e => by have := (cond3_iff t).mp e; omega
  have e4 : ¬k0_cond4 (grid0.coords t) (nu m) = 1#1 := fun e => by
    have := (cond4_iff t (nu m)).mp e; have := (cond1_iff t (nu m)).mp h; omega
  show (!(k0_cond1 (grid0.coords t) (nu m) == 1#1 && k0_cond3 (grid0.coords t) == 1#1) && !(k0_cond4 (grid0.coords t) (nu m) == 1#1)) = true
  rw [beq_eq_false_iff_ne.mpr e3, beq_eq_false_iff_ne.mpr e4, Bool.and_false]; rfl

theorem idle_B (hO : Ok m) (t : Fin (cfgM m hO).N) (h : Live m t) (h2 : t.val % 2 = 1) : (cfgM m hO).idle 11 ((cfgM m hO).grid.coords t) = false := by
  show (!(k0_cond1 (grid0.coords t) (nu m) == 1#1 && k0_cond3 (grid0.coords t) == 1#1) && !(k0_cond4 (grid0.coords t) (nu m) == 1#1)) = false
  rw [beq_iff_eq.mpr h, beq_iff_eq.mpr ((cond3_iff t).mpr h2)]; rfl

theorem idle_C (hO : Ok m) (t : Fin (cfgM m hO).N) (h : ¬Live m t) (h2 : t.val % 2 = 0) : (cfgM m hO).idle 11 ((cfgM m hO).grid.coords t) = false := by
  have e4 : k0_cond4 (grid0.coords t) (nu m) = 1#1 := (cond4_iff t (nu m)).mpr ⟨not_lt.mp fun e => h ((cond1_iff t (nu m)).mpr e), h2⟩
  show (!(k0_cond1 (grid0.coords t) (nu m) == 1#1 && k0_cond3 (grid0.coords t) == 1#1) && !(k0_cond4 (grid0.coords t) (nu m) == 1#1)) = false
  rw [beq_iff_eq.mpr e4, Bool.not_true, Bool.and_false]

/-- At the second point of a group not in use the result block still holds what the first left. -/
theorem before_D (hO : Ok m) (c : Dev nD) (t : Fin (cfgM m hO).N) (h : ¬Live m t) (h2 : t.val % 2 = 1) (d) :
    (dats m hO 0 c).before 11 t d = outAt m hO c t := by
  have hp : t.val ≠ 0 := by omega
  have hfl : ((cfgM m hO).win 11).flush ⟨t.val - 1, Nat.lt_of_le_of_lt (Nat.sub_le _ _) t.isLt⟩ = false :=
    Bool.eq_false_iff.mpr fun e => by have := (flush0_11 (adm m hO) _).mp e; dsimp only at this; omega
  have hl : ¬Live m (pt t.val) := fun e => h ((live_pt m t h2).mp e)
  have ep : (⟨t.val - 1, Nat.lt_of_le_of_lt (Nat.sub_le _ _) t.isLt⟩ : Fin (cfgM m hO).N) = pt t.val := Fin.ext (pt_val t).symm
  rw [(dats m hO 0 c).before_of_pos 11 t hp (((cfgM m hO).win 11).fetch_out rfl t), hfl, if_neg Bool.false_ne_true, ep]
  unfold Dat.left
  rw [idle_C m hO (pt t.val) hl (by rw [pt_val]; omega)]
  unfold Dat.kept
  refine Eq.trans (b := (dats m hO 0 c).after 11 (pt t.val)) ?_ ?_
  · funext j
    exact dif_pos ((((cfgM m hO).win 11).moved_iff _ j).mpr fun a => (j a).isLt)
  · rw [after0_11]
    exact (if_neg hl).trans (if_neg h).symm

/-! ## The body obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

/-- The inputs and the tables, gathered. -/
theorem pre_split (hO : Ok m) (c : Dev nD) (t : Fin (cfgM m hO).N) :
    bodyPre m hO c t ⊢ iprop(Phi0 m hO c t.val ∗ (dats m hO 0 c).owesAt () t.castSucc ∗ Ins c (ms0_0 m hO t) (ms0_1 m hO t) (ms0_2 m hO t) (ms0_3 m hO t) (ms0_4 m hO t) (ms0_5 m hO t) (ms0_6 m hO t) (ms0_7 m hO t) (ms0_8 m hO t) (ms0_9 m hO t) (ms0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) ∗ (∃ d, owns (c : Thread nD τ) (ms0_11 m hO t) fullShare ((dats m hO 0 c).before 11 t d))) := by
  unfold bodyPre
  rw [show (dats m hO 0 c).Φ t.castSucc = iprop(Phi0 m hO c t.val ∗ Pipeline.ΦT pre0 (tbl m) c) from rfl, PhiT0_eq]
  simp only [before0_0, before0_1, before0_2, before0_3, before0_4, before0_5, before0_6, before0_7, before0_8, before0_9, before0_10]
  unfold Ins
  iintro ⟨⟨HF, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  isplitl [HF]; · iexact HF
  isplitl [Ho]; · iexact Ho
  isplitr [H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HT0]; · iexact HT0
    isplitl [HT1]; · iexact HT1
    iexact HT2
  iexact H11

/-- The inputs and the tables, dealt out again. -/
theorem post_join (hO : Ok m) (c : Dev nD) (t : Fin (cfgM m hO).N) :
    iprop(Phi0 m hO c (t.val + 1) ∗ (dats m hO 0 c).owesAt () t.castSucc ∗ Ins c (ms0_0 m hO t) (ms0_1 m hO t) (ms0_2 m hO t) (ms0_3 m hO t) (ms0_4 m hO t) (ms0_5 m hO t) (ms0_6 m hO t) (ms0_7 m hO t) (ms0_8 m hO t) (ms0_9 m hO t) (ms0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) ∗ (dats m hO 0 c).leavesExact 11 t) ⊢ bodyPost m hO c t := by
  unfold bodyPost
  rw [show (dats m hO 0 c).Φ t.succ = iprop(Phi0 m hO c (t.val + 1) ∗ Pipeline.ΦT pre0 (tbl m) c) from rfl, PhiT0_eq,
    show (dats m hO 0 c).owesAt () t.succ = (dats m hO 0 c).owesAt () t.castSucc from rfl]
  rw [leaves_in m hO c t 0 (fun _ => rfl), after0_0, leaves_in m hO c t 1 (fun _ => rfl), after0_1, leaves_in m hO c t 2 (fun _ => rfl), after0_2, leaves_in m hO c t 3 (fun _ => rfl), after0_3, leaves_in m hO c t 4 (fun _ => rfl), after0_4, leaves_in m hO c t 5 (fun _ => rfl), after0_5, leaves_in m hO c t 6 (fun _ => rfl), after0_6, leaves_in m hO c t 7 (fun _ => rfl), after0_7, leaves_in m hO c t 8 (fun _ => rfl), after0_8, leaves_in m hO c t 9 (fun _ => rfl), after0_9, leaves_in m hO c t 10 (fun _ => rfl), after0_10]
  unfold Ins
  iintro ⟨HF, Ho, ⟨H0, H1, H2, H3, H4, H5, H6, H7, H8, H9, H10, HT0, HT1, HT2⟩, H11⟩
  isplitl [HF HT0 HT1 HT2]
  · isplitl [HF]; · iexact HF
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  refine (pre_split m hO c t).trans ?_
  unfold bodyAt0
  have hN : t.val < 336 := lt_of_lt_of_eq t.isLt (show (cfgM m hO).N = 336 from N_0)
  by_cases hl : Live m t
  · have c1 : k0_cond1 (grid0.coords t) (nuW (c := c) (tbl m 2)) = 1#1 := (nuW_eq m c).symm ▸ hl
    have c4 : ¬k0_cond4 (grid0.coords t) (nuW (c := c) (tbl m 2)) = 1#1 := by
      rw [nuW_eq]
      exact fun e => by have := (cond4_iff t (nu m)).mp e; have := (cond1_iff t (nu m)).mp hl; omega
    by_cases h2 : t.val % 2 = 0
    · rw [Phi0_any m hO c t.val fun e => by omega]
      iintro ⟨⟨⟨HS0, HS1⟩, Hg⟩, Ho, HI, ⟨%d11, H11⟩⟩
      iapply (stepA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) c1 ((firstHalf_iff t).mpr h2) (fun e => by have := (cond3_iff t).mp e; omega) c4 _ Set.univ _)
      isplitl [HI]; · iexact HI
      isplitl [H11]; · iexact H11
      isplitl [HS0]; · iexact HS0
      isplitl [HS1]; · iexact HS1
      iintro ⟨HI, H11, HS0, HS1⟩
      iapply (post_join m hO c t)
      isplitl [HS0 HS1 Hg]
      · rw [Phi0_named m hO c (t.val + 1) ⟨by omega, by rw [pt_succ]; exact hl⟩, pt_succ]
        isplitl [HS0 HS1]
        · isplitl [HS0]; · iexact HS0
          iexact HS1
        iexact Hg
      isplitl [Ho]; · iexact Ho
      isplitl [HI]; · iexact HI
      rw [Dat.leavesExact_idle (dats m hO 0 c) 11 t (idle_A m hO t hl h2) (Bool.eq_false_iff.mpr fun e => by have := (flush0_11 (adm m hO) t).mp e; omega)]
      iexists d11; iexact H11
    · have h2 : t.val % 2 = 1 := by omega
      rw [Phi0_named m hO c t.val ⟨h2, (live_pt m t h2).mpr hl⟩]
      iintro ⟨⟨⟨HS0, HS1⟩, Hg⟩, Ho, HI, ⟨%d11, H11⟩⟩
      iapply (stepB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) (rowsAt m hO c (pt t.val)) (sumAt m hO c (pt t.val)) c1 (fun e => by have := (firstHalf_iff t).mp e; omega) ((cond3_iff t).mpr h2) c4 Set.univ _)
      isplitl [HI]; · iexact HI
      isplitl [H11]; · iexists _; iexact H11
      isplitl [HS0]; · iexact HS0
      isplitl [HS1]; · iexact HS1
      iintro ⟨HI, H11, HS0, HS1⟩
      iapply (post_join m hO c t)
      isplitl [HS0 HS1 Hg]
      · rw [Phi0_any m hO c (t.val + 1) fun e => by omega]
        isplitl [HS0 HS1]
        · isplitl [HS0]; · iexact HS0
          iexact HS1
        iexact Hg
      isplitl [Ho]; · iexact Ho
      isplitl [HI]; · iexact HI
      rw [show (dats m hO 0 c).leavesExact 11 t = owns (c : Thread nD τ) (ms0_11 m hO t) fullShare ((dats m hO 0 c).after 11 t) from by
        unfold Dat.leavesExact; rw [idle_B m hO t hl h2]; rfl, after0_11]
      unfold outAt; rw [if_pos hl]
      iexact H11
  · have c1 : ¬k0_cond1 (grid0.coords t) (nuW (c := c) (tbl m 2)) = 1#1 := (nuW_eq m c).symm ▸ hl
    by_cases h2 : t.val % 2 = 0
    · have c4 : k0_cond4 (grid0.coords t) (nuW (c := c) (tbl m 2)) = 1#1 := by
        rw [nuW_eq]
        exact (cond4_iff t (nu m)).mpr ⟨not_lt.mp fun e => hl ((cond1_iff t (nu m)).mpr e), h2⟩
      rw [Phi0_any m hO c t.val fun e => by omega]
      iintro ⟨⟨⟨HS0, HS1⟩, Hg⟩, Ho, HI, ⟨%d11, H11⟩⟩
      iapply (stepC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) c1 ((firstHalf_iff t).mpr h2) (fun e => by have := (cond3_iff t).mp e; omega) c4 Set.univ _)
      isplitl [HI]; · iexact HI
      isplitl [H11]; · iexists _; iexact H11
      isplitl [HS0]; · iexact HS0
      isplitl [HS1]; · iexact HS1
      iintro ⟨HI, H11, HS0, HS1⟩
      iapply (post_join m hO c t)
      isplitl [HS0 HS1 Hg]
      · rw [Phi0_any m hO c (t.val + 1) fun e => hl (by rw [← pt_succ t]; exact e.2)]
        isplitl [HS0 HS1]
        · isplitl [HS0]; · iexact HS0
          iexact HS1
        iexact Hg
      isplitl [Ho]; · iexact Ho
      isplitl [HI]; · iexact HI
      rw [show (dats m hO 0 c).leavesExact 11 t = owns (c : Thread nD τ) (ms0_11 m hO t) fullShare ((dats m hO 0 c).after 11 t) from by
        unfold Dat.leavesExact; rw [idle_C m hO t hl h2]; rfl, after0_11]
      unfold outAt; rw [if_neg hl]
      iexact H11
    · have h2 : t.val % 2 = 1 := by omega
      have c4 : ¬k0_cond4 (grid0.coords t) (nuW (c := c) (tbl m 2)) = 1#1 := fun e => by have := (cond4_iff t _).mp e; omega
      rw [Phi0_any m hO c t.val fun e => hl ((live_pt m t h2).mp e.2)]
      iintro ⟨⟨⟨HS0, HS1⟩, Hg⟩, Ho, HI, ⟨%d11, H11⟩⟩
      iapply (runD c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (tbl m 1) (tbl m 2) c1 (fun e => by have := (firstHalf_iff t).mp e; omega) ((cond3_iff t).mpr h2) c4 _ Set.univ _)
      isplitl [HI]; · iexact HI
      isplitl [H11]; · iexact H11
      isplitl [HS0]; · iexact HS0
      isplitl [HS1]; · iexact HS1
      iintro ⟨HI, H11, HS0, HS1⟩
      iapply (post_join m hO c t)
      isplitl [HS0 HS1 Hg]
      · rw [Phi0_any m hO c (t.val + 1) fun e => by omega]
        isplitl [HS0 HS1]
        · isplitl [HS0]; · iexact HS0
          iexact HS1
        iexact Hg
      isplitl [Ho]; · iexact Ho
      isplitl [HI]; · iexact HI
      rw [show (dats m hO 0 c).leavesExact 11 t = owns (c : Thread nD τ) (ms0_11 m hO t) fullShare ((dats m hO 0 c).after 11 t) from by
        unfold Dat.leavesExact; rw [(flush0_11 (adm m hO) t).mpr h2]; split <;> rfl, after0_11, before_D m hO c t hl h2]
      iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (`triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(Phi0 m hO c 0 ∗ Pipeline.ΦT pre0 (tbl m) c) from rfl, Phi0_any m hO c 0 (fun e => by omega), PhiA0_eq]

/-- After the last point the invariant gives the region's scratch back. -/
theorem hout (hO : Ok m) (c : Dev nD) : (dats m hO 0 c).Φ (Fin.last (cfgM m hO).N) ⊢ Pipeline.ΦA spec0 c := by
  have hN : (cfgM m hO).N = 336 := N_0
  rw [show (dats m hO 0 c).Φ (Fin.last (cfgM m hO).N) = iprop(Phi0 m hO c (cfgM m hO).N ∗ Pipeline.ΦT pre0 (tbl m) c) from rfl,
    Phi0_any m hO c _ (fun e => by omega), PhiA0_eq]
  iintro ⟨H, -⟩
  iexact H

/-! ## The run and the frame -/

-- `θ_run_frameP_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame: from tables that name tiles and experts that exist, the run ends, the arguments unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Moe

end
-- ==== Proof.MoeOk.lean ====
/- The windows' blocks: which tile, which expert and which half of the columns each is, and that each lies inside its array. -/
module

public import proofs.«01_k».proof.Proof.Gen.ExpertsIdeal
public import Idealize.ShloMosaic.Lib.Pointwise
public import Idealize.ShloMosaic.Lib.Affine

@[expose] public section

set_option maxRecDepth 16384
set_option backward.proofsInPublic true

noncomputable section

namespace Cert.ExpertsIdeal.Moe

open Idealize.ShloMosaic Cert.ExpertsIdeal Cert.ExpertsIdeal.Gen

variable {F : FTy → Type} [FloatOps F] (pf : pre0.Contents (Elt F)) (i : grid0.Coords)

/-- The tile table's word for slot `k` of group `g`. -/
abbrev tileW (g : Fin 168) (k : Fin 8) : BitVec 32 := (pf 0 : IVec S168x8 32) (ix2 g k)
/-- The expert table's word for group `g`. -/
abbrev expertW (g : Fin 168) : BitVec 32 := (pf 1 : IVec S168 32) (ix1 g)
/-- The number of groups in use. -/
abbrev usedW : BitVec 32 := (pf 2 : IVec S1 32) (ix1 0)
/-- A point's group. -/
abbrev grp : Fin 168 := i 0

theorem group_word : (Scalar.indexCast (BitVec.ofNat 32 (i 0).val) : Index).toNat = (i 0).val := by
  have h : (i 0).val < 168 := (i 0).isLt
  show (BitVec.ofNat 32 (i 0).val).toNat = _
  rw [BitVec.toNat_ofNat, Nat.mod_eq_of_lt (by omega)]

theorem at_tile (k : Fin 8) (off : Fin 2 → ℕ) (h : ∀ a, off a + S1x1.size a ≤ S168x8.size a) (e0 : off 0 = (i 0).val) (e1 : off 1 = k.val) :
    pf.at 0 (Rect.unit (s := S168x8) off S1x1.size h) numel1_S1x1 = tileW pf (grp i) k := by
  show (pf 0 : IVec S168x8 32) _ = _
  congr 1
  funext a
  refine Fin.cases ?_ (fun b => ?_) a
  · exact Fin.ext (show off 0 + 1 * 0 = _ from by rw [e0]; rfl)
  · obtain rfl : b = 0 := Subsingleton.elim _ _
    exact Fin.ext (show off 1 + 1 * 0 = _ from by rw [e1]; rfl)

theorem at_expert (off : Fin 1 → ℕ) (h : ∀ a, off a + S1.size a ≤ S168.size a) (e0 : off 0 = (i 0).val) :
    pf.at 1 (Rect.unit (s := S168) off S1.size h) numel1_S1 = expertW pf (grp i) := by
  show (pf 1 : IVec S168 32) _ = _
  congr 1
  refine funext fun (a : Fin 1) => ?_
  obtain rfl : a = 0 := Subsingleton.elim _ _
  exact Fin.ext (show off 0 + 1 * 0 = _ from by rw [e0]; rfl)

theorem at_used : pf.at 2 (Rect.unit (s := S1) ![0] S1.size inb_S1_S1_0) numel1_S1 = usedW pf := by
  show (pf 2 : IVec S1 32) _ = _
  congr 1
  refine funext fun (a : Fin 1) => ?_
  obtain rfl : a = 0 := Subsingleton.elim _ _
  rfl

/-- Which half of the columns a point works on: its own in a group in use, the second elsewhere. -/
def halfW : ℕ := (Scalar.select (Scalar.cmpi .slt (BitVec.ofNat 32 (i 0).val) (usedW pf)) (BitVec.ofNat 32 (i 1).val) 1#32 : BitVec 32).toNat

theorem half_le : halfW pf i ≤ 1 := by
  have h : (i 1).val < 2 := (i 1).isLt
  unfold halfW Scalar.select
  split
  · rw [BitVec.toNat_ofNat, Nat.mod_eq_of_lt (by omega)]; omega
  · exact le_refl 1

/-- The index maps, in the tables' words. -/
theorem ix_tile : cc0_transform_0 k0_off1_inb numel1_S1x1 pf i = ![(tileW pf (grp i) 0).toNat, 0]
    ∧ cc0_transform_1 k0_off2_inb numel1_S1x1 pf i = ![(tileW pf (grp i) 1).toNat, 0]
    ∧ cc0_transform_2 k0_off3_inb numel1_S1x1 pf i = ![(tileW pf (grp i) 2).toNat, 0]
    ∧ cc0_transform_3 k0_off4_inb numel1_S1x1 pf i = ![(tileW pf (grp i) 3).toNat, 0]
    ∧ cc0_transform_4 k0_off5_inb numel1_S1x1 pf i = ![(tileW pf (grp i) 4).toNat, 0]
    ∧ cc0_transform_5 k0_off6_inb numel1_S1x1 pf i = ![(tileW pf (grp i) 5).toNat, 0]
    ∧ cc0_transform_6 k0_off7_inb numel1_S1x1 pf i = ![(tileW pf (grp i) 6).toNat, 0]
    ∧ cc0_transform_7 k0_off8_inb numel1_S1x1 pf i = ![(tileW pf (grp i) 7).toNat, 0] := by
  have e := group_word i
  refine ⟨?_, ?_, ?_, ?_, ?_, ?_, ?_, ?_⟩ <;>
    exact congrArg (fun w : BitVec 32 => (![w.toNat, 0] : Fin 2 → ℕ)) (at_tile pf i _ _ _ e rfl)

theorem ix_weights : cc0_transform_8 k0_off9_inb numel1_S1 inb_S1_S1_0 pf i = ![(expertW pf (grp i)).toNat, 0, halfW pf i]
    ∧ cc0_transform_9 k0_off9_inb numel1_S1 inb_S1_S1_0 pf i = ![(expertW pf (grp i)).toNat, 0, halfW pf i]
    ∧ cc0_transform_10 k0_off9_inb numel1_S1 inb_S1_S1_0 pf i = ![(expertW pf (grp i)).toNat, halfW pf i, 0] := by
  have e := at_expert pf i _ (k0_off9_inb i) (group_word i)
  have u := at_used pf
  refine ⟨?_, ?_, ?_⟩
  · exact congrArg₂ (fun w v : BitVec 32 => (![w.toNat, 0, (Scalar.select (Scalar.cmpi .slt (BitVec.ofNat 32 (i 0).val) v) (BitVec.ofNat 32 (i 1).val) 1#32 : BitVec 32).toNat] : Fin 3 → ℕ)) e u
  · exact congrArg₂ (fun w v : BitVec 32 => (![w.toNat, 0, (Scalar.select (Scalar.cmpi .slt (BitVec.ofNat 32 (i 0).val) v) (BitVec.ofNat 32 (i 1).val) 1#32 : BitVec 32).toNat] : Fin 3 → ℕ)) e u
  · exact congrArg₂ (fun w v : BitVec 32 => (![w.toNat, (Scalar.select (Scalar.cmpi .slt (BitVec.ofNat 32 (i 0).val) v) (BitVec.ofNat 32 (i 1).val) 1#32 : BitVec 32).toNat, 0] : Fin 3 → ℕ)) e u

theorem tile_inside {w : ℕ} (hw : w < 1280) (f : Fin 2 → ℕ) (hf : f = ![w, 0]) :
    ∃ h : (∀ a, (f a + 1) * S64x1024.size a ≤ S81920x1024.size a), EltTy.bits .bf16 = 32 ∨ (Rect.block (s := S81920x1024) S64x1024.size f h).WholeWords (EltTy.packing .bf16) := by
  subst hf
  refine ⟨fun a => ?_, .inr (Affine.block_words_dvd (of_decide_eq_true rfl) (by decide))⟩
  match a with
  | ⟨0, _⟩ => show (w + 1) * 64 ≤ 81920; omega
  | ⟨1, _⟩ => show (0 + 1) * 1024 ≤ 1024; omega

theorem cols_inside {w j : ℕ} (hw : w < 8) (hj : j ≤ 1) (f : Fin 3 → ℕ) (hf : f = ![w, 0, j]) :
    ∃ h : (∀ a, (f a + 1) * S1x1024x1792.size a ≤ S8x1024x3584.size a), EltTy.bits .bf16 = 32 ∨ (Rect.block (s := S8x1024x3584) S1x1024x1792.size f h).WholeWords (EltTy.packing .bf16) := by
  subst hf
  refine ⟨fun a => ?_, .inr (Affine.block_words_dvd (of_decide_eq_true rfl) (by decide))⟩
  match a with
  | ⟨0, _⟩ => show (w + 1) * 1 ≤ 8; omega
  | ⟨1, _⟩ => show (0 + 1) * 1024 ≤ 1024; omega
  | ⟨2, _⟩ => show (j + 1) * 1792 ≤ 3584; omega

theorem rows_inside {w j : ℕ} (hw : w < 8) (hj : j ≤ 1) (f : Fin 3 → ℕ) (hf : f = ![w, j, 0]) :
    ∃ h : (∀ a, (f a + 1) * S1x1792x1024.size a ≤ S8x3584x1024.size a), EltTy.bits .bf16 = 32 ∨ (Rect.block (s := S8x3584x1024) S1x1792x1024.size f h).WholeWords (EltTy.packing .bf16) := by
  subst hf
  refine ⟨fun a => ?_, .inr (Affine.block_words_dvd (of_decide_eq_true rfl) (by decide))⟩
  match a with
  | ⟨0, _⟩ => show (w + 1) * 1 ≤ 8; omega
  | ⟨1, _⟩ => show (j + 1) * 1792 ≤ 3584; omega
  | ⟨2, _⟩ => show (0 + 1) * 1024 ≤ 1024; omega

/-- Tables that name tiles and experts that exist are admissible: every block lies inside its array. -/
theorem ok_of_bounds (ht : ∀ j, ((pf 0 : IVec S168x8 32) j).toNat < 1280) (he : ∀ j, ((pf 1 : IVec S168 32) j).toNat < 8) : ok0 pf :=
  ⟨fun i => tile_inside (ht _) _ (ix_tile pf i).1, fun i => tile_inside (ht _) _ (ix_tile pf i).2.1, fun i => tile_inside (ht _) _ (ix_tile pf i).2.2.1,
    fun i => tile_inside (ht _) _ (ix_tile pf i).2.2.2.1, fun i => tile_inside (ht _) _ (ix_tile pf i).2.2.2.2.1, fun i => tile_inside (ht _) _ (ix_tile pf i).2.2.2.2.2.1,
    fun i => tile_inside (ht _) _ (ix_tile pf i).2.2.2.2.2.2.1, fun i => tile_inside (ht _) _ (ix_tile pf i).2.2.2.2.2.2.2,
    fun i => cols_inside (he _) (half_le pf i) _ (ix_weights pf i).1, fun i => cols_inside (he _) (half_le pf i) _ (ix_weights pf i).2.1,
    fun i => rows_inside (he _) (half_le pf i) _ (ix_weights pf i).2.2⟩

end Cert.ExpertsIdeal.Moe

end
-- ==== Proof.MoeSpec.lean ====
/- What the expert feed-forward call computes, in plain sums over the extended reals. Both programs are read down to these. -/
module

public import Idealize.ShloMosaic.Lib.Pipeline.ValueKit
public import Idealize.ShloMosaic.Lib.Pointwise

@[expose] public section

set_option backward.proofsInPublic true

noncomputable section

namespace Cert.Moe

open Idealize.ShloMosaic

/-- One entry of a gated feed-forward layer with `n` columns: for every column the row's product with the gate weights through
    `a · logistic a`, times its product with the up weights, weighed by the down weight. -/
def ffn (n : ℕ) (x : Fin 1024 → EReal) (wg wu : Fin 1024 → Fin n → EReal) (wd : Fin n → EReal) : EReal :=
  ∑ f : Fin n, ((∑ k, x k * wg k f) * Ideal.logistic (∑ k, x k * wg k f)) * (∑ k, x k * wu k f) * wd f

/-- Column `f` of half `j`. -/
abbrev col (j : Fin 2) (f : Fin 1792) : Fin 3584 := ⟨1792 * j.val + f.val, by have := j.2; have := f.2; omega⟩

/-- The layer's columns in two halves. -/
theorem ffn_halves (x : Fin 1024 → EReal) (wg wu : Fin 1024 → Fin 3584 → EReal) (wd : Fin 3584 → EReal) :
    ffn 3584 x wg wu wd = ffn 1792 x (fun k f => wg k (col 0 f)) (fun k f => wu k (col 0 f)) (fun f => wd (col 0 f))
      + ffn 1792 x (fun k f => wg k (col 1 f)) (fun k f => wu k (col 1 f)) (fun f => wd (col 1 f)) := by
  unfold ffn
  refine (Fin.sum_univ_add (a := 1792) (b := 1792) _).trans (congr (congrArg HAdd.hAdd ?_) ?_)
  · refine Finset.sum_congr rfl fun f _ => ?_
    rw [show Fin.castAdd 1792 f = col 0 f from Fin.ext (show f.val = 1792 * 0 + f.val by omega)]
  · refine Finset.sum_congr rfl fun f _ => ?_
    rw [show Fin.natAdd 1792 f = col 1 f from Fin.ext (show 1792 + f.val = 1792 * 1 + f.val by omega)]

variable (gt : (⟨2, ![168, 8]⟩ : Shape).Idx → BitVec 32) (ge : (⟨1, ![168]⟩ : Shape).Idx → BitVec 32) (nu : (⟨1, ![1]⟩ : Shape).Idx → BitVec 32)
  (xs : (⟨2, ![81920, 1024]⟩ : Shape).Idx → EReal) (wg wu : (⟨3, ![8, 1024, 3584]⟩ : Shape).Idx → EReal)
  (wd : (⟨3, ![8, 3584, 1024]⟩ : Shape).Idx → EReal)
  (ht : ∀ i, (gt i).toNat < 1280) (he : ∀ i, (ge i).toNat < 8)

/-- Row `r` of group `g`: row `r mod 64` of the tile the table names for the group's slot `r / 64`. -/
def row (g : Fin 168) (r : Fin 512) (k : Fin 1024) : EReal :=
  xs (ix2 ⟨(gt (ix2 g ⟨r.val / 64, by have := r.2; omega⟩)).toNat * 64 + r.val % 64, by
    have := ht (ix2 g ⟨r.val / 64, by have := r.2; omega⟩); omega⟩ k)

/-- The expert of group `g`. -/
abbrev expert (g : Fin 168) : Fin 8 := ⟨(ge (ix1 g)).toNat, he _⟩

/-- The rows of a group in use through the group's expert; zero in the other groups. -/
def result (g : Fin 168) (r : Fin 512) (d : Fin 1024) : EReal :=
  if (g.val : ℤ) < (nu (ix1 0)).toInt then
    ffn 3584 (row gt xs ht g r) (fun k f => wg (ix3 (expert ge he g) k f)) (fun k f => wu (ix3 (expert ge he g) k f)) (fun f => wd (ix3 (expert ge he g) f d))
  else 0

end Cert.Moe

end
-- ==== Proof.MoePay.lean ====
/- The body's sums, read at an index. -/
module

public import proofs.«01_k».proof.Proof.MoeSpec
public import proofs.«01_k».proof.Proof.Gen.ExpertsIdeal.Skeleton

@[expose] public section

set_option maxRecDepth 16384

noncomputable section

namespace Cert.ExpertsIdeal.Moe

open Idealize.ShloMosaic Cert.ExpertsIdeal Cert.ExpertsIdeal.Gen

/-- What a point adds to the sum: half of the columns of the layer. -/
theorem pay4_apply (x : Vec Ideal S512x1024 .bf16) (wg wu : Vec Ideal S1x1024x1792 .bf16) (acc : Vec Ideal S512x1024 .f32) (wd : Vec Ideal S1x1792x1024 .bf16)
    (r : Fin 512) (d : Fin 1024) :
    k0_pay4 x wg wu acc wd (ix2 r d) = acc (ix2 r d)
      + Cert.Moe.ffn 1792 (fun k => x (ix2 r k)) (fun k f => wg (ix3 0 k f)) (fun k f => wu (ix3 0 k f)) (fun f => wd (ix3 0 f d)) := by
  unfold Cert.Moe.ffn
  pointwise [k0_pay4]

theorem pay5_apply (x : Vec Ideal S512x1024 .f32) (i : S512x1024.Idx) : k0_pay5 x i = x i := by
  pointwise [k0_pay5]

theorem pay6_apply (i : S512x1024.Idx) : k0_pay6 (F := Ideal) i = 0 := by
  pointwise [k0_pay6]

theorem pay7_apply (i : S512x1024.Idx) : k0_pay7 (F := Ideal) i = 0 := by
  pointwise [k0_pay7]

end Cert.ExpertsIdeal.Moe

end
-- ==== Proof.MoeKernel.lean ====
/- The kernel's blocks and its result, read at an index. -/
module

public import proofs.«01_k».proof.Proof.MoeFrame
public import proofs.«01_k».proof.Proof.MoeOk
public import proofs.«01_k».proof.Proof.MoePay
public import Idealize.ShloMosaic.Lib.Pipeline.Covers

@[expose] public section

set_option maxRecDepth 16384
set_option backward.proofsInPublic true

noncomputable section

namespace Cert.ExpertsIdeal.Moe

open Idealize.ShloMosaic Idealize.ShloMosaic.TcCoe Idealize.SL.Sem
open Cert.ExpertsIdeal Cert.ExpertsIdeal.Gen
variable (m : (l : Loc nD τ sig) → Buf (Elt Ideal) l) (hO : Ok m)

/-- The arguments as arrays of extended reals. -/
abbrev xsA (c : Dev nD) : (⟨2, ![81920, 1024]⟩ : Shape).Idx → EReal := m ((c : Thread nD τ).loc main_arg3)
abbrev wgA (c : Dev nD) : (⟨3, ![8, 1024, 3584]⟩ : Shape).Idx → EReal := m ((c : Thread nD τ).loc main_arg4)
abbrev wuA (c : Dev nD) : (⟨3, ![8, 1024, 3584]⟩ : Shape).Idx → EReal := m ((c : Thread nD τ).loc main_arg5)
abbrev wdA (c : Dev nD) : (⟨3, ![8, 3584, 1024]⟩ : Shape).Idx → EReal := m ((c : Thread nD τ).loc main_arg6)

/-! ## The index maps at a point -/

/-- The count the index maps read is the count the body reads. -/
theorem used_eq : usedW (tbl m) = nu m := by
  refine Eq.trans ?_ (dif_pos (show ∀ a : Fin 1, (![0] : Fin 1 → ℕ) a + 1 ≤ S1.size a by decide)).symm
  show tbl m 2 _ = tbl m 2 _
  congr 1
  refine funext fun (a : Fin 1) => ?_
  match a with
  | ⟨0, _⟩ => rfl

/-- Within a group in use the weights' half is the point's second coordinate. -/
theorem half_live (t : Fin grid0.N) (h : Live m t) : halfW (tbl m) (grid0.coords t) = t.val % 2 := by
  have hl : (BitVec.ofNat 32 (grid0.coords t 0).val).slt (usedW (tbl m)) = true := by
    rw [BitVec.slt_iff_toInt_lt, group_toInt t, used_eq m]
    exact (cond1_iff t _).mp h
  show (Scalar.select (BitVec.ofBool ((BitVec.ofNat 32 (grid0.coords t 0).val).slt (usedW (tbl m)))) (BitVec.ofNat 32 (grid0.coords t 1).val) 1#32).toNat = _
  rw [hl]
  show (BitVec.ofNat 32 (grid0.coords t 1).val).toNat = _
  rw [coords1, BitVec.toNat_ofNat]
  omega

/-! ## A block read at an index -/

/-- The place of an element in its block's array, along the two axes of a row tile. -/
theorem at_tile_row {f : Fin 2 → ℕ} {w : ℕ} {r R : ℕ} (e : f = ![w, 0]) (h : w * 64 + r = R) : f 0 * 64 + r = R := by
  rw [e]; exact h
theorem at_tile_col {f : Fin 2 → ℕ} {w k : ℕ} (e : f = ![w, 0]) : f 1 * 1024 + k = k := by
  rw [e]; show 0 * 1024 + k = k; omega

/-- The tile in slot `s` of the point's group holds rows of the gathered array, from the row the table names on. -/
theorem tile_apply (c : Dev nD) (t : Fin (cfgM m hO).N) (s : Fin 8) (r : Fin 64) (k : Fin 1024) (R : Fin 81920)
    (hR : (tileW (tbl m) (grp (grid0.coords t)) s).toNat * 64 + r.val = R.val) :
    (![iblk m hO c 0 t, iblk m hO c 1 t, iblk m hO c 2 t, iblk m hO c 3 t, iblk m hO c 4 t, iblk m hO c 5 t, iblk m hO c 6 t, iblk m hO c 7 t] : Fin 8 → Vec Ideal S64x1024 .bf16) s (ix2 r k)
      = xsA m c (ix2 R k) := by
  obtain ⟨e0, e1, e2, e3, e4, e5, e6, e7⟩ := ix_tile (tbl m) (grid0.coords t)
  match s, hR with
  | 0, hR => blk_simp [iblk, V]; blk_ext; exacts [at_tile_row e0 hR, at_tile_col e0]
  | 1, hR => blk_simp [iblk, V]; blk_ext; exacts [at_tile_row e1 hR, at_tile_col e1]
  | 2, hR => blk_simp [iblk, V]; blk_ext; exacts [at_tile_row e2 hR, at_tile_col e2]
  | 3, hR => blk_simp [iblk, V]; blk_ext; exacts [at_tile_row e3 hR, at_tile_col e3]
  | 4, hR => blk_simp [iblk, V]; blk_ext; exacts [at_tile_row e4 hR, at_tile_col e4]
  | 5, hR => blk_simp [iblk, V]; blk_ext; exacts [at_tile_row e5 hR, at_tile_col e5]
  | 6, hR => blk_simp [iblk, V]; blk_ext; exacts [at_tile_row e6 hR, at_tile_col e6]
  | 7, hR => blk_simp [iblk, V]; blk_ext; exacts [at_tile_row e7 hR, at_tile_col e7]

/-- The place of an element in its block's array, along each axis of a weight window. -/
theorem at_first {f : Fin 3 → ℕ} {e a b : ℕ} {E : ℕ} (h : f = ![e, a, b]) (hE : e = E) : f 0 + 0 = E := by
  rw [h]; exact hE
theorem at_second {f : Fin 3 → ℕ} {e a b : ℕ} {n k R : ℕ} (h : f = ![e, a, b]) (hR : a * n + k = R) : f 1 * n + k = R := by
  rw [h]; exact hR
theorem at_third {f : Fin 3 → ℕ} {e a b : ℕ} {n k R : ℕ} (h : f = ![e, a, b]) (hR : b * n + k = R) : f 2 * n + k = R := by
  rw [h]; exact hR

/-- The block of the gate weights at a point: the group's expert, at half `j` of the columns. -/
theorem gate_apply (c : Dev nD) (t : Fin (cfgM m hO).N) (k : Fin 1024) (f : Fin 1792) (E : Fin 8) (j : Fin 2)
    (hE : (expertW (tbl m) (grp (grid0.coords t))).toNat = E.val) (hj : halfW (tbl m) (grid0.coords t) = j.val) :
    iblk m hO c 8 t (ix3 0 k f) = wgA m c (ix3 E k (Cert.Moe.col j f)) := by
  have e := (ix_weights (tbl m) (grid0.coords t)).1
  blk_simp [iblk, V]
  blk_ext
  exacts [at_first e hE, at_second e (by omega), at_third e (by rw [hj]; omega)]

/-- The block of the up weights at a point: the group's expert, at half `j` of the columns. -/
theorem up_apply (c : Dev nD) (t : Fin (cfgM m hO).N) (k : Fin 1024) (f : Fin 1792) (E : Fin 8) (j : Fin 2)
    (hE : (expertW (tbl m) (grp (grid0.coords t))).toNat = E.val) (hj : halfW (tbl m) (grid0.coords t) = j.val) :
    iblk m hO c 9 t (ix3 0 k f) = wuA m c (ix3 E k (Cert.Moe.col j f)) := by
  have e := (ix_weights (tbl m) (grid0.coords t)).2.1
  blk_simp [iblk, V]
  blk_ext
  exacts [at_first e hE, at_second e (by omega), at_third e (by rw [hj]; omega)]

/-- The block of the down weights at a point: the group's expert, at half `j` of the columns. -/
theorem down_apply (c : Dev nD) (t : Fin (cfgM m hO).N) (f : Fin 1792) (d : Fin 1024) (E : Fin 8) (j : Fin 2)
    (hE : (expertW (tbl m) (grp (grid0.coords t))).toNat = E.val) (hj : halfW (tbl m) (grid0.coords t) = j.val) :
    iblk m hO c 10 t (ix3 0 f d) = wdA m c (ix3 E (Cert.Moe.col j f) d) := by
  have e := (ix_weights (tbl m) (grid0.coords t)).2.2
  blk_simp [iblk, V]
  blk_ext
  exacts [at_first e hE, at_second e (by rw [hj]; omega), at_third e (by omega)]

/-! ## What the result block holds -/

/-- The tables as the reference reads them. -/
abbrev gtA (c : Dev nD) : (⟨2, ![168, 8]⟩ : Shape).Idx → BitVec 32 := m ((c : Thread nD τ).loc main_arg0)
abbrev geA (c : Dev nD) : (⟨1, ![168]⟩ : Shape).Idx → BitVec 32 := m ((c : Thread nD τ).loc main_arg1)
abbrev nuA (c : Dev nD) : (⟨1, ![1]⟩ : Shape).Idx → BitVec 32 := m ((c : Thread nD τ).loc main_arg2)

theorem tbl_tiles (c : Dev nD) : tbl m 0 = gtA m c := by obtain rfl : c = 0 := Subsingleton.elim _ _; rfl
theorem tbl_experts (c : Dev nD) : tbl m 1 = geA m c := by obtain rfl : c = 0 := Subsingleton.elim _ _; rfl
theorem tbl_used (c : Dev nD) : tbl m 2 = nuA m c := by obtain rfl : c = 0 := Subsingleton.elim _ _; rfl

/-- The group of a point. -/
theorem grp_eq (t : Fin grid0.N) (g : Fin 168) (hg : t.val / 2 = g.val) : grp (grid0.coords t) = g := by
  refine Fin.ext ((coords0 t).trans ?_)
  have := g.2
  omega

/-- The words of the tables at a group. -/
theorem tile_word (c : Dev nD) (g : Fin 168) (s : Fin 8) : tileW (tbl m) g s = gtA m c (ix2 g s) := congrFun (tbl_tiles m c) _
theorem expert_word (c : Dev nD) (g : Fin 168) : expertW (tbl m) g = geA m c (ix1 g) := congrFun (tbl_experts m c) _
theorem used_word (c : Dev nD) : nu m = nuA m c (ix1 0) := (used_eq m).symm.trans (congrFun (tbl_used m c) _)

variable (c : Dev nD) (ht : ∀ i, (gtA m c i).toNat < 1280) (he : ∀ i, (geA m c i).toNat < 8)

/-- The gathered rows at a point of group `g`. -/
theorem rows_apply (t : Fin (cfgM m hO).N) (g : Fin 168) (hg : t.val / 2 = g.val) (r : Fin 512) (k : Fin 1024) :
    rowsAt m hO c t (ix2 r k) = Cert.Moe.row (gtA m c) (xsA m c) ht g r k := by
  refine tile_apply m hO c t ⟨r.val / 64, by have := r.2; omega⟩ ⟨r.val % 64, Nat.mod_lt _ (by decide)⟩ k _ ?_
  rw [grp_eq t g hg, tile_word m c]

/-- What a point of a group in use adds to the sum: its half of the layer. -/
theorem half_apply (t : Fin (cfgM m hO).N) (g : Fin 168) (hg : t.val / 2 = g.val) (j : Fin 2) (hj : t.val % 2 = j.val) (hl : Live m t)
    (x : Vec Ideal S512x1024 .bf16) (hx : ∀ r k, x (ix2 r k) = Cert.Moe.row (gtA m c) (xsA m c) ht g r k) (acc : Vec Ideal S512x1024 .f32) (r : Fin 512) (d : Fin 1024) :
    k0_pay4 x (iblk m hO c 8 t) (iblk m hO c 9 t) acc (iblk m hO c 10 t) (ix2 r d)
      = acc (ix2 r d) + Cert.Moe.ffn 1792 (Cert.Moe.row (gtA m c) (xsA m c) ht g r)
          (fun k f => wgA m c (ix3 (Cert.Moe.expert (geA m c) he g) k (Cert.Moe.col j f)))
          (fun k f => wuA m c (ix3 (Cert.Moe.expert (geA m c) he g) k (Cert.Moe.col j f)))
          (fun f => wdA m c (ix3 (Cert.Moe.expert (geA m c) he g) (Cert.Moe.col j f) d)) := by
  have hE : (expertW (tbl m) (grp (grid0.coords t))).toNat = (Cert.Moe.expert (geA m c) he g).val := by
    rw [grp_eq t g hg, expert_word m c]
  have hj' : halfW (tbl m) (grid0.coords t) = j.val := (half_live m t hl).trans hj
  refine (pay4_apply x (iblk m hO c 8 t) (iblk m hO c 9 t) acc (iblk m hO c 10 t) r d).trans ?_
  congr 2
  · exact funext fun k => hx r k
  · exact funext fun k => funext fun f => gate_apply m hO c t k f _ j hE hj'
  · exact funext fun k => funext fun f => up_apply m hO c t k f _ j hE hj'
  · exact funext fun f => down_apply m hO c t f d _ j hE hj'

/-- The result block of group `g`. -/
theorem out_apply (t : Fin (cfgM m hO).N) (g : Fin 168) (hg : t.val / 2 = g.val) (h1 : t.val % 2 = 1) (r : Fin 512) (d : Fin 1024) :
    outAt m hO c t (ix2 r d)
      = Cert.Moe.result (gtA m c) (geA m c) (nuA m c) (xsA m c) (wgA m c) (wuA m c) (wdA m c) ht he g r d := by
  have hlt : Live m t ↔ (g.val : ℤ) < (nuA m c (ix1 0)).toInt := by
    rw [← used_word m c, ← hg]; exact cond1_iff t _
  unfold outAt Cert.Moe.result
  by_cases hl : Live m t
  · rw [if_pos hl, if_pos (hlt.mp hl)]
    have hp := pt_val t
    have hg' : (pt t.val).val / 2 = g.val := by rw [hp]; omega
    refine (pay5_apply _ _).trans ?_
    rw [half_apply m hO c ht he t g hg 1 h1 hl _ (rows_apply m hO c ht (pt t.val) g hg')]
    rw [Cert.Moe.ffn_halves]
    congr 1
    refine (half_apply m hO c ht he (pt t.val) g hg' 0 (by rw [hp]; show _ = 0; omega) ((live_pt m t h1).mpr hl) _ (rows_apply m hO c ht (pt t.val) g hg') (k0_pay7 (F := Ideal)) r d).trans ?_
    rw [pay7_apply, zero_add]
  · rw [if_neg hl, if_neg (fun h => hl (hlt.mpr h))]
    exact pay6_apply _

/-! ## The result array -/

/-- The result array: every group's rows. -/
def G (i : (⟨2, ![86016, 1024]⟩ : Shape).Idx) : EReal :=
  Cert.Moe.result (gtA m c) (geA m c) (nuA m c) (xsA m c) (wgA m c) (wuA m c) (wdA m c) ht he
    ⟨(i 0).val / 512, by have : (i 0).val < 86016 := (i 0).isLt; omega⟩ ⟨(i 0).val % 512, Nat.mod_lt _ (by decide)⟩ (i 1)

/-- The result's index map: the group. -/
theorem ix_result (i : grid0.Coords) : cc0_transform_11 i = ![(i 0).val, 0] := by
  have h : (i 0).val < 168 := (i 0).isLt
  refine funext fun (a : Fin 2) => ?_
  match a with
  | ⟨0, _⟩ =>
    show (BitVec.ofNat 32 (i 0).val).toNat = (i 0).val
    rw [BitVec.toNat_ofNat]; omega
  | ⟨1, _⟩ => rfl

/-- The blocks of the groups fill the result array. -/
theorem covers : ((cfgM m hO).win 11).Covers := by
  refine ((cfgM m hO).win 11).covers_of_indexMap_surj rfl (by decide : ∀ a : Fin 2, 0 < S512x1024.size a) fun β => ?_
  have hb : (β (0 : Fin 2)).val < 168 := lt_of_lt_of_eq (β (0 : Fin 2)).isLt (show (86016 + 512 - 1) / 512 = 168 by decide)
  have hb' : (β (1 : Fin 2)).val < 1 := lt_of_lt_of_eq (β (1 : Fin 2)).isLt (show (1024 + 1024 - 1) / 1024 = 1 by decide)
  let i : grid0.Coords := fun | 0 => ⟨(β (0 : Fin 2)).val, hb⟩ | 1 => (0 : Fin 2)
  have e : ((cfgM m hO).win 11).indexMap i = ![(i 0).val, 0] := ix_result i
  refine ⟨i, fun (a : Fin 2) => ?_⟩
  match a with
  | ⟨0, _⟩ => exact congrFun e (0 : Fin 2)
  | ⟨1, _⟩ => exact (congrFun e (1 : Fin 2)).trans (show 0 = (β (1 : Fin 2)).val by omega)

/-- The result array at row `r` of group `g`. -/
theorem G_apply (i : (⟨2, ![86016, 1024]⟩ : Shape).Idx) (g : Fin 168) (r : Fin 512) (d : Fin 1024) (h0 : (i 0).val = g.val * 512 + r.val) (h1 : (i 1).val = d.val) :
    G m c ht he i = Cert.Moe.result (gtA m c) (geA m c) (nuA m c) (xsA m c) (wgA m c) (wuA m c) (wdA m c) ht he g r d := by
  have := r.2
  unfold G
  congr 1
  · exact Fin.ext (show (i 0).val / 512 = g.val by omega)
  · exact Fin.ext (show (i 0).val % 512 = r.val by omega)
  · exact Fin.ext h1

/-- The place of an element in its block's array, along the result's rows. -/
theorem at_result {f : Fin 2 → ℕ} {w r R : ℕ} (e : f = ![w, 0]) (h : w * 512 + r = R) : f 0 * 512 + r = R := by
  rw [e]; exact h

/-- The result array after the run. -/
theorem final11 : (dats m hO 0 c).arrAt 11 (cfgM m hO).N = G m c ht he := by
  refine (dats m hO 0 c).arrAt_eq_of_covers 11 _ (covers m hO) fun t hf y => ?_
  have h1 := (flush0_11 _ t).mp hf
  have hN : t.val < 336 := Nat.lt_of_lt_of_eq t.isLt N_0
  have e : ((cfgM m hO).win 11).index t = ![(grid0.coords t 0).val, 0] := ix_result (grid0.coords t)
  have hy : y = ix2 (y (0 : Fin 2)) (y (1 : Fin 2)) := by idx_ext
  blk_simp
  rw [after0_11]
  refine ((congrArg _ hy).trans (out_apply m hO c ht he t ⟨t.val / 2, by omega⟩ rfl h1 (y (0 : Fin 2)) (y (1 : Fin 2)))).trans (G_apply m c ht he _ _ _ _ ?_ ?_).symm
  · blk_simp
    refine at_result e ?_
    show _ = t.val / 2 * 512 + _
    rw [coords0, Nat.mod_eq_of_lt (show t.val / 2 < 168 by omega)]
  · blk_simp
    exact at_tile_col e

/-- The run ends with the result array at every group's rows, and the arguments unchanged. -/
theorem run (hO : Ok m) (ρ : Dev nD → PrngReg) (ht : ∀ (c : Dev nD) i, (gtA m c i).toNat < 1280) (he : ∀ (c : Dev nD) i, (geA m c i).toNat < 8) :
    θ_run defs (onTc (τ := τ) (main (F := Ideal))) ⟨m, fun _ => 0, ρ⟩ (fun r => ∀ c : Dev nD,
      r.2.mem ((c.tc : Thread nD τ).loc main_v0) = G m c (ht c) (he c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hv : θ_run defs (onTc (τ := τ) (main (F := Ideal))) ⟨m, fun _ => 0, ρ⟩ (fun r => ∀ c : Dev nD, r.2.mem ((c.tc : Thread nD τ).loc main_v0) = G m c (ht c) (he c)) :=
    (θ_run defs _ _).mono (fun _ h c => ((h c).1 11).trans (final11 m hO c (ht c) (he c))) (run_main m ρ hO)
  exact (θ_run defs _ _).mono (fun _ h c => ⟨h.1 c, h.2 c⟩) (θ_run_and hv (unchanged m ρ hO))

end Cert.ExpertsIdeal.Moe

end
-- ==== Proof.MoePre.lean ====
/- The precondition, read: every tile and every expert a table names exists. -/
module

public import proofs.«01_k».proof.Pre_tables
public import Idealize.ShloMosaic.Lib.Pointwise
public import Idealize.ShloMosaic.Lib.ReduceAll
public import Idealize.ShloMosaic.Lib.Affine

@[expose] public section

set_option maxRecDepth 16384

noncomputable section

namespace Cert.Moe

open Idealize.ShloMosaic Cert.Pre_tables

theorem and_one {a b : BitVec 1} (h : IntOp.andi a b = 1#1) : a = 1#1 ∧ b = 1#1 := by
  revert h; revert a b; decide

/-- A word between zero and `n` as a signed number is below `n` as a natural one. -/
theorem toNat_lt {w : BitVec 32} {n : ℕ} (hn : n < 2 ^ 31) (h0 : IntOp.cmpi .sge w 0#32 = 1#1) (h1 : IntOp.cmpi .slt w (BitVec.ofNat 32 n) = 1#1) :
    w.toNat < n := by
  have a := IntOp.cmpi_sge.1 h0
  have b := IntOp.cmpi_slt.1 h1
  have hw := w.isLt
  rw [BitVec.toInt_eq_toNat_cond, BitVec.toInt_eq_toNat_cond, BitVec.toNat_ofNat, Nat.mod_eq_of_lt (by omega)] at b
  rw [BitVec.toInt_eq_toNat_cond, BitVec.toInt_eq_toNat_cond] at a
  change (0 : ℤ) ≤ _ at a
  split at a <;> split at b <;> split at b <;> omega

/-- Where the printed precondition is all ones, every tile named is one of the 1280 and every expert named one of the 8. -/
theorem pre_bounds [Facts] {F : FTy → Type} [FloatOps F] (gt : IVec S168x8 32) (ge : IVec S168 32) (nu : IVec S1 32) (xs : FVec F S81920x1024 .bf16)
    (wg wu : FVec F S8x1024x3584 .bf16) (wd : FVec F S8x3584x1024 .bf16) (hpre : fn gt ge nu xs wg wu wd = fun _ => 1#1) :
    (∀ i, (gt i).toNat < 1280) ∧ ∀ i, (ge i).toNat < 8 := by
  have e := congrFun hpre ix0
  dsimp only [fn] at e
  have h4 := and_one e
  have h3 := and_one h4.1
  have h2 := and_one h3.1
  exact ⟨fun i => toNat_lt (by decide) (Host.reduce_andi_all _ _ _ _ _ h2.1 i) (Host.reduce_andi_all _ _ _ _ _ h2.2 i),
    fun i => toNat_lt (by decide) (Host.reduce_andi_all _ _ _ _ _ h3.2 i) (Host.reduce_andi_all _ _ _ _ _ h4.2 i)⟩

end Cert.Moe

end
-- ==== Proof.MoeRef.lean ====
/- The reference's sum over the experts, read at an index. -/
module

public import proofs.«01_k».proof.Proof.MoeSpec
public import proofs.«01_k».proof.Proof.Gen.ExpertsReferenceIdeal.Read

@[expose] public section

set_option maxRecDepth 16384
set_option backward.proofsInPublic true

noncomputable section

namespace Cert.ExpertsReferenceIdeal.Moe

open Idealize.ShloMosaic Idealize.ShloMosaic.StableHlo Cert.ExpertsReferenceIdeal Cert.ExpertsReferenceIdeal.Gen Cert.ExpertsReferenceIdeal.Read

variable {F : FTy → Type} [FloatOps F]

/-- The slices of one expert's weights. -/
theorem slices_cols (e : Fin 8) : S8x1024x3584.Slices ![e.val, 0, 0] S1x1024x3584 := by
  revert e; decide
theorem slices_rows (e : Fin 8) : S8x3584x1024.Slices ![e.val, 0, 0] S1x3584x1024 := by
  revert e; decide

/-- An expert's gate or up weights. -/
def colsOf (x : (⟨S8x1024x3584, .bf16⟩ : BufTy).Contents (Elt F)) (e : Fin 8) : (⟨S1024x3584, .f32⟩ : BufTy).Contents (Elt F) :=
  extf .f32 (shapeCast _ (extractStridedSlice S1x1024x3584 ![e.val, 0, 0] x (slices_cols e)) shapeCasts_S1x1024x3584_S1024x3584 : (⟨S1024x3584, .bf16⟩ : BufTy).Contents (Elt F)) bitsLt_bf16_f32
/-- An expert's down weights. -/
def rowsOf (x : (⟨S8x3584x1024, .bf16⟩ : BufTy).Contents (Elt F)) (e : Fin 8) : (⟨S3584x1024, .f32⟩ : BufTy).Contents (Elt F) :=
  extf .f32 (shapeCast _ (extractStridedSlice S1x3584x1024 ![e.val, 0, 0] x (slices_rows e)) shapeCasts_S1x3584x1024_S3584x1024 : (⟨S3584x1024, .bf16⟩ : BufTy).Contents (Elt F)) bitsLt_bf16_f32

/-- Whether a group is one of the expert's, as a number. -/
def chosen (x1 : (⟨S168, .i32⟩ : BufTy).Contents (Elt F)) (x2 : (⟨S1, .i32⟩ : BufTy).Contents (Elt F)) (e : Fin 8) : (⟨S168, .f32⟩ : BufTy).Contents (Elt F) :=
  uitofp .f32 (andi (cmpi .eq x1 (broadcastInDim S168 ![] bcast_S_S168 (constantI S_ 32 (BitVec.ofNat 32 e.val)))) (val_main_v16 (F := F) x2))

/-- The rows' products with an expert's gate or up weights. -/
def prods (X : (⟨S168x512x1024, .f32⟩ : BufTy).Contents (Elt F)) (w : (⟨S1024x3584, .f32⟩ : BufTy).Contents (Elt F)) : (⟨S168x512x3584, .f32⟩ : BufTy).Contents (Elt F) :=
  Host.dotGeneral dot_S168x512x1024_S1024x3584_S168x512x3584_2_0_01_1_n_n none X w

/-- `a · (1 / (1 + exp (-a)))`, entry by entry. -/
def gated (a : (⟨S168x512x3584, .f32⟩ : BufTy).Contents (Elt F)) : (⟨S168x512x3584, .f32⟩ : BufTy).Contents (Elt F) :=
  mulf a (Host.divf (val_main_call0_v4 (F := F)) (addf (val_main_call0_v2 (F := F)) (Host.exp (Host.negf a))))

/-- The rows through an expert. -/
def through (X : (⟨S168x512x1024, .f32⟩ : BufTy).Contents (Elt F)) (x4 x5 : (⟨S8x1024x3584, .bf16⟩ : BufTy).Contents (Elt F))
    (x6 : (⟨S8x3584x1024, .bf16⟩ : BufTy).Contents (Elt F)) (e : Fin 8) : (⟨S168x512x1024, .f32⟩ : BufTy).Contents (Elt F) :=
  Host.dotGeneral dot_S168x512x3584_S3584x1024_S168x512x1024_2_0_01_1_n_n none (mulf (gated (prods X (colsOf x4 e))) (prods X (colsOf x5 e))) (rowsOf x6 e)

/-- The running sum with expert `e`'s part added. -/
def step (X : (⟨S168x512x1024, .f32⟩ : BufTy).Contents (Elt F)) (x1 : (⟨S168, .i32⟩ : BufTy).Contents (Elt F)) (x2 : (⟨S1, .i32⟩ : BufTy).Contents (Elt F))
    (x4 x5 : (⟨S8x1024x3584, .bf16⟩ : BufTy).Contents (Elt F)) (x6 : (⟨S8x3584x1024, .bf16⟩ : BufTy).Contents (Elt F))
    (e : Fin 8) (y : (⟨S168x512x1024, .f32⟩ : BufTy).Contents (Elt F)) : (⟨S168x512x1024, .f32⟩ : BufTy).Contents (Elt F) :=
  addf y (mulf (broadcastInDim S168x512x1024 ![0, 1, 2] bcast_S168x1x1_S168x512x1024_0_1_2 (broadcastInDim S168x1x1 ![0] bcast_S168_S168x1x1_0 (chosen x1 x2 e)))
    (through X x4 x5 x6 e))

variable (x0 : (⟨S168x8, .i32⟩ : BufTy).Contents (Elt F)) (x1 : (⟨S168, .i32⟩ : BufTy).Contents (Elt F)) (x2 : (⟨S1, .i32⟩ : BufTy).Contents (Elt F))
  (x3 : (⟨S81920x1024, .bf16⟩ : BufTy).Contents (Elt F)) (x4 x5 : (⟨S8x1024x3584, .bf16⟩ : BufTy).Contents (Elt F)) (x6 : (⟨S8x3584x1024, .bf16⟩ : BufTy).Contents (Elt F))

/-- The running sum after the first `n` experts. -/
def sums : ℕ → (⟨S168x512x1024, .f32⟩ : BufTy).Contents (Elt F)
  | 0 => val_main_v11 (F := F)
  | n + 1 => step (val_main_v9 (F := F) x0 x3) x1 x2 x4 x5 x6 (Fin.ofNat 8 n) (sums n)

theorem sums_1 : val_main_v36 (F := F) x0 x1 x2 x3 x4 x5 x6 = sums x0 x1 x2 x3 x4 x5 x6 1 := rfl
theorem sums_2 : val_main_v61 (F := F) x0 x1 x2 x3 x4 x5 x6 = sums x0 x1 x2 x3 x4 x5 x6 2 :=
  congrArg (step (val_main_v9 (F := F) x0 x3) x1 x2 x4 x5 x6 1) (sums_1 x0 x1 x2 x3 x4 x5 x6)
theorem sums_3 : val_main_v86 (F := F) x0 x1 x2 x3 x4 x5 x6 = sums x0 x1 x2 x3 x4 x5 x6 3 :=
  congrArg (step (val_main_v9 (F := F) x0 x3) x1 x2 x4 x5 x6 2) (sums_2 x0 x1 x2 x3 x4 x5 x6)
theorem sums_4 : val_main_v111 (F := F) x0 x1 x2 x3 x4 x5 x6 = sums x0 x1 x2 x3 x4 x5 x6 4 :=
  congrArg (step (val_main_v9 (F := F) x0 x3) x1 x2 x4 x5 x6 3) (sums_3 x0 x1 x2 x3 x4 x5 x6)
theorem sums_5 : val_main_v136 (F := F) x0 x1 x2 x3 x4 x5 x6 = sums x0 x1 x2 x3 x4 x5 x6 5 :=
  congrArg (step (val_main_v9 (F := F) x0 x3) x1 x2 x4 x5 x6 4) (sums_4 x0 x1 x2 x3 x4 x5 x6)
theorem sums_6 : val_main_v161 (F := F) x0 x1 x2 x3 x4 x5 x6 = sums x0 x1 x2 x3 x4 x5 x6 6 :=
  congrArg (step (val_main_v9 (F := F) x0 x3) x1 x2 x4 x5 x6 5) (sums_5 x0 x1 x2 x3 x4 x5 x6)
theorem sums_7 : val_main_v186 (F := F) x0 x1 x2 x3 x4 x5 x6 = sums x0 x1 x2 x3 x4 x5 x6 7 :=
  congrArg (step (val_main_v9 (F := F) x0 x3) x1 x2 x4 x5 x6 6) (sums_6 x0 x1 x2 x3 x4 x5 x6)
/-- The reference's last running sum is the sum over all eight experts. -/
theorem sums_8 : val_main_v211 (F := F) x0 x1 x2 x3 x4 x5 x6 = sums x0 x1 x2 x3 x4 x5 x6 8 :=
  congrArg (step (val_main_v9 (F := F) x0 x3) x1 x2 x4 x5 x6 7) (sums_7 x0 x1 x2 x3 x4 x5 x6)

/-! ## Read at an index -/

theorem colsOf_apply (x : (⟨S8x1024x3584, .bf16⟩ : BufTy).Contents (Elt Ideal)) (e : Fin 8) (k : Fin 1024) (f : Fin 3584) :
    colsOf x e (ix2 k f) = x (ix3 e k f) := by
  pointwise [colsOf]
theorem rowsOf_apply (x : (⟨S8x3584x1024, .bf16⟩ : BufTy).Contents (Elt Ideal)) (e : Fin 8) (f : Fin 3584) (d : Fin 1024) :
    rowsOf x e (ix2 f d) = x (ix3 e f d) := by
  pointwise [rowsOf]
theorem prods_apply (X : (⟨S168x512x1024, .f32⟩ : BufTy).Contents (Elt Ideal)) (w : (⟨S1024x3584, .f32⟩ : BufTy).Contents (Elt Ideal)) (g : Fin 168) (r : Fin 512) (f : Fin 3584) :
    prods X w (ix3 g r f) = ∑ k : Fin 1024, X (ix3 g r k) * w (ix2 k f) := by
  pointwise [prods]
theorem gated_apply (a : (⟨S168x512x3584, .f32⟩ : BufTy).Contents (Elt Ideal)) (i : S168x512x3584.Idx) :
    gated a i = a i * Ideal.logistic (a i) := by
  pointwise [gated, val_main_call0_v4, val_main_call0_v2, val_main_call0_cst, val_main_call0_cst_0]
  rfl

/-- The rows through one expert. -/
theorem through_apply (X : (⟨S168x512x1024, .f32⟩ : BufTy).Contents (Elt Ideal)) (x4 x5 : (⟨S8x1024x3584, .bf16⟩ : BufTy).Contents (Elt Ideal))
    (x6 : (⟨S8x3584x1024, .bf16⟩ : BufTy).Contents (Elt Ideal)) (e : Fin 8) (g : Fin 168) (r : Fin 512) (d : Fin 1024) :
    through X x4 x5 x6 e (ix3 g r d) = Cert.Moe.ffn 3584 (fun k => X (ix3 g r k)) (fun k f => x4 (ix3 e k f)) (fun k f => x5 (ix3 e k f)) (fun f => x6 (ix3 e f d)) := by
  unfold Cert.Moe.ffn
  pointwise [through]
  refine Finset.sum_congr rfl fun f _ => ?_
  rw [gated_apply, prods_apply, prods_apply, rowsOf_apply]
  simp only [colsOf_apply]

theorem flag_number (a b : Bool) : (FloatOps.uitofp (F := Ideal) FTy.f32 (IntOp.andi (BitVec.ofBool a) (BitVec.ofBool b)) : EReal) = if b = true ∧ a = true then 1 else 0 := by
  cases a <;> cases b
  · exact (show ((((0 : ℕ) : ℝ)) : EReal) = 0 by simp).trans (if_neg (by decide)).symm
  · exact (show ((((0 : ℕ) : ℝ)) : EReal) = 0 by simp).trans (if_neg (by decide)).symm
  · exact (show ((((0 : ℕ) : ℝ)) : EReal) = 0 by simp).trans (if_neg (by decide)).symm
  · exact (show ((((1 : ℕ) : ℝ)) : EReal) = 1 by simp).trans (if_pos (by decide)).symm

/-- A group counts for its own expert when it is in use, and for no other. -/
theorem chosen_apply (x1 : (⟨S168, .i32⟩ : BufTy).Contents (Elt Ideal)) (x2 : (⟨S1, .i32⟩ : BufTy).Contents (Elt Ideal)) (e : Fin 8) (g : Fin 168) :
    chosen (F := Ideal) x1 x2 e (ix1 g) = if (g.val : ℤ) < ((x2 : IVec S1 32) (ix1 0)).toInt ∧ ((x1 : IVec S168 32) (ix1 g)).toNat = e.val then 1 else 0 := by
  pointwise [chosen, val_main_v16, val_main_v10, val_main_v15, val_main_v14]
  refine (flag_number (((x1 : IVec S168 32) (ix1 g)) == BitVec.ofNat 32 e.val) (BitVec.slt (BitVec.ofNat 32 g.val) ((x2 : IVec S1 32) (ix1 0)))).trans ?_
  have hg := g.2
  have he := e.2
  have e1 : (BitVec.ofNat 32 g.val).toInt = (g.val : ℤ) := by
    rw [BitVec.toInt_eq_toNat_cond, BitVec.toNat_ofNat, Nat.mod_eq_of_lt (by omega), if_pos (by omega)]
  refine if_congr (and_congr ?_ ?_) rfl rfl
  · rw [BitVec.slt_iff_toInt_lt, e1]
  · rw [beq_iff_eq, ← BitVec.toNat_inj, BitVec.toNat_ofNat, Nat.mod_eq_of_lt (by omega)]

theorem step_apply (X : (⟨S168x512x1024, .f32⟩ : BufTy).Contents (Elt Ideal)) (x1 : (⟨S168, .i32⟩ : BufTy).Contents (Elt Ideal)) (x2 : (⟨S1, .i32⟩ : BufTy).Contents (Elt Ideal))
    (x4 x5 : (⟨S8x1024x3584, .bf16⟩ : BufTy).Contents (Elt Ideal)) (x6 : (⟨S8x3584x1024, .bf16⟩ : BufTy).Contents (Elt Ideal)) (e : Fin 8)
    (y : (⟨S168x512x1024, .f32⟩ : BufTy).Contents (Elt Ideal)) (g : Fin 168) (r : Fin 512) (d : Fin 1024) :
    step X x1 x2 x4 x5 x6 e y (ix3 g r d) = y (ix3 g r d) + chosen (F := Ideal) x1 x2 e (ix1 g) * through X x4 x5 x6 e (ix3 g r d) := by
  pointwise [step]

/-- The gather of whole tiles, at an index whose tile exists. -/
theorem gather_apply (y : (⟨S1280x64x1024, .f32⟩ : BufTy).Contents (Elt Ideal)) (idx : IVec S168x8x1 32) (g : Fin 168) (s : Fin 8) (a : Fin 64) (k : Fin 1024)
    (n : Fin 1280) (hn : (idx (ix3 g s 0)).toInt.toNat = n.val) :
    Host.gather gather_S1280x64x1024_S168x8x1_S168x8x64x1024_23_0_n_n_0_2_1641024 y idx (ix4 g s a k) = y (ix3 n a k) := by
  unfold Host.gather
  congr 1
  funext b
  refine Fin.ext ?_
  show GatherDims.start _ _ _ _ + GatherDims.batchCoord _ _ _ + GatherDims.offCoord _ _ _ = _
  rw [GatherDims.batchCoord_eq_zero _ _ _ List.not_mem_nil]
  have hb : b = 0 ∨ b = 1 ∨ b = 2 := by
    match b with
    | ⟨0, _⟩ => exact .inl rfl
    | ⟨1, _⟩ => exact .inr (.inl rfl)
    | ⟨2, _⟩ => exact .inr (.inr rfl)
  rcases hb with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S1280x64x1024_S168x8x1_S168x8x64x1024_23_0_n_n_0_2_1641024.startIndexMap from List.mem_singleton.mpr rfl)]
    have hsi : GatherDims.siIdx gather_S1280x64x1024_S168x8x1_S168x8x64x1024_23_0_n_n_0_2_1641024 (ix4 g s a k)
        ⟨List.idxOf (0 : Fin 3) [0], List.idxOf_lt_length_iff.2 (List.mem_singleton.mpr rfl)⟩ = ix3 g s 0 := by
      funext b; refine Fin.ext ?_
      match b with
      | ⟨0, _⟩ => rfl
      | ⟨1, _⟩ => rfl
      | ⟨2, _⟩ => rfl
    have h := n.2
    show min (idx (GatherDims.siIdx gather_S1280x64x1024_S168x8x1_S168x8x64x1024_23_0_n_n_0_2_1641024 (ix4 g s a k)
        ⟨List.idxOf (0 : Fin 3) [0], List.idxOf_lt_length_iff.2 (List.mem_singleton.mpr rfl)⟩)).toInt.toNat (1280 - 1) + 0 + 0 = n.val
    rw [hsi, hn]
    omega
  · unfold GatherDims.start
    rw [dif_neg (show (1 : Fin 3) ∉ gather_S1280x64x1024_S168x8x1_S168x8x64x1024_23_0_n_n_0_2_1641024.startIndexMap from by decide)]
    show 0 + 0 + a.val = a.val
    omega
  · unfold GatherDims.start
    rw [dif_neg (show (2 : Fin 3) ∉ gather_S1280x64x1024_S168x8x1_S168x8x64x1024_23_0_n_n_0_2_1641024.startIndexMap from by decide)]
    show 0 + 0 + k.val = k.val
    omega

/-- The tile a slot names: the table's word, when it is not negative. -/
theorem word_apply (x0 : (⟨S168x8, .i32⟩ : BufTy).Contents (Elt Ideal)) (g : Fin 168) (s : Fin 8) (ht : ((x0 : IVec S168x8 32) (ix2 g s)).toNat < 1280) :
    ((val_main_v7 (F := Ideal) x0 : IVec S168x8x1 32) (ix3 g s 0)).toInt.toNat = ((x0 : IVec S168x8 32) (ix2 g s)).toNat := by
  have e : (val_main_v7 (F := Ideal) x0 : IVec S168x8x1 32) (ix3 g s 0) = (x0 : IVec S168x8 32) (ix2 g s) := by
    pointwise [val_main_v7, val_main_v6, val_main_v5, val_main_v4, val_main_v3, val_main_v2, val_main_c, val_main_c_0]
    have hn : ¬BitVec.slt ((x0 : IVec S168x8 32) (ix2 g s)) 0#32 = true := by
      rw [BitVec.slt_iff_toInt_lt, BitVec.toInt_eq_toNat_cond, if_pos (by omega)]
      exact not_lt.mpr (Int.natCast_nonneg _)
    unfold Scalar.select
    exact if_neg fun q => hn (by
      revert q
      show BitVec.ofBool (BitVec.slt ((x0 : IVec S168x8 32) (ix2 g s)) 0#32) = 1#1 → _
      generalize BitVec.slt ((x0 : IVec S168x8 32) (ix2 g s)) 0#32 = b
      cases b <;> decide)
  rw [e, BitVec.toInt_eq_toNat_cond, if_pos (by omega)]
  rfl

/-- The rows of a group's tiles. -/
theorem rows_apply (x0 : (⟨S168x8, .i32⟩ : BufTy).Contents (Elt Ideal)) (x3 : (⟨S81920x1024, .bf16⟩ : BufTy).Contents (Elt Ideal)) (ht : ∀ i, ((x0 : IVec S168x8 32) i).toNat < 1280)
    (g : Fin 168) (r : Fin 512) (k : Fin 1024) :
    val_main_v9 (F := Ideal) x0 x3 (ix3 g r k) = Cert.Moe.row x0 x3 ht g r k := by
  unfold Cert.Moe.row
  pointwise [val_main_v9, val_main_v8]
  refine (gather_apply _ _ _ _ _ _ ⟨_, ht (ix2 g ⟨r.val / 64, by have := r.2; omega⟩)⟩ (word_apply x0 g ⟨r.val / 64, by have := r.2; omega⟩ (ht _))).trans ?_
  pointwise [val_main_v1, val_main_v0]

/-- The sum over the experts: for a group in use its own expert's part, counted once; zero elsewhere. -/
theorem sums_apply (x0 : (⟨S168x8, .i32⟩ : BufTy).Contents (Elt Ideal)) (x1 : (⟨S168, .i32⟩ : BufTy).Contents (Elt Ideal)) (x2 : (⟨S1, .i32⟩ : BufTy).Contents (Elt Ideal))
    (x3 : (⟨S81920x1024, .bf16⟩ : BufTy).Contents (Elt Ideal)) (x4 x5 : (⟨S8x1024x3584, .bf16⟩ : BufTy).Contents (Elt Ideal)) (x6 : (⟨S8x3584x1024, .bf16⟩ : BufTy).Contents (Elt Ideal))
    (g : Fin 168) (r : Fin 512) (d : Fin 1024) (e : Fin 8) (he : ((x1 : IVec S168 32) (ix1 g)).toNat = e.val) : ∀ n : ℕ, n ≤ 8 →
    sums x0 x1 x2 x3 x4 x5 x6 n (ix3 g r d) = if (g.val : ℤ) < ((x2 : IVec S1 32) (ix1 0)).toInt ∧ e.val < n then through (val_main_v9 (F := Ideal) x0 x3) x4 x5 x6 e (ix3 g r d) else 0
  | 0, _ => by
    rw [if_neg (fun h => Nat.not_lt_zero _ h.2)]
    show val_main_v11 (F := Ideal) (ix3 g r d) = 0
    pointwise [val_main_v11, val_main_cst]
  | n + 1, hn => by
    have ih := sums_apply x0 x1 x2 x3 x4 x5 x6 g r d e he n (by omega)
    have en : (Fin.ofNat 8 n).val = n := Nat.mod_eq_of_lt (by omega)
    refine (step_apply _ _ _ _ _ _ _ _ g r d).trans ?_
    rw [ih, chosen_apply, he, en]
    by_cases hl : (g.val : ℤ) < ((x2 : IVec S1 32) (ix1 0)).toInt
    · rcases lt_trichotomy e.val n with h | h | h
      · rw [if_pos ⟨hl, h⟩, if_neg (fun q => by omega), if_pos ⟨hl, by omega⟩, zero_mul, add_zero]
      · rw [if_neg (fun q => by omega), if_pos ⟨hl, h⟩, if_pos ⟨hl, by omega⟩, one_mul, zero_add, show Fin.ofNat 8 n = e from Fin.ext (en.trans h.symm)]
      · rw [if_neg (fun q => by omega), if_neg (fun q => by omega), if_neg (fun q => by omega), zero_mul, add_zero]
    · rw [if_neg (fun q => hl q.1), if_neg (fun q => hl q.1), if_neg (fun q => hl q.1), zero_mul, add_zero]

/-- The reference's result: the rows of a group in use through its expert, and zero in the other groups. -/
theorem result_apply (x0 : (⟨S168x8, .i32⟩ : BufTy).Contents (Elt Ideal)) (x1 : (⟨S168, .i32⟩ : BufTy).Contents (Elt Ideal)) (x2 : (⟨S1, .i32⟩ : BufTy).Contents (Elt Ideal))
    (x3 : (⟨S81920x1024, .bf16⟩ : BufTy).Contents (Elt Ideal)) (x4 x5 : (⟨S8x1024x3584, .bf16⟩ : BufTy).Contents (Elt Ideal)) (x6 : (⟨S8x3584x1024, .bf16⟩ : BufTy).Contents (Elt Ideal))
    (ht : ∀ i, ((x0 : IVec S168x8 32) i).toNat < 1280) (he : ∀ i, ((x1 : IVec S168 32) i).toNat < 8) (i : S86016x1024.Idx) :
    val_main_v213 (F := Ideal) x0 x1 x2 x3 x4 x5 x6 i
      = Cert.Moe.result x0 x1 x2 x3 x4 x5 x6 ht he ⟨(i 0).val / 512, by have h : (i 0).val < 86016 := (i 0).isLt; omega⟩ ⟨(i 0).val % 512, Nat.mod_lt _ (by decide)⟩ (i 1) := by
  pointwise [val_main_v213, val_main_v212]
  rw [sums_8]
  refine (sums_apply x0 x1 x2 x3 x4 x5 x6 _ _ _ (Cert.Moe.expert x1 he ⟨(i 0).val / 512, by have h : (i 0).val < 86016 := (i 0).isLt; omega⟩) rfl 8 (le_refl 8)).trans ?_
  unfold Cert.Moe.result
  refine if_congr (and_iff_left (Fin.isLt _)) ?_ rfl
  refine (through_apply _ _ _ _ _ _ _ _).trans ?_
  congr 1
  funext k
  exact rows_apply x0 x3 ht _ _ k

end Cert.ExpertsReferenceIdeal.Moe

end
-- ==== Proof.MoeValue.lean ====
/- The experts' claims: the frames from the precondition, and that kernel and reference end with the same rows. -/
module

public import proofs.«01_k».proof.Defs
public import proofs.«01_k».proof.Proof.Gen.Pre_tables
public import proofs.«01_k».proof.Proof.Gen.ExpertsReferenceIdeal.Run
public import proofs.«01_k».proof.Proof.MoeBitsFrame
public import proofs.«01_k».proof.Proof.MoeBitsOk
public import proofs.«01_k».proof.Proof.MoeKernel
public import proofs.«01_k».proof.Proof.MoePre
public import proofs.«01_k».proof.Proof.MoeRef

@[expose] public section

set_option maxRecDepth 16384
set_option backward.proofsInPublic true

noncomputable section

namespace Cert.Moe

open Idealize.ShloMosaic Idealize.ShloMosaic.TcCoe Idealize.SL.Sem

attribute [local instance] Cert.Pre_tables.Gen.facts

/-- The kernel on machine floats runs to its end, leaves its arguments unchanged and its counters at zero. -/
theorem frame_experts : Cert.quiescent_Experts (hExperts := Cert.Experts.Gen.facts) (hPre_tables := Cert.Pre_tables.Gen.facts) := by
  intro m ρ hpre
  have hb := pre_bounds _ _ _ _ _ _ _ (hpre 0)
  exact Cert.Experts.Moe.frame m ρ (Cert.Experts.Moe.ok_of_bounds _ hb.1 hb.2)

/-- The kernel on exact numbers runs to its end, leaves its arguments unchanged and its counters at zero. -/
theorem frame_ideal : Cert.quiescent_ExpertsIdeal (hExpertsIdeal := Cert.ExpertsIdeal.Gen.facts) (hPre_tables := Cert.Pre_tables.Gen.facts) := by
  intro m ρ hpre
  have hb := pre_bounds _ _ _ _ _ _ _ (hpre 0)
  exact Cert.ExpertsIdeal.Moe.frame m ρ (Cert.ExpertsIdeal.Moe.ok_of_bounds _ hb.1 hb.2)

section reference
open Cert.ExpertsReferenceIdeal

/-- The reference runs to its end, leaves its arguments unchanged and has no counter. -/
theorem frame_reference (m : (l : Loc nD τ sig) → Buf (Elt Ideal) l) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

end reference

/-- Wherever the tables name tiles and experts that exist, kernel and reference compute the same rows. -/
theorem algebraic : Cert.algebraic_ExpertsIdeal_ExpertsReferenceIdeal (hExpertsIdeal := Cert.ExpertsIdeal.Gen.facts)
    (hExpertsReferenceIdeal := Cert.ExpertsReferenceIdeal.Gen.facts) (hPre_tables := Cert.Pre_tables.Gen.facts) := by
  intro m g m' g' hpre hagree
  have hb := fun c => pre_bounds _ _ _ _ _ _ _ (hpre c)
  have hO := Cert.ExpertsIdeal.Moe.ok_of_bounds (Cert.ExpertsIdeal.Moe.tbl m) (hb 0).1 (hb 0).2
  refine ⟨fun c => Cert.ExpertsIdeal.Moe.G m c (hb c).1 (hb c).2,
    Cert.ExpertsIdeal.Moe.run m hO g (fun c => (hb c).1) (fun c => (hb c).2), ?_⟩
  refine (θ_run _ _ _).mono (fun r h c => ⟨(h c).1.trans ?_, (h c).2⟩) (Cert.ExpertsReferenceIdeal.Value.run m' g')
  obtain ⟨a0, a1, a2, a3, a4, a5, a6⟩ := hagree c
  rw [Cert.ExpertsReferenceIdeal.Read.val_main_v213_eq]
  show Cert.ExpertsReferenceIdeal.Read.val_main_v213 (F := Ideal) (m' ((c.tc : Thread Cert.ExpertsReferenceIdeal.nD Cert.ExpertsReferenceIdeal.τ).loc Cert.ExpertsReferenceIdeal.main_arg0)) (m' ((c.tc : Thread Cert.ExpertsReferenceIdeal.nD Cert.ExpertsReferenceIdeal.τ).loc Cert.ExpertsReferenceIdeal.main_arg1)) (m' ((c.tc : Thread Cert.ExpertsReferenceIdeal.nD Cert.ExpertsReferenceIdeal.τ).loc Cert.ExpertsReferenceIdeal.main_arg2)) (m' ((c.tc : Thread Cert.ExpertsReferenceIdeal.nD Cert.ExpertsReferenceIdeal.τ).loc Cert.ExpertsReferenceIdeal.main_arg3)) (m' ((c.tc : Thread Cert.ExpertsReferenceIdeal.nD Cert.ExpertsReferenceIdeal.τ).loc Cert.ExpertsReferenceIdeal.main_arg4)) (m' ((c.tc : Thread Cert.ExpertsReferenceIdeal.nD Cert.ExpertsReferenceIdeal.τ).loc Cert.ExpertsReferenceIdeal.main_arg5)) (m' ((c.tc : Thread Cert.ExpertsReferenceIdeal.nD Cert.ExpertsReferenceIdeal.τ).loc Cert.ExpertsReferenceIdeal.main_arg6)) = _
  rw [a0, a1, a2, a3, a4, a5, a6]
  funext i
  exact Cert.ExpertsReferenceIdeal.Moe.result_apply _ _ _ _ _ _ _ (hb c).1 (hb c).2 i

end Cert.Moe

end
-- ==== Proof.FfnValue.lean ====
/- The dense feed-forward: the kernel adds the two halves of the hidden width one after the other and normalises the rows;
   the reference computes everything in one go. -/
module

public import proofs.«01_k».proof.Defs
public import Idealize.ShloMosaic.Lib.Pipeline.Covers
public import Idealize.ShloMosaic.Lib.Pipeline.ValueKit
public import Idealize.ShloMosaic.Lib.Pointwise
public import proofs.«01_k».proof.Proof.Gen.FfnIdeal.Value
public import proofs.«01_k».proof.Proof.Gen.FfnReferenceIdeal.Run
public import proofs.«01_k».proof.Proof.Gen.FfnReferenceIdeal.Read

@[expose] public section

set_option maxRecDepth 16384
set_option backward.proofsInPublic true

noncomputable section

namespace Cert.FfnIdeal.Lin

open Cert.FfnIdeal Cert.FfnIdeal.Gen Idealize.ShloMosaic Idealize.ShloMosaic.TcCoe Idealize.SL.Sem

variable (m : (l : Loc nD τ sig) → Buf (Elt Ideal) l)

/-- Which block each window holds at point `t`: the rows of `t / 2` and the half `t % 2` of the hidden width. -/
theorem idx : ∀ t : Fin cfg0.N, win0_0.index t = ![t.val / 2, 0] ∧ win0_1.index t = ![t.val / 2, 0] ∧ win0_2.index t = ![0, t.val % 2]
    ∧ win0_3.index t = ![0, t.val % 2] ∧ win0_4.index t = ![t.val % 2, 0] ∧ win0_5.index t = ![0, 0] ∧ win0_6.index t = ![0, 0]
    ∧ win0_7.index t = ![t.val / 2, 0] ∧ win0_8.index t = ![t.val / 2, 0] :=
  (by decide +kernel : ∀ t : Fin grid0.N, _)

/-- What hidden unit `f` adds to row `r`, column `d`. -/
def unit (x : S32768x1024.Idx → EReal) (wg wu : S1024x2816.Idx → EReal) (wd : S2816x1024.Idx → EReal)
    (r : Fin 32768) (d : Fin 1024) (f : Fin 2816) : EReal :=
  (∑ k : Fin 1024, x (ix2 r k) * wg (ix2 k f)) * Ideal.logistic (∑ k : Fin 1024, x (ix2 r k) * wg (ix2 k f))
    * (∑ k : Fin 1024, x (ix2 r k) * wu (ix2 k f)) * wd (ix2 f d)

/-- A sum over the hidden width is the sum over its first half and the sum over its second. -/
theorem halves (f : Fin 2816 → EReal) : ∑ i, f i
    = (∑ i : Fin 1408, f ⟨0 * 1408 + i.val, by omega⟩) + ∑ i : Fin 1408, f ⟨1 * 1408 + i.val, by omega⟩ := by
  refine (Fin.sum_univ_add (a := 1408) (b := 1408) f).trans ?_
  congr 1 <;> refine Finset.sum_congr rfl fun i _ => congrArg f (Fin.ext (by simp))

open Cert.FfnReferenceIdeal.Read in
/-- The reference's second product, read at an index. -/
theorem down_apply (x0 : S32768x1024.Idx → EReal) (x2 x3 : S1024x2816.Idx → EReal) (x4 : S2816x1024.Idx → EReal) (i : S32768x1024.Idx) :
    val_main_v8 (F := Ideal) x0 x2 x3 x4 i = ∑ f, unit x0 x2 x3 x4 (i 0) (i 1) f := by
  unfold unit
  pointwise [val_main_v8, val_main_v7, val_main_v6, val_main_v5, val_main_call0_v5, val_main_call0_v4, val_main_call0_v3, val_main_call0_v2, val_main_call0_v1, val_main_call0_v0, val_main_call0_cst, val_main_call0_cst_0, val_main_v4, val_main_v3, val_main_v2, val_main_v1, val_main_v0, Ideal.logistic]

/-- What point `t` adds to the sum it is given: its half of the hidden units. -/
theorem step (c : Dev nD) (t : Fin cfg0.N) (acc : Vec Ideal S512x1024 .f32) (y : S512x1024.Idx) (h : Fin 2) (hh : t.val % 2 = h.val) :
    k0_pay2 (F := Ideal) (iblk m c 0 t) (iblk m c 2 t) (iblk m c 3 t) acc (iblk m c 4 t) y
      = acc y + ∑ f : Fin 1408, unit (m ((c : Thread nD τ).loc main_arg0)) (m ((c : Thread nD τ).loc main_arg2)) (m ((c : Thread nD τ).loc main_arg3)) (m ((c : Thread nD τ).loc main_arg4)) ((win0_7.blk t).view.emb y 0) ((win0_7.blk t).view.emb y 1) ⟨h.val * 1408 + f.val, by omega⟩ := by
  unfold unit
  pointwise [k0_pay2]
  blk_point [iblk, V, idx t]

/-- The reference's second product. -/
abbrev Down (c : Dev nD) : S32768x1024.Idx → EReal :=
  Cert.FfnReferenceIdeal.Read.val_main_v8 (F := Ideal) (m ((c : Thread nD τ).loc main_arg0)) (m ((c : Thread nD τ).loc main_arg2)) (m ((c : Thread nD τ).loc main_arg3)) (m ((c : Thread nD τ).loc main_arg4))

/-- The result as the reference writes it. -/
abbrev Spec (c : Dev nD) : Buf (Elt Ideal) ((c : Thread nD τ).loc main_v0_0) :=
  Cert.FfnReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The result rounded to the shorter format, as the reference writes it. -/
abbrev SpecShort (c : Dev nD) : Buf (Elt Ideal) ((c : Thread nD τ).loc main_v0_1) :=
  Cert.FfnReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The sum the kernel holds after both halves is the reference's second product on the block's rows. -/
theorem both (c : Dev nD) (s t : Fin cfg0.N) (hs : s.val % 2 = 0) (ht : t.val = s.val + 1) :
    k0_pay2 (F := Ideal) (iblk m c 0 t) (iblk m c 2 t) (iblk m c 3 t)
        (k0_pay2 (F := Ideal) (iblk m c 0 s) (iblk m c 2 s) (iblk m c 3 s) (k0_pay1 (F := Ideal)) (iblk m c 4 s)) (iblk m c 4 t)
      = fun y => Down m c ((win0_7.blk t).view.emb y) := by
  funext y
  refine (step m c t _ y 1 (by show t.val % 2 = 1; omega)).trans ?_
  refine (congrArg (· + _) (step m c s _ y 0 hs)).trans ?_
  refine Eq.trans ?_ (down_apply _ _ _ _ _).symm
  rw [halves]
  have hr : (win0_7.blk s).view.emb y = (win0_7.blk t).view.emb y := by
    have hd : s.val / 2 = t.val / 2 := by omega
    blk_ext [idx s, idx t, hd]
  rw [hr]
  have hz : k0_pay1 (F := Ideal) y = 0 := by pointwise [k0_pay1]
  rw [hz, zero_add]
  rfl

open Cert.FfnReferenceIdeal.Read in
/-- What the body stores at the second half's point `t` is that block of rows of the result. -/
theorem point (c : Dev nD) (t : Fin cfg0.N) (y : S512x1024.Idx) :
    k0_pay3 (F := Ideal) (iblk m c 1 t) (fun y => Down m c ((win0_7.blk t).view.emb y)) (iblk m c 5 t) (iblk m c 6 t) y
      = Spec m c ((win0_7.blk t).view.emb y) := by
  pointwise [k0_pay3, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2, val_main_cst_3, val_main_cst_4]
  blk_point [iblk, V, idx t]

/-- What the body stores at the second half's point `t`, over the sum the first half's point `s` left in the scratch. -/
theorem stored (c : Dev nD) (s t : Fin cfg0.N) (hs : s.val % 2 = 0) (ht : t.val = s.val + 1) (y : S512x1024.Idx) :
    k0_pay3 (F := Ideal) (iblk m c 1 t) (k0_pay2 (iblk m c 0 t) (iblk m c 2 t) (iblk m c 3 t)
        ((Memref.whole cc0_scratch0).view.read (Elt Ideal) ((Memref.isWhole_whole cc0_scratch0).unread
          (k0_pay2 (F := Ideal) (iblk m c 0 s) (iblk m c 2 s) (iblk m c 3 s) (k0_pay1 (F := Ideal)) (iblk m c 4 s))))
        (iblk m c 4 t)) (iblk m c 5 t) (iblk m c 6 t) y
      = Spec m c ((win0_7.blk t).view.emb y) := by
  rw [(Memref.isWhole_whole cc0_scratch0).read_unread, both m c s t hs ht]
  exact point m c t y

/-- The points that write a block back are those of the second half. -/
theorem odd_of_flush : ∀ t : Fin cfg0.N, win0_7.flush t = true ∨ win0_8.flush t = true → t.val % 2 = 1 :=
  (by decide +kernel : ∀ t : Fin grid0.N, _)

/-- The point before `t`. -/
abbrev prev (t : Fin cfg0.N) : Fin cfg0.N := ⟨t.val - 1, Nat.lt_of_le_of_lt (Nat.sub_le _ _) t.isLt⟩

/-- The array the kernel leaves in the longer format is the result. -/
theorem final_long (c : Dev nD) : (dats m 0 c).arrAt 7 cfg0.N = Spec m c := by
  refine (dats m 0 c).arrAt_eq_of_covers 7 _ (by decide +kernel) fun t hf y => ?_
  have ht := odd_of_flush t (.inl hf)
  have hp : (prev t).val % 2 = 0 := by show (t.val - 1) % 2 = 0; omega
  blk_simp
  rw [after0_7, outsAt0_B m c t (by omega) ht, outsAt0_A m c (prev t) hp (by omega)]
  frame_out
  exact stored m c (prev t) t hp (by show t.val = t.val - 1 + 1; omega) y

/-- The array the kernel leaves in the shorter format is the same result. -/
theorem final_short (c : Dev nD) : (dats m 0 c).arrAt 8 cfg0.N = SpecShort m c := by
  refine (dats m 0 c).arrAt_eq_of_covers 8 _ (by decide +kernel) fun t hf y => ?_
  have ht := odd_of_flush t (.inr hf)
  have hp : (prev t).val % 2 = 0 := by show (t.val - 1) % 2 = 0; omega
  blk_simp
  rw [after0_8, outsAt0_B m c t (by omega) ht, outsAt0_A m c (prev t) hp (by omega)]
  frame_out
  exact stored m c (prev t) t hp (by show t.val = t.val - 1 + 1; omega) y

/-- The reference runs to its end, leaves its arguments unchanged and has no counter. -/
theorem frame_reference : Cert.quiescent_FfnReferenceIdeal (hFfnReferenceIdeal := Cert.FfnReferenceIdeal.Gen.facts) :=
  fun m ρ _ => (θ_run _ _ _).mono (fun r h => ⟨fun c => (h c).2.2, sem_eq_zero_of_no_sems (by decide) r.2⟩)
    (Cert.FfnReferenceIdeal.Value.run m ρ)

/-- From equal arguments kernel and reference end with the same two arrays. -/
theorem algebraic : Cert.algebraic_FfnIdeal_FfnReferenceIdeal (hFfnIdeal := Cert.FfnIdeal.Gen.facts)
    (hFfnReferenceIdeal := Cert.FfnReferenceIdeal.Gen.facts) := by
  intro m g m' g' _ hagree
  refine ⟨Spec m, SpecShort m,
    (θ_run _ _ _).mono (fun r h c => ⟨(h c).1.trans (final_long m c), (h c).2.1.trans (final_short m c), (h c).2.2⟩) (Value.run_blocks m g),
    (θ_run _ _ _).mono (fun r h c => ⟨(h c).1.trans ?_, (h c).2.1.trans ?_, (h c).2.2⟩) (Cert.FfnReferenceIdeal.Value.run m' g')⟩
  · obtain ⟨a0, a1, a2, a3, a4, a5, a6⟩ := hagree c
    rw [Cert.FfnReferenceIdeal.Read.val_main_v37_eq, a0, a1, a2, a3, a4, a5, a6]
  · obtain ⟨a0, a1, a2, a3, a4, a5, a6⟩ := hagree c
    rw [Cert.FfnReferenceIdeal.Read.val_main_v38_eq, a0, a1, a2, a3, a4, a5, a6]

end Cert.FfnIdeal.Lin

end
-- ==== Proof.OutProjValue.lean ====
/- The output projection with its residual and normalisation: the kernel's row blocks put together are what the reference computes in one go. -/
module

public import proofs.«01_k».proof.Defs
public import Idealize.ShloMosaic.Lib.Pipeline.Covers
public import Idealize.ShloMosaic.Lib.Pipeline.ValueKit
public import Idealize.ShloMosaic.Lib.Pointwise
public import proofs.«01_k».proof.Proof.Gen.OutProjIdeal.Value
public import proofs.«01_k».proof.Proof.Gen.OutProjReferenceIdeal.Run
public import proofs.«01_k».proof.Proof.Gen.OutProjReferenceIdeal.Read

@[expose] public section

set_option maxRecDepth 16384
set_option backward.proofsInPublic true

noncomputable section

namespace Cert.OutProjIdeal.Lin

open Cert.OutProjIdeal Cert.OutProjIdeal.Gen Idealize.ShloMosaic Idealize.ShloMosaic.TcCoe Idealize.SL.Sem

variable (m : (l : Loc nD τ sig) → Buf (Elt Ideal) l)

/-- Which block each window holds at point `t`: rows by the point, the weights, scale and shift whole. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The result as the reference writes it. -/
abbrev Spec (c : Dev nD) : Buf (Elt Ideal) ((c : Thread nD τ).loc main_v0_0) :=
  Cert.OutProjReferenceIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The result rounded to the shorter format, as the reference writes it. -/
abbrev SpecShort (c : Dev nD) : Buf (Elt Ideal) ((c : Thread nD τ).loc main_v0_1) :=
  Cert.OutProjReferenceIdeal.Read.val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

open Cert.OutProjReferenceIdeal.Read in
/-- What the body stores at point `t` is that block of rows of the result. -/
theorem point (c : Dev nD) (t : Fin cfg0.N) (y : S512x1024.Idx) :
    k0_pay1 (F := Ideal) (iblk m c 2 t) (iblk m c 0 t) (iblk m c 1 t) (iblk m c 3 t) (iblk m c 4 t) y
      = Spec m c ((win0_5.blk t).view.emb y) := by
  pointwise [k0_pay1, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]
  blk_point [iblk, V, idx t]

/-- The array the kernel leaves in the longer format is the result. -/
theorem final_long (c : Dev nD) : (dats m 0 c).arrAt 5 cfg0.N = Spec m c := by
  refine (dats m 0 c).arrAt_eq_of_covers 5 _ (by decide +kernel) fun t hf y => ?_
  blk_simp
  rw [after0_5]; frame_out
  exact point m c t y

/-- The array the kernel leaves in the shorter format is the same result. -/
theorem final_short (c : Dev nD) : (dats m 0 c).arrAt 6 cfg0.N = SpecShort m c := by
  refine (dats m 0 c).arrAt_eq_of_covers 6 _ (by decide +kernel) fun t hf y => ?_
  blk_simp
  rw [after0_6]; frame_out
  exact point m c t y

/-- The reference runs to its end, leaves its arguments unchanged and has no counter. -/
theorem frame_reference : Cert.quiescent_OutProjReferenceIdeal (hOutProjReferenceIdeal := Cert.OutProjReferenceIdeal.Gen.facts) :=
  fun m ρ _ => (θ_run _ _ _).mono (fun r h => ⟨fun c => (h c).2.2, sem_eq_zero_of_no_sems (by decide) r.2⟩)
    (Cert.OutProjReferenceIdeal.Value.run m ρ)

/-- From equal arguments kernel and reference end with the same two arrays. -/
theorem algebraic : Cert.algebraic_OutProjIdeal_OutProjReferenceIdeal (hOutProjIdeal := Cert.OutProjIdeal.Gen.facts)
    (hOutProjReferenceIdeal := Cert.OutProjReferenceIdeal.Gen.facts) := by
  intro m g m' g' _ hagree
  refine ⟨Spec m, SpecShort m,
    (θ_run _ _ _).mono (fun r h c => ⟨(h c).1.trans (final_long m c), (h c).2.1.trans (final_short m c), (h c).2.2⟩) (Value.run_blocks m g),
    (θ_run _ _ _).mono (fun r h c => ⟨(h c).1.trans ?_, (h c).2.1.trans ?_, (h c).2.2⟩) (Cert.OutProjReferenceIdeal.Value.run m' g')⟩
  · obtain ⟨a0, a1, a2, a3, a4⟩ := hagree c
    rw [Cert.OutProjReferenceIdeal.Read.val_main_v31_eq, a0, a1, a2, a3, a4]
  · obtain ⟨a0, a1, a2, a3, a4⟩ := hagree c
    rw [Cert.OutProjReferenceIdeal.Read.val_main_v32_eq, a0, a1, a2, a3, a4]

end Cert.OutProjIdeal.Lin

end
-- ==== Proof.InProjValue.lean ====
/- The plain projection: the kernel's blocks put together are the product the reference computes in one go. -/
module

public import proofs.«01_k».proof.Defs
public import Idealize.ShloMosaic.Lib.Pipeline.Covers
public import Idealize.ShloMosaic.Lib.Pipeline.ValueKit
public import Idealize.ShloMosaic.Lib.Pointwise
public import proofs.«01_k».proof.Proof.Gen.InProjIdeal.Value
public import proofs.«01_k».proof.Proof.Gen.InProjReferenceIdeal.Run
public import proofs.«01_k».proof.Proof.Gen.InProjReferenceIdeal.Read

@[expose] public section

set_option maxRecDepth 16384
set_option backward.proofsInPublic true

noncomputable section

namespace Cert.InProjIdeal.Lin

open Cert.InProjIdeal Cert.InProjIdeal.Gen Idealize.ShloMosaic Idealize.ShloMosaic.TcCoe Idealize.SL.Sem

variable (m : (l : Loc nD τ sig) → Buf (Elt Ideal) l)

/-- Which block each window holds at point `t`: the rows move slowly, the columns quickly. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The product as the reference writes it. -/
abbrev Spec (c : Dev nD) : Buf (Elt Ideal) ((c : Thread nD τ).loc main_v0) :=
  Cert.InProjReferenceIdeal.Read.val_main_v2 (F := Ideal) (m ((c : Thread nD τ).loc main_arg0)) (m ((c : Thread nD τ).loc main_arg1))

/-- What the body stores at point `t` is that block of the product. -/
theorem point (c : Dev nD) (t : Fin cfg0.N) (y : S1024x512.Idx) :
    k0_pay1 (F := Ideal) (iblk m c 0 t) (iblk m c 1 t) y = Spec m c ((win0_2.blk t).view.emb y) := by
  pointwise [k0_pay1, Cert.InProjReferenceIdeal.Read.val_main_v2, Cert.InProjReferenceIdeal.Read.val_main_v1, Cert.InProjReferenceIdeal.Read.val_main_v0]
  blk_point [iblk, V, idx t]

/-- The array the kernel leaves is the product. -/
theorem final (c : Dev nD) : (dats m 0 c).arrAt 2 cfg0.N = Spec m c := by
  refine (dats m 0 c).arrAt_eq_of_covers 2 _ (by decide +kernel) fun t hf y => ?_
  blk_simp
  rw [after0_2]; frame_out
  exact point m c t y

/-- The reference runs to its end, leaves its arguments unchanged and has no counter. -/
theorem frame_reference : Cert.quiescent_InProjReferenceIdeal (hInProjReferenceIdeal := Cert.InProjReferenceIdeal.Gen.facts) :=
  fun m ρ _ => (θ_run _ _ _).mono (fun r h => ⟨fun c => (h c).2, sem_eq_zero_of_no_sems (by decide) r.2⟩)
    (Cert.InProjReferenceIdeal.Value.run m ρ)

/-- From equal arguments kernel and reference end with the same product. -/
theorem algebraic : Cert.algebraic_InProjIdeal_InProjReferenceIdeal (hInProjIdeal := Cert.InProjIdeal.Gen.facts)
    (hInProjReferenceIdeal := Cert.InProjReferenceIdeal.Gen.facts) := by
  intro m g m' g' _ hagree
  refine ⟨Spec m,
    (θ_run _ _ _).mono (fun r h c => ⟨(h c).1.trans (final m c), (h c).2⟩) (Value.run_blocks m g),
    (θ_run _ _ _).mono (fun r h c => ⟨(h c).1.trans ?_, (h c).2⟩) (Cert.InProjReferenceIdeal.Value.run m' g')⟩
  obtain ⟨a0, a1⟩ := hagree c
  rw [Cert.InProjReferenceIdeal.Read.val_main_v2_eq, a0, a1]

end Cert.InProjIdeal.Lin

end
-- ==== Proof.PleValue.lean ====
/- The gated per-layer embedding: the kernel's row blocks put together are what the reference computes in one go. -/
module

public import proofs.«01_k».proof.Defs
public import Idealize.ShloMosaic.Lib.Pipeline.Covers
public import Idealize.ShloMosaic.Lib.Pipeline.ValueKit
public import Idealize.ShloMosaic.Lib.Pointwise
public import proofs.«01_k».proof.Proof.Gen.PleIdeal.Value
public import proofs.«01_k».proof.Proof.Gen.PleReferenceIdeal.Run
public import proofs.«01_k».proof.Proof.Gen.PleReferenceIdeal.Read

@[expose] public section

set_option maxRecDepth 16384
set_option backward.proofsInPublic true

noncomputable section

namespace Cert.PleIdeal.Lin

open Cert.PleIdeal Cert.PleIdeal.Gen Idealize.ShloMosaic Idealize.ShloMosaic.TcCoe Idealize.SL.Sem

variable (m : (l : Loc nD τ sig) → Buf (Elt Ideal) l)

/-- Which block each window holds at point `t`: rows by the point, the two weight matrices whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The result as the reference writes it. -/
abbrev Spec (c : Dev nD) : Buf (Elt Ideal) ((c : Thread nD τ).loc main_v0_0) :=
  Cert.PleReferenceIdeal.Read.val_main_v13 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The result rounded to the shorter format, as the reference writes it. -/
abbrev SpecShort (c : Dev nD) : Buf (Elt Ideal) ((c : Thread nD τ).loc main_v0_1) :=
  Cert.PleReferenceIdeal.Read.val_main_v14 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

open Cert.PleReferenceIdeal.Read in
/-- What the body stores at point `t` is that block of rows of the result. -/
theorem point (c : Dev nD) (t : Fin cfg0.N) (y : S512x1024.Idx) :
    k0_pay1 (F := Ideal) (iblk m c 0 t) (iblk m c 3 t) (iblk m c 1 t) (iblk m c 2 t) (iblk m c 4 t) y
      = Spec m c ((win0_5.blk t).view.emb y) := by
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, Ideal.logistic]
  blk_point [iblk, V, idx t]

/-- The array the kernel leaves in the longer format is the result. -/
theorem final_long (c : Dev nD) : (dats m 0 c).arrAt 5 cfg0.N = Spec m c := by
  refine (dats m 0 c).arrAt_eq_of_covers 5 _ (by decide +kernel) fun t hf y => ?_
  blk_simp
  rw [after0_5]; frame_out
  exact point m c t y

/-- The array the kernel leaves in the shorter format is the same result. -/
theorem final_short (c : Dev nD) : (dats m 0 c).arrAt 6 cfg0.N = SpecShort m c := by
  refine (dats m 0 c).arrAt_eq_of_covers 6 _ (by decide +kernel) fun t hf y => ?_
  blk_simp
  rw [after0_6]; frame_out
  exact point m c t y

/-- The reference runs to its end, leaves its arguments unchanged and has no counter. -/
theorem frame_reference : Cert.quiescent_PleReferenceIdeal (hPleReferenceIdeal := Cert.PleReferenceIdeal.Gen.facts) :=
  fun m ρ _ => (θ_run _ _ _).mono (fun r h => ⟨fun c => (h c).2.2, sem_eq_zero_of_no_sems (by decide) r.2⟩)
    (Cert.PleReferenceIdeal.Value.run m ρ)

/-- From equal arguments kernel and reference end with the same two arrays. -/
theorem algebraic : Cert.algebraic_PleIdeal_PleReferenceIdeal (hPleIdeal := Cert.PleIdeal.Gen.facts)
    (hPleReferenceIdeal := Cert.PleReferenceIdeal.Gen.facts) := by
  intro m g m' g' _ hagree
  refine ⟨Spec m, SpecShort m,
    (θ_run _ _ _).mono (fun r h c => ⟨(h c).1.trans (final_long m c), (h c).2.1.trans (final_short m c), (h c).2.2⟩) (Value.run_blocks m g),
    (θ_run _ _ _).mono (fun r h c => ⟨(h c).1.trans ?_, (h c).2.1.trans ?_, (h c).2.2⟩) (Cert.PleReferenceIdeal.Value.run m' g')⟩
  · obtain ⟨a0, a1, a2, a3, a4⟩ := hagree c
    rw [Cert.PleReferenceIdeal.Read.val_main_v13_eq, a0, a1, a2, a3, a4]
  · obtain ⟨a0, a1, a2, a3, a4⟩ := hagree c
    rw [Cert.PleReferenceIdeal.Read.val_main_v14_eq, a0, a1, a2, a3, a4]

end Cert.PleIdeal.Lin

end
-- ==== Proof.KvValue.lean ====
/- The projection to compressed, selected and windowed keys and values: the kernel's blocks put together are the reference's result. -/
module

public import proofs.«01_k».proof.Defs
public import Idealize.ShloMosaic.Lib.Pipeline.Covers
public import Idealize.ShloMosaic.Lib.Pipeline.ValueKit
public import Idealize.ShloMosaic.Lib.Pointwise
public import proofs.«01_k».proof.Proof.Gen.KvProjIdeal.Value
public import proofs.«01_k».proof.Proof.Gen.KvProjReferenceIdeal.Run
public import proofs.«01_k».proof.Proof.Gen.KvProjReferenceIdeal.Read

@[expose] public section

set_option maxRecDepth 16384
set_option backward.proofsInPublic true

noncomputable section

namespace Cert.KvProjIdeal.Kv

open Cert.KvProjIdeal Cert.KvProjIdeal.Gen Idealize.ShloMosaic Idealize.ShloMosaic.TcCoe Idealize.SL.Sem Cert.KvProjReferenceIdeal.Read

variable (m : (l : Loc nD τ sig) → Buf (Elt Ideal) l)

/-- The stream's rows. -/
abbrev X (c : Dev nD) : Vec Ideal S32768x1024 .bf16 := m ((c : Thread nD τ).loc main_arg0)

/-- The weights. -/
abbrev W (c : Dev nD) : Vec Ideal S1024x768 .bf16 := m ((c : Thread nD τ).loc main_arg1)

/-- One entry of the product of all rows with the weights. -/
def Row (x : Vec Ideal S32768x1024 .bf16) (w : Vec Ideal S1024x768 .bf16) (R : Fin 32768) (n : Fin 768) : EReal :=
  ∑ k : Fin 1024, x (ix2 R k) * w (ix2 k n)

/-- The cosine of position `p` at frequency `k`. -/
abbrev Cos (p : Fin 2048) (k : Fin 32) : EReal := val_main_v20 (F := Ideal) (ix2 p k)

/-- The sine of position `p` at frequency `k`. -/
abbrev Sin (p : Fin 2048) (k : Fin 32) : EReal := val_main_v22 (F := Ideal) (ix2 p k)

/-- Lane `l` of the 128 columns from `o` on, rotated by position `p` within each group of 64. -/
def Rope (x : Vec Ideal S32768x1024 .bf16) (w : Vec Ideal S1024x768 .bf16) (o : Fin 640) (R : Fin 32768) (p : Fin 2048) (l : Fin 128) : EReal :=
  if l.val % 64 < 32 then
    Row x w R ⟨o + l, by omega⟩ * Cos p ⟨l % 32, by omega⟩ - Row x w R ⟨o + (l + 128 - 96) % 128, by omega⟩ * Sin p ⟨l % 32, by omega⟩
  else Row x w R ⟨o + l, by omega⟩ * Cos p ⟨l % 32, by omega⟩ + Row x w R ⟨o + (l + 128 - 32) % 128, by omega⟩ * Sin p ⟨l % 32, by omega⟩

/-- Two tables side by side, twice. -/
abbrev Twice (a b : FVec Ideal S2048x32 .f32) : FVec Ideal S2048x128 .f32 := concatenate S2048x128 1
  [⟨S2048x64, concatenate S2048x64 1 [⟨S2048x32, a⟩, ⟨S2048x32, b⟩] concatenates_S2048x32_S2048x32_S2048x64_d1⟩,
    ⟨S2048x64, concatenate S2048x64 1 [⟨S2048x32, a⟩, ⟨S2048x32, b⟩] concatenates_S2048x32_S2048x32_S2048x64_d1⟩]
  concatenates_S2048x64_S2048x64_S2048x128_d1

/-- The table of cosines that the host hands to the kernel. -/
theorem V_cos (c : Dev nD) : V m c main_v22 = Twice (val_main_v20 (F := Ideal)) (val_main_v20 (F := Ideal)) := by
  unfold V
  after_results
  try rfl

/-- The table of sines that the host hands to the kernel, negative on the first half of each group. -/
theorem V_sin (c : Dev nD) : V m c main_v23 = Twice (Host.negf (val_main_v22 (F := Ideal))) (val_main_v22 (F := Ideal)) := by
  unfold V
  after_results
  try rfl

/-- One entry of the table of cosines. -/
theorem tab_cos (c : Dev nD) (p : Fin 2048) (l : Fin 128) : V m c main_v22 (ix2 p l : S2048x128.Idx) = Cos p ⟨l.val % 32, by omega⟩ := by
  rw [V_cos]
  pointwise [Twice]
  blk_point []

/-- One entry of the table of sines. -/
theorem tab_sin (c : Dev nD) (p : Fin 2048) (l : Fin 128) : V m c main_v23 (ix2 p l : S2048x128.Idx)
    = if l.val % 64 < 32 then - Sin p ⟨l % 32, by omega⟩ else Sin p ⟨l % 32, by omega⟩ := by
  rw [V_sin]
  pointwise [Twice, Sin]
  blk_point [] <;> (exfalso; omega)

/-- Which lanes form the first half of a group, as the kernel computes it. -/
theorem first_half : ∀ l : Fin 128, IntOp.cmpi .slt (IntOp.andi (BitVec.ofNat 32 l.val) 63#32) 32#32 = if l.val % 64 < 32 then 1#1 else 0#1 := by
  decide +kernel

section
variable (x : Vec Ideal S32768x1024 .bf16) (w : Vec Ideal S1024x768 .bf16) (xb : Vec Ideal S512x1024 .bf16) (co si : Vec Ideal S512x128 .f32)
  (r : Fin 512) (l : Fin 128) (R : Fin 32768) (p : Fin 2048)

/-- What the kernel rotates, from a block of rows and the matching blocks of the two tables, is the rotation. -/
theorem pay (hx : ∀ k, xb (ix2 r k) = x (ix2 R k)) (hc : co (ix2 r l) = Cos p ⟨l % 32, by omega⟩)
    (hs : si (ix2 r l) = if l.val % 64 < 32 then - Sin p ⟨l % 32, by omega⟩ else Sin p ⟨l % 32, by omega⟩) :
    k0_pay5 (F := Ideal) xb w co si (ix2 r l) = Rope x w 256 R p l ∧ k0_pay7 (F := Ideal) xb w co si (ix2 r l) = Rope x w 512 R p l := by
  constructor
  all_goals
    pointwise [k0_pay5, k0_pay7, k0_pay1, k0_pay2, k0_pay3]
    rw [first_half l, hc, hs]
    simp only [hx, Rope]
    by_cases h : l.val % 64 < 32
    · simp only [if_pos h, Scalar.select, sub_eq_add_neg, mul_neg]; rfl
    · simp only [if_neg h, Scalar.select]; rfl

end

section
variable (x : Vec Ideal S32768x1024 .bf16) (w : Vec Ideal S1024x768 .bf16) (b : Fin 16) (p : Fin 2048) (kind g : Fin 2) (d : Fin 64)

/-- The reference's selected rows: rotated keys, then values. -/
theorem ref_sel : val_main_v45 (F := Ideal) x w (ix5 b p kind g d)
    = if kind.val < 1 then Rope x w 256 ⟨b * 2048 + p, by omega⟩ p ⟨g * 64 + d, by omega⟩ else Row x w ⟨b * 2048 + p, by omega⟩ ⟨384 + (g * 64 + d), by omega⟩ := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v21, val_main_v7, val_main_v6, val_main_v4, val_main_v3, val_main_v2, val_main_v1, Rope, Row, Cos, Sin]
  blk_point [] <;> (exfalso; omega)

/-- The reference's rows of the window: rotated keys, then values. -/
theorem ref_win : val_main_v85 (F := Ideal) x w (ix5 b p kind g d)
    = if kind.val < 1 then Rope x w 512 ⟨b * 2048 + p, by omega⟩ p ⟨g * 64 + d, by omega⟩ else Row x w ⟨b * 2048 + p, by omega⟩ ⟨640 + (g * 64 + d), by omega⟩ := by
  have hc : val_main_v60 (F := Ideal) = val_main_v20 (F := Ideal) := rfl
  have hs : val_main_v62 (F := Ideal) = val_main_v22 (F := Ideal) := rfl
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v61, val_main_v47, val_main_v46, val_main_v4, val_main_v3, val_main_v2, val_main_v1, Rope, Row, Cos, Sin, hc, hs]
  blk_point [] <;> (exfalso; omega)

end

/-- Which block each window holds at point `t`. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] ∧ win0_5.index t = ![0, t.val, 0]
    ∧ win0_6.index t = ![t.val / 4, 0, 0, t.val % 4] ∧ win0_7.index t = ![t.val / 4, 0, 0, t.val % 4] ∧ win0_8.index t = ![t.val / 4, 0, 0, t.val % 4] :=
  (by decide +kernel : ∀ t : Fin grid0.N, _)

section
variable (c : Dev nD) (t : Fin cfg0.N) (r : Fin 512)

/-- There are 64 points. -/
theorem lt_N : t.val < 64 := lt_of_lt_of_eq t.isLt N_0

/-- The rows of point `t`. -/
theorem blk_rows (k : Fin 1024) (h : t.val * 512 + r < 32768) : iblk m c 0 t (ix2 r k) = m ((c : Thread nD τ).loc main_arg0) (ix2 ⟨t.val * 512 + r, h⟩ k) := by
  blk_ext [iblk, V_main_arg0, idx t]

/-- Its cosines. -/
theorem blk_cos (l : Fin 128) : iblk m c 2 t (ix2 r l) = Cos ⟨t.val % 4 * 512 + r, by omega⟩ ⟨l % 32, by omega⟩ := by
  rw [← tab_cos m c]
  blk_ext [iblk, idx t]

/-- Its sines. -/
theorem blk_sin (l : Fin 128) : iblk m c 3 t (ix2 r l)
    = if l.val % 64 < 32 then - Sin ⟨t.val % 4 * 512 + r, by omega⟩ ⟨l % 32, by omega⟩ else Sin ⟨t.val % 4 * 512 + r, by omega⟩ ⟨l % 32, by omega⟩ := by
  rw [← tab_sin m c]
  blk_ext [iblk, idx t]
end

section
variable (x : Vec Ideal S32768x1024 .bf16) (w : Vec Ideal S1024x768 .bf16)

/-- Equal numbers, equal entries. -/
theorem row_congr {R R' : Fin 32768} {n n' : Fin 768} (hR : R.val = R'.val := by (try simp only) <;> omega)
    (hn : n.val = n'.val := by (try simp only) <;> omega) : Row x w R n = Row x w R' n' := by
  rw [Fin.ext hR, Fin.ext hn]

/-- The same of rotated entries. -/
theorem rope_congr {o : Fin 640} {R R' : Fin 32768} {p p' : Fin 2048} {l l' : Fin 128} (hR : R.val = R'.val := by (try simp only) <;> omega)
    (hp : p.val = p'.val := by (try simp only) <;> omega) (hl : l.val = l'.val := by (try simp only); omega) :
    Rope x w o R p l = Rope x w o R' p' l' := by
  rw [Fin.ext hR, Fin.ext hp, Fin.ext hl]

end

section
variable (x : Vec Ideal S32768x1024 .bf16) (w : Vec Ideal S1024x768 .bf16) (b : Fin 16) (p : Fin 2048) (kind g : Fin 2) (d : Fin 64) (l : Fin 128)

/-- The reference's rows for the compression, and the same with the positions last. -/
theorem ref_cmp (R : Fin 32768) (n : Fin 256) : val_main_v109 (F := Ideal) x w (ix2 R n) = Row x w R ⟨n, by omega⟩
    ∧ val_main_v111 (F := Ideal) x w (ix4 b kind l p) = Row x w ⟨b * 2048 + p, by omega⟩ ⟨kind * 128 + l, by omega⟩ := by
  constructor
  all_goals
    pointwise [val_main_v109, val_main_v111, val_main_v110, val_main_v5, val_main_v4, val_main_v3, val_main_v2, val_main_v1, Row]
    blk_point []

/-- The reference's selected rows with the positions last. -/
theorem ref_sel_last : val_main_v113 (F := Ideal) x w (ix4 b kind l p)
    = if kind.val < 1 then Rope x w 256 ⟨b * 2048 + p, by omega⟩ p l else Row x w ⟨b * 2048 + p, by omega⟩ ⟨384 + l, by omega⟩ := by
  pointwise [val_main_v113, val_main_v112]
  exact (ref_sel x w b p kind ⟨l / 64, by omega⟩ ⟨l % 64, by omega⟩).trans
    (if_congr Iff.rfl (rope_congr _ _) (row_congr _ _))

/-- The reference's rows of the window with the positions last. -/
theorem ref_win_last : val_main_v115 (F := Ideal) x w (ix4 b kind l p)
    = if kind.val < 1 then Rope x w 512 ⟨b * 2048 + p, by omega⟩ p l else Row x w ⟨b * 2048 + p, by omega⟩ ⟨640 + l, by omega⟩ := by
  pointwise [val_main_v115, val_main_v114]
  exact (ref_win x w b p kind ⟨l / 64, by omega⟩ ⟨l % 64, by omega⟩).trans
    (if_congr Iff.rfl (rope_congr _ _) (row_congr _ _))
end

section
variable (c : Dev nD) (t : Fin cfg0.N) (r : Fin 512)

/-- The weights are one block. -/
theorem blk_w : iblk m c 1 t = W m c := by
  funext y
  blk_ext [iblk, V_main_arg1, idx t]

/-- They exist. -/
theorem lt_row : t.val * 512 + r < 32768 := by have := lt_N t; omega

/-- The product of point `t`'s rows. -/
theorem pay_row (n : Fin 768) : k0_pay1 (F := Ideal) (iblk m c 0 t) (iblk m c 1 t) (ix2 r n)
    = Row (X m c) (W m c) ⟨t.val * 512 + r, lt_row t r⟩ n := by
  pointwise [k0_pay1]
  simp only [blk_w m c t, blk_rows m c t r _ (lt_row t r)]
  rfl

/-- The selected keys and the window's of point `t`. -/
theorem keys (l : Fin 128) : k0_pay5 (F := Ideal) (iblk m c 0 t) (iblk m c 1 t) (iblk m c 2 t) (iblk m c 3 t) (ix2 r l)
      = Rope (X m c) (W m c) 256 ⟨t.val * 512 + r, lt_row t r⟩ ⟨t.val % 4 * 512 + r, by omega⟩ l
    ∧ k0_pay7 (F := Ideal) (iblk m c 0 t) (iblk m c 1 t) (iblk m c 2 t) (iblk m c 3 t) (ix2 r l)
      = Rope (X m c) (W m c) 512 ⟨t.val * 512 + r, lt_row t r⟩ ⟨t.val % 4 * 512 + r, by omega⟩ l := by
  rw [blk_w]
  exact pay _ _ _ _ _ r l _ _ (fun k => blk_rows m c t r k (lt_row t r)) (blk_cos m c t r l) (blk_sin m c t r l)

/-- The selected values and the window's of point `t`. -/
theorem values (l : Fin 128) : k0_pay6 (F := Ideal) (iblk m c 0 t) (iblk m c 1 t) (ix2 r l)
      = Row (X m c) (W m c) ⟨t.val * 512 + r, lt_row t r⟩ ⟨384 + l, by omega⟩
    ∧ k0_pay8 (F := Ideal) (iblk m c 0 t) (iblk m c 1 t) (ix2 r l) = Row (X m c) (W m c) ⟨t.val * 512 + r, lt_row t r⟩ ⟨640 + l, by omega⟩ := by
  constructor <;> (pointwise [k0_pay6, k0_pay8]; exact pay_row m c t r _)

end

/-- The keys and values as the attention reads them: for each group the selected key, the number of its block as a row with a
single one, the selected value, nothing, the window's key, nothing, the window's value, nothing, 64 lanes each. -/
def Kvx (x : Vec Ideal S32768x1024 .bf16) (w : Vec Ideal S1024x768 .bf16) (g : Fin 2) (R : Fin 32768) (l : Fin 512) : EReal :=
  if l.val < 64 then Rope x w 256 R ⟨R % 2048, by omega⟩ ⟨g * 64 + l % 64, by omega⟩
  else if l.val < 128 then if R.val % 2048 / 64 = l.val % 64 then 1 else 0
  else if l.val < 192 then Row x w R ⟨384 + (g * 64 + l % 64), by omega⟩
  else if l.val < 256 then 0
  else if l.val < 320 then Rope x w 512 R ⟨R % 2048, by omega⟩ ⟨g * 64 + l % 64, by omega⟩
  else if l.val < 384 then 0
  else if l.val < 448 then Row x w R ⟨640 + (g * 64 + l % 64), by omega⟩
  else 0

/-- Lanes of the first group, as the kernel tells them. -/
theorem low_lane : ∀ l : Fin 128, IntOp.cmpi .slt (BitVec.ofNat 32 l.val) 64#32 = if l.val < 64 then 1#1 else 0#1 := by
  decide +kernel

/-- A choice by a flag. -/
theorem select_ite (P : Prop) [Decidable P] (a b : EReal) : Scalar.select (if P then 1#1 else 0#1) a b = if P then a else b := by
  by_cases h : P
  · rw [if_pos h, if_pos h]; rfl
  · rw [if_neg h, if_neg h]; rfl

/-- A choice between the two groups of lanes, group by group. -/
theorem halves (l : ℕ) (h : l < 128) {Q : Prop} [Decidable Q] {a b a' b' : EReal} (h1 : l < 64 → a = a') (h2 : ¬ l < 64 → b = b')
    (e : l < 64 ↔ Q := by (try simp only) <;> omega) : Scalar.select (IntOp.cmpi .slt (BitVec.ofNat 32 l) 64#32) a b = ite Q a' b' := by
  have q := low_lane ⟨l, h⟩
  simp only at q
  rw [q, select_ite, if_congr e rfl rfl]
  split_ifs with k
  · exact h1 (e.mpr k)
  · exact h2 (fun n => k (e.mp n))

/-- A flag as a number. -/
theorem number_ite (P : Prop) [Decidable P] : (FloatOps.uitofp (F := Ideal) FTy.f32 (if P then 1#1 else 0#1) : EReal) = if P then 1 else 0 := by
  by_cases h : P
  · rw [if_pos h, if_pos h]; exact (show ((((1 : ℕ) : ℝ)) : EReal) = 1 by simp)
  · rw [if_neg h, if_neg h]; exact (show ((((0 : ℕ) : ℝ)) : EReal) = 0 by simp)

/-- The comparison of block numbers in the reference. -/
theorem same_ref : ∀ (a : Fin 32) (b : Fin 64), IntOp.cmpi .eq (IntOp.addi (BitVec.ofNat 32 a.val) 0#32) (BitVec.ofNat 32 b.val) = if a.val = b.val then 1#1 else 0#1 := by
  decide +kernel

/-- The comparison of block numbers in the kernel. -/
theorem same_ker : ∀ (a : Fin 32) (l : Fin 128), IntOp.cmpi .eq (IntOp.subi (BitVec.ofNat 32 l.val) 64#32) (BitVec.ofNat 32 a.val) = if a.val + 64 = l.val then 1#1 else 0#1 := by
  decide +kernel

/-- The block number of a position. -/
theorem block_of : ∀ p : Fin 2048, IntOp.shrsi ArithUnit.vector (BitVec.ofNat 32 p.val) 6#32 = BitVec.ofNat 32 (p.val / 64) := by
  decide +kernel

/-- How many points share the positions of one row of the batch, as the kernel writes it. -/
abbrev Four : BitVec 32 := Scalar.select (Scalar.cmpi .eq 4#32 0#32) 1#32 4#32

/-- The first position of a grid point's rows, as the kernel computes it. -/
theorem first_pos : ∀ i : Fin 64, let q := Scalar.remsi (BitVec.ofNat 32 i.val) Four
    Scalar.muli (Scalar.select (Scalar.andi (Scalar.xori (Scalar.cmpi .slt q 0#32) (Scalar.cmpi .slt Four 0#32)) (Scalar.cmpi .ne q 0#32))
      (Scalar.addi q Four) q) 512#32 = BitVec.ofNat 32 (i.val % 4 * 512) := by
  decide +kernel

/-- The numbers of the lanes. -/
abbrev Lanes : IVec S512x128 32 := iota .tc S512x128 32 [1] iota_S512x128_d1_w32

/-- The point's coordinate is its number. -/
theorem coord : ∀ t : Fin cfg0.N, (grid0.coords t 0).val = t.val := (by decide +kernel : ∀ t : Fin grid0.N, _)

/-- The row with a single one at the block's number, as the kernel makes it. -/
theorem hot (t : Fin cfg0.N) (r : Fin 512) (l : Fin 128) :
    k0_pay17 (F := Ideal) Lanes Four (Scalar.remsi (BitVec.ofNat 32 (grid0.coords t 0).val) Four) 0#32 (ix2 r l)
      = if (t.val % 4 * 512 + r.val) / 64 + 64 = l.val then 1 else 0 := by
  have hb := lt_N t
  pointwise [k0_pay17]
  rw [coord t]
  have e := first_pos ⟨t.val, hb⟩
  simp only at e
  rw [e, show IntOp.addi (BitVec.ofNat 32 (t.val % 4 * 512)) (BitVec.ofNat 32 r.val) = BitVec.ofNat 32 (t.val % 4 * 512 + r.val) from by
    refine BitVec.eq_of_toNat_eq ?_
    change (_ + _ : BitVec 32).toNat = _
    rw [BitVec.toNat_add]
    simp only [BitVec.toNat_ofNat]
    omega]
  have e2 := block_of ⟨t.val % 4 * 512 + r.val, by omega⟩
  simp only at e2
  rw [e2, same_ker ⟨(t.val % 4 * 512 + r.val) / 64, by omega⟩ l, select_ite]

/-- Two choices agree when their conditions and their branches do. -/
theorem both {P Q : Prop} [Decidable P] [Decidable Q] {a : P → EReal} {b : ¬ P → EReal} {a' b' : EReal}
    (h1 : ∀ p, a p = a') (h2 : ∀ p, b p = b') (h : P ↔ Q := by (try simp only) <;> omega) : dite P a b = ite Q a' b' := by
  by_cases p : P
  · rw [dif_pos p, if_pos (h.mp p), h1]
  · rw [dif_neg p, if_neg (fun q => p (h.mpr q)), h2]

/-- The reference's keys and values. -/
theorem ref_kvx (x : Vec Ideal S32768x1024 .bf16) (w : Vec Ideal S1024x768 .bf16) (g : Fin 2) (R : Fin 32768) (l : Fin 512) :
    val_main_v108 (F := Ideal) x w (ix3 g R l) = Kvx x w g R l := by
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_c, val_main_cst_3]
  have f (h : l.val - 64 < 64) := same_ref ⟨R.val % 2048 / 64, by omega⟩ ⟨l.val - 64, h⟩
  simp only at f
  simp only [ref_sel, ref_win]
  unfold Kvx
  refine both (fun _ => (if_pos (by decide)).trans (rope_congr _ _)) fun _ => ?_
  refine both (fun h => by rw [f h, number_ite]; exact if_congr (by omega) rfl rfl) fun _ => ?_
  refine both (fun _ => (if_neg (by decide)).trans (row_congr _ _)) fun _ => ?_
  refine both (fun _ => rfl) fun _ => ?_
  refine both (fun _ => (if_pos (by decide)).trans (rope_congr _ _)) fun _ => ?_
  refine both (fun _ => rfl) fun _ => ?_
  refine both (fun _ => (if_neg (by decide)).trans (row_congr _ _)) fun _ => rfl

/-- Where point `t` stores the entry `y` of an array with the positions last. -/
abbrev At (t : Fin cfg0.N) (y : S1x2x128x512.Idx) : S16x2x128x2048.Idx :=
  ix4 ⟨t.val / 4, by have := lt_N t; omega⟩ ⟨(y 1).val, (y 1).isLt⟩ ⟨(y 2).val, (y 2).isLt⟩
    ⟨t.val % 4 * 512 + (y 3).val, by have := (y 3).isLt; change (y 3).val < 512 at this; omega⟩

/-- So it is for the three such arrays. -/
theorem at_last (t : Fin cfg0.N) (y : S1x2x128x512.Idx) : (win0_6.blk t).view.emb y = At t y ∧ (win0_7.blk t).view.emb y = At t y ∧ (win0_8.blk t).view.emb y = At t y := by
  refine ⟨?_, ?_, ?_⟩ <;> (delta At; blk_ext [idx t])

/-- The same for the rows. -/
theorem at_rows (t : Fin cfg0.N) (y : S512x256.Idx) : (win0_4.blk t).view.emb y
    = (ix2 ⟨t.val * 512 + (y 0).val, lt_row t ⟨(y 0).val, (y 0).isLt⟩⟩ ⟨(y 1).val, (y 1).isLt⟩ : S32768x256.Idx) := by
  blk_ext [idx t]

/-- The same for the keys and values. -/
theorem at_groups (t : Fin cfg0.N) (y : S2x512x512.Idx) : (win0_5.blk t).view.emb y
    = (ix3 ⟨(y 0).val, (y 0).isLt⟩ ⟨t.val * 512 + (y 1).val, lt_row t ⟨(y 1).val, (y 1).isLt⟩⟩ ⟨(y 2).val, (y 2).isLt⟩ : S2x32768x512.Idx) := by
  blk_ext [idx t]

/-- The kernel leaves the compression's rows as the reference has them. -/
theorem final_cmp (c : Dev nD) : (dats m 0 c).arrAt 4 cfg0.N = val_main_v109 (F := Ideal) (X m c) (W m c) := by
  refine (dats m 0 c).arrAt_eq_of_covers 4 _ (by decide +kernel) fun t hf y => ?_
  have hb := lt_N t
  blk_simp
  rw [after0_4, at_rows, (ref_cmp _ _ 0 0 0 0 _ _).1]
  unfold_out out0_4
  canon_tiles x h
  all_goals simp (disch := decide) only [View.ld_unit_lit']
  all_goals
    pointwise [k0_pay4]
    exact (pay_row m c t _ _).trans (row_congr _ _)

/-- The kernel leaves the keys and values as the reference has them. -/
theorem final_kvx (c : Dev nD) : (dats m 0 c).arrAt 5 cfg0.N = val_main_v108 (F := Ideal) (X m c) (W m c) := by
  refine (dats m 0 c).arrAt_eq_of_covers 5 _ (by decide +kernel) fun t hf y => ?_
  have hb := lt_N t
  blk_simp
  rw [after0_5, at_groups, ref_kvx]
  unfold_out out0_5
  canon_tiles x h
  all_goals simp (disch := decide) only [View.ld_unit_lit']
  all_goals rw [Kvx]
  · pointwise [k0_pay25, k0_pay16]
    iterate 6 rw [if_neg (by omega)]
    exact halves _ x2_lt (fun _ => (values m c t _ _).2.trans (row_congr _ _)) (fun _ => rfl)
  · pointwise [k0_pay24, k0_pay16]
    iterate 4 rw [if_neg (by omega)]
    exact halves _ x2_lt (fun _ => (keys m c t _ _).2.trans (rope_congr _ _)) (fun _ => (if_pos (by omega)).symm)
  · pointwise [k0_pay23, k0_pay16]
    iterate 2 rw [if_neg (by omega)]
    exact halves _ x2_lt (fun _ => (values m c t _ _).1.trans (row_congr _ _)) (fun _ => (if_pos (by omega)).symm)
  · pointwise [k0_pay22, k0_pay16]
    exact halves _ x2_lt (fun _ => (keys m c t _ _).1.trans (rope_congr _ _)) (fun _ => (hot t _ _).trans ((if_congr (by omega) rfl rfl).trans (if_pos (by omega)).symm))
  · pointwise [k0_pay21, k0_pay16]
    iterate 6 rw [if_neg (by omega)]
    exact halves _ x2_lt (fun _ => (values m c t _ _).2.trans (row_congr _ _)) (fun _ => rfl)
  · pointwise [k0_pay20, k0_pay16]
    iterate 4 rw [if_neg (by omega)]
    exact halves _ x2_lt (fun _ => (keys m c t _ _).2.trans (rope_congr _ _)) (fun _ => (if_pos (by omega)).symm)
  · pointwise [k0_pay19, k0_pay16]
    iterate 2 rw [if_neg (by omega)]
    exact halves _ x2_lt (fun _ => (values m c t _ _).1.trans (row_congr _ _)) (fun _ => (if_pos (by omega)).symm)
  · pointwise [k0_pay18, k0_pay16]
    exact halves _ x2_lt (fun _ => (keys m c t _ _).1.trans (rope_congr _ _)) (fun _ => (hot t _ _).trans ((if_congr (by omega) rfl rfl).trans (if_pos (by omega)).symm))

/-- The kernel leaves the compression's rows, positions last, as the reference has them. -/
theorem final_cmp_last (c : Dev nD) : (dats m 0 c).arrAt 6 cfg0.N = val_main_v111 (F := Ideal) (X m c) (W m c) := by
  refine (dats m 0 c).arrAt_eq_of_covers 6 _ (by decide +kernel) fun t hf y => ?_
  have hb := lt_N t
  blk_simp
  rw [after0_6, (at_last t y).1, (ref_cmp _ _ _ _ _ _ 0 0).2]
  unfold_out out0_6
  canon_tiles x h
  all_goals simp (disch := decide) only [View.ld_unit_lit']
  all_goals
    pointwise [k0_pay9, k0_pay10, k0_pay11]
    exact (pay_row m c t _ _).trans (row_congr _ _)

/-- The kernel leaves the selected rows, positions last, as the reference has them. -/
theorem final_sel_last (c : Dev nD) : (dats m 0 c).arrAt 7 cfg0.N = val_main_v113 (F := Ideal) (X m c) (W m c) := by
  refine (dats m 0 c).arrAt_eq_of_covers 7 _ (by decide +kernel) fun t hf y => ?_
  have hb := lt_N t
  blk_simp
  rw [after0_7, (at_last t y).2.1, ref_sel_last]
  unfold_out out0_7
  canon_tiles x h
  all_goals simp (disch := decide) only [View.ld_unit_lit']
  · pointwise [k0_pay13]
    exact (values m c t _ _).1.trans ((row_congr _ _).trans (if_neg (by omega)).symm)
  · pointwise [k0_pay12]
    exact (keys m c t _ _).1.trans ((rope_congr _ _).trans (if_pos (by omega)).symm)

/-- The kernel leaves the window's rows, positions last, as the reference has them. -/
theorem final_win_last (c : Dev nD) : (dats m 0 c).arrAt 8 cfg0.N = val_main_v115 (F := Ideal) (X m c) (W m c) := by
  refine (dats m 0 c).arrAt_eq_of_covers 8 _ (by decide +kernel) fun t hf y => ?_
  have hb := lt_N t
  blk_simp
  rw [after0_8, (at_last t y).2.2, ref_win_last]
  unfold_out out0_8
  canon_tiles x h
  all_goals simp (disch := decide) only [View.ld_unit_lit']
  · pointwise [k0_pay15]
    exact (values m c t _ _).2.trans ((row_congr _ _).trans (if_neg (by omega)).symm)
  · pointwise [k0_pay14]
    exact (keys m c t _ _).2.trans ((rope_congr _ _).trans (if_pos (by omega)).symm)

/-- The reference runs to its end, leaves its arguments unchanged and has no counter. -/
theorem frame_reference : Cert.quiescent_KvProjReferenceIdeal (hKvProjReferenceIdeal := Cert.KvProjReferenceIdeal.Gen.facts) :=
  fun m ρ _ => (θ_run _ _ _).mono (fun r h => ⟨fun c => (h c).2.2.2.2.2, sem_eq_zero_of_no_sems (by decide) r.2⟩)
    (Cert.KvProjReferenceIdeal.Value.run m ρ)

/-- From equal arguments kernel and reference end with the same five arrays. -/
theorem algebraic : Cert.algebraic_KvProjIdeal_KvProjReferenceIdeal (hKvProjIdeal := Cert.KvProjIdeal.Gen.facts)
    (hKvProjReferenceIdeal := Cert.KvProjReferenceIdeal.Gen.facts) := by
  intro m g m' g' _ hagree
  refine ⟨_, _, _, _, _, (θ_run _ _ _).mono (fun r h c => ⟨(h c).1.trans (final_cmp m c), (h c).2.1.trans (final_kvx m c), (h c).2.2.1.trans (final_cmp_last m c),
      (h c).2.2.2.1.trans (final_sel_last m c), (h c).2.2.2.2.1.trans (final_win_last m c), (h c).2.2.2.2.2⟩) (Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.KvProjReferenceIdeal.Value.run m' g')⟩
  all_goals obtain ⟨a0, a1⟩ := hagree c
  · rw [val_main_v109_eq, a0, a1]
  · rw [val_main_v108_eq, a0, a1]
  · rw [val_main_v111_eq, a0, a1]
  · rw [val_main_v113_eq, a0, a1]
  · rw [val_main_v115_eq, a0, a1]

end Cert.KvProjIdeal.Kv

end
-- ==== Proof.lean ====
module

public import proofs.«01_k».proof.Defs
public import proofs.«01_k».proof.Proof.GlaRun
public import proofs.«01_k».proof.Proof.GlaValue
public import proofs.«01_k».proof.Proof.MoeValue
public import proofs.«01_k».proof.Proof.Gen.Kernel.Frame
public import proofs.«01_k».proof.Proof.Gen.ReferenceIdeal
public import proofs.«01_k».proof.Proof.Gen.Experts
public import proofs.«01_k».proof.Proof.Gen.Pre_tables
public import proofs.«01_k».proof.Proof.Gen.Ffn.Frame
public import proofs.«01_k».proof.Proof.FfnValue
public import proofs.«01_k».proof.Proof.Gen.OutProj.Frame
public import proofs.«01_k».proof.Proof.OutProjValue
public import proofs.«01_k».proof.Proof.Gen.InProj.Frame
public import proofs.«01_k».proof.Proof.InProjValue
public import proofs.«01_k».proof.Proof.Gen.Ple.Frame
public import proofs.«01_k».proof.Proof.PleValue
public import proofs.«01_k».proof.Proof.Gen.KvProj.Frame
public import proofs.«01_k».proof.Proof.KvValue
public import Idealize.ShloMosaic.Adequacy
public import Idealize.ShloMosaic.Init

@[expose] public section

noncomputable section

namespace Cert.Proof

open Idealize.ShloMosaic Idealize.SL.Sem

/-- The claim: of each call the frames, the idealization and the equality of values. -/
theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Ffn.Gen.facts, Cert.FfnIdeal.Gen.facts, Cert.FfnReferenceIdeal.Gen.facts,
    Cert.OutProj.Gen.facts, Cert.OutProjIdeal.Gen.facts, Cert.OutProjReferenceIdeal.Gen.facts,
    Cert.InProj.Gen.facts, Cert.InProjIdeal.Gen.facts, Cert.InProjReferenceIdeal.Gen.facts,
    Cert.Ple.Gen.facts, Cert.PleIdeal.Gen.facts, Cert.PleReferenceIdeal.Gen.facts,
    Cert.KvProj.Gen.facts, Cert.KvProjIdeal.Gen.facts, Cert.KvProjReferenceIdeal.Gen.facts,
    Cert.Gla.preFacts, Cert.Pre_tables.Gen.facts,
    fun m ρ _ => Cert.Kernel.Gen.frame m ρ,
    fun m ρ _ => Cert.KernelIdeal.Gen.frame m ρ,
    fun m ρ _ => Cert.KernelIdeal.Gen.frame m ρ,
    fun m ρ _ => Cert.Gla.frame_reference m ρ,
    fun m ρ _ => Cert.Gla.frame_reference m ρ,
    Cert.Moe.frame_experts,
    Cert.Moe.frame_ideal,
    fun m ρ _ => Cert.Moe.frame_reference m ρ,
    fun m ρ _ => Cert.Moe.frame_reference m ρ,
    fun m ρ _ => Cert.Ffn.Gen.frame m ρ,
    fun m ρ _ => Cert.FfnIdeal.Gen.frame m ρ,
    Cert.FfnIdeal.Lin.frame_reference,
    fun m ρ _ => Cert.OutProj.Gen.frame m ρ,
    fun m ρ _ => Cert.OutProjIdeal.Gen.frame m ρ,
    Cert.OutProjIdeal.Lin.frame_reference,
    fun m ρ _ => Cert.InProj.Gen.frame m ρ,
    fun m ρ _ => Cert.InProjIdeal.Gen.frame m ρ,
    Cert.InProjIdeal.Lin.frame_reference,
    fun m ρ _ => Cert.Ple.Gen.frame m ρ,
    fun m ρ _ => Cert.PleIdeal.Gen.frame m ρ,
    Cert.PleIdeal.Lin.frame_reference,
    fun m ρ _ => Cert.KvProj.Gen.frame m ρ,
    fun m ρ _ => Cert.KvProjIdeal.Gen.frame m ρ,
    Cert.KvProjIdeal.Kv.frame_reference,
    trivial,
    Cert.Gla.algebraic,
    trivial,
    Cert.Moe.algebraic,
    trivial,
    Cert.FfnIdeal.Lin.algebraic,
    trivial,
    Cert.OutProjIdeal.Lin.algebraic,
    trivial,
    Cert.InProjIdeal.Lin.algebraic,
    trivial,
    Cert.PleIdeal.Lin.algebraic,
    trivial,
    Cert.KvProjIdeal.Kv.algebraic⟩

end Cert.Proof

end
